-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decays [hPre_decays : Cert.Pre_decays.Facts] (m : (ℓ : Loc Cert.KernelIdeal.nD Cert.KernelIdeal.τ Cert.KernelIdeal.sig) → Buf (Elt Ideal) ℓ) : Prop :=
  ∀ c : Dev Cert.KernelIdeal.nD,
    (Cert.Pre_decays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decays [hPre_decays : Cert.Pre_decays.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleReferenceIdeal (m : (ℓ : Loc Cert.FfnSampleReferenceIdeal.nD Cert.FfnSampleReferenceIdeal.τ Cert.FfnSampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_decays [hKernelIdeal : Cert.KernelIdeal.Facts] [hPre_decays : Cert.Pre_decays.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decays m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_decays [hReferenceIdeal : Cert.ReferenceIdeal.Facts] [hPre_decays : Cert.Pre_decays.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decays m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9)
      ∧ r.2.mem ((c.tc : Thread Cert.FfnReferenceIdeal.nD Cert.FfnReferenceIdeal.τ).loc Cert.FfnReferenceIdeal.main_arg10) = m ((c.tc : Thread Cert.FfnReferenceIdeal.nD Cert.FfnReferenceIdeal.τ).loc Cert.FfnReferenceIdeal.main_arg10))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5)
      ∧ r.2.mem ((c.tc : Thread Cert.FfnSample.nD Cert.FfnSample.τ).loc Cert.FfnSample.main_arg6) = m ((c.tc : Thread Cert.FfnSample.nD Cert.FfnSample.τ).loc Cert.FfnSample.main_arg6)
      ∧ r.2.mem ((c.tc : Thread Cert.FfnSample.nD Cert.FfnSample.τ).loc Cert.FfnSample.main_arg7) = m ((c.tc : Thread Cert.FfnSample.nD Cert.FfnSample.τ).loc Cert.FfnSample.main_arg7)
      ∧ r.2.mem ((c.tc : Thread Cert.FfnSample.nD Cert.FfnSample.τ).loc Cert.FfnSample.main_arg8) = m ((c.tc : Thread Cert.FfnSample.nD Cert.FfnSample.τ).loc Cert.FfnSample.main_arg8)
      ∧ r.2.mem ((c.tc : Thread Cert.FfnSample.nD Cert.FfnSample.τ).loc Cert.FfnSample.main_arg9) = m ((c.tc : Thread Cert.FfnSample.nD Cert.FfnSample.τ).loc Cert.FfnSample.main_arg9)
      ∧ r.2.mem ((c.tc : Thread Cert.FfnSample.nD Cert.FfnSample.τ).loc Cert.FfnSample.main_arg10) = m ((c.tc : Thread Cert.FfnSample.nD Cert.FfnSample.τ).loc Cert.FfnSample.main_arg10))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
      ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
      ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7)
      ∧ r.2.mem ((c.tc : Thread Cert.FfnSampleIdeal.nD Cert.FfnSampleIdeal.τ).loc Cert.FfnSampleIdeal.main_arg8) = m ((c.tc : Thread Cert.FfnSampleIdeal.nD Cert.FfnSampleIdeal.τ).loc Cert.FfnSampleIdeal.main_arg8)
      ∧ r.2.mem ((c.tc : Thread Cert.FfnSampleIdeal.nD Cert.FfnSampleIdeal.τ).loc Cert.FfnSampleIdeal.main_arg9) = m ((c.tc : Thread Cert.FfnSampleIdeal.nD Cert.FfnSampleIdeal.τ).loc Cert.FfnSampleIdeal.main_arg9)
      ∧ r.2.mem ((c.tc : Thread Cert.FfnSampleIdeal.nD Cert.FfnSampleIdeal.τ).loc Cert.FfnSampleIdeal.main_arg10) = m ((c.tc : Thread Cert.FfnSampleIdeal.nD Cert.FfnSampleIdeal.τ).loc Cert.FfnSampleIdeal.main_arg10))
      ∧ r.2.sem = fun _ => 0)

def quiescent_FfnSampleReferenceIdeal [hFfnSampleReferenceIdeal : Cert.FfnSampleReferenceIdeal.Facts] : Prop :=
  ∀ (m : (ℓ : Loc Cert.FfnSampleReferenceIdeal.nD Cert.FfnSampleReferenceIdeal.τ Cert.FfnSampleReferenceIdeal.sig) → Buf (Elt Ideal) ℓ) (g : Dev Cert.FfnSampleReferenceIdeal.nD → PrngReg), Pre_FfnSampleReferenceIdeal m →
    θ_run (Cert.FfnSampleReferenceIdeal.defs (F := Ideal)) (onTc (τ := Cert.FfnSampleReferenceIdeal.τ) (Cert.FfnSampleReferenceIdeal.main (F := Ideal))) ⟨m, fun _ => 0, g⟩ (fun r => (∀ c : Dev Cert.FfnSampleReferenceIdeal.nD,
      r.2.mem ((c.tc : Thread Cert.FfnSampleReferenceIdeal.nD Cert.FfnSampleReferenceIdeal.τ).loc Cert.FfnSampleReferenceIdeal.main_arg0) = m ((c.tc : Thread Cert.FfnSampleReferenceIdeal.nD Cert.FfnSampleReferenceIdeal.τ).loc Cert.FfnSampleReferenceIdeal.main_arg0)
      ∧ r.2.mem ((c.tc : Thread Cert.FfnSampleReferenceIdeal.nD Cert.FfnSampleReferenceIdeal.τ).loc Cert.FfnSampleReferenceIdeal.main_arg1) = m ((c.tc : Thread Cert.FfnSampleReferenceIdeal.nD Cert.FfnSampleReferenceIdeal.τ).loc Cert.FfnSampleReferenceIdeal.main_arg1)
      ∧ r.2.mem ((c.tc : Thread Cert.FfnSampleReferenceIdeal.nD Cert.FfnSampleReferenceIdeal.τ).loc Cert.FfnSampleReferenceIdeal.main_arg2) = m ((c.tc : Thread Cert.FfnSampleReferenceIdeal.nD Cert.FfnSampleReferenceIdeal.τ).loc Cert.FfnSampleReferenceIdeal.main_arg2)
      ∧ r.2.mem ((c.tc : Thread Cert.FfnSampleReferenceIdeal.nD Cert.FfnSampleReferenceIdeal.τ).loc Cert.FfnSampleReferenceIdeal.main_arg3) = m ((c.tc : Thread Cert.FfnSampleReferenceIdeal.nD Cert.FfnSampleReferenceIdeal.τ).loc Cert.FfnSampleReferenceIdeal.main_arg3)
      ∧ r.2.mem ((c.tc : Thread Cert.FfnSampleReferenceIdeal.nD Cert.FfnSampleReferenceIdeal.τ).loc Cert.FfnSampleReferenceIdeal.main_arg4) = m ((c.tc : Thread Cert.FfnSampleReferenceIdeal.nD Cert.FfnSampleReferenceIdeal.τ).loc Cert.FfnSampleReferenceIdeal.main_arg4)
      ∧ r.2.mem ((c.tc : Thread Cert.FfnSampleReferenceIdeal.nD Cert.FfnSampleReferenceIdeal.τ).loc Cert.FfnSampleReferenceIdeal.main_arg5) = m ((c.tc : Thread Cert.FfnSampleReferenceIdeal.nD Cert.FfnSampleReferenceIdeal.τ).loc Cert.FfnSampleReferenceIdeal.main_arg5)
      ∧ r.2.mem ((c.tc : Thread Cert.FfnSampleReferenceIdeal.nD Cert.FfnSampleReferenceIdeal.τ).loc Cert.FfnSampleReferenceIdeal.main_arg6) = m ((c.tc : Thread Cert.FfnSampleReferenceIdeal.nD Cert.FfnSampleReferenceIdeal.τ).loc Cert.FfnSampleReferenceIdeal.main_arg6)
      ∧ r.2.mem ((c.tc : Thread Cert.FfnSampleReferenceIdeal.nD Cert.FfnSampleReferenceIdeal.τ).loc Cert.FfnSampleReferenceIdeal.main_arg7) = m ((c.tc : Thread Cert.FfnSampleReferenceIdeal.nD Cert.FfnSampleReferenceIdeal.τ).loc Cert.FfnSampleReferenceIdeal.main_arg7)
      ∧ r.2.mem ((c.tc : Thread Cert.FfnSampleReferenceIdeal.nD Cert.FfnSampleReferenceIdeal.τ).loc Cert.FfnSampleReferenceIdeal.main_arg8) = m ((c.tc : Thread Cert.FfnSampleReferenceIdeal.nD Cert.FfnSampleReferenceIdeal.τ).loc Cert.FfnSampleReferenceIdeal.main_arg8)
      ∧ r.2.mem ((c.tc : Thread Cert.FfnSampleReferenceIdeal.nD Cert.FfnSampleReferenceIdeal.τ).loc Cert.FfnSampleReferenceIdeal.main_arg9) = m ((c.tc : Thread Cert.FfnSampleReferenceIdeal.nD Cert.FfnSampleReferenceIdeal.τ).loc Cert.FfnSampleReferenceIdeal.main_arg9)
      ∧ r.2.mem ((c.tc : Thread Cert.FfnSampleReferenceIdeal.nD Cert.FfnSampleReferenceIdeal.τ).loc Cert.FfnSampleReferenceIdeal.main_arg10) = m ((c.tc : Thread Cert.FfnSampleReferenceIdeal.nD Cert.FfnSampleReferenceIdeal.τ).loc Cert.FfnSampleReferenceIdeal.main_arg10))
      ∧ r.2.sem = fun _ => 0)

def preserves_Kernel_KernelIdeal : Prop :=
  IdealRules.named_const.Statement Cert.KernelIdeal.κ "decay_rate" .f32 0xC138AA3B#32 (((-8) * (Real.log 2)⁻¹ : ℝ) : EReal)
  ∧ IdealRules.named_const.Statement Cert.KernelIdeal.κ "gelu_c3" .f32 0xBDD2D3E8#32 (((12003091 / 268435456) * (((-2) * (6693141 / 8388608)) * (Real.log 2)⁻¹) : ℝ) : EReal)
  ∧ IdealRules.named_const.Statement Cert.KernelIdeal.κ "gelu_c1" .f32 0xC0135761#32 ((((-2) * (6693141 / 8388608)) * (Real.log 2)⁻¹ : ℝ) : EReal)

def algebraic_KernelIdeal_ReferenceIdeal_pre_decays [hKernelIdeal : Cert.KernelIdeal.Facts] [hReferenceIdeal : Cert.ReferenceIdeal.Facts] [hPre_decays : Cert.Pre_decays.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decays m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v33_0)) (v1 : (c : Dev Cert.InProjIdeal.nD) → Buf (Elt Ideal) ((c.tc : Thread Cert.InProjIdeal.nD Cert.InProjIdeal.τ).loc Cert.InProjIdeal.main_v33_1)) (v2 : (c : Dev Cert.InProjIdeal.nD) → Buf (Elt Ideal) ((c.tc : Thread Cert.InProjIdeal.nD Cert.InProjIdeal.τ).loc Cert.InProjIdeal.main_v33_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v33_0) = v0 c
          ∧ r.2.mem ((c.tc : Thread Cert.InProjIdeal.nD Cert.InProjIdeal.τ).loc Cert.InProjIdeal.main_v33_1) = v1 c
          ∧ r.2.mem ((c.tc : Thread Cert.InProjIdeal.nD Cert.InProjIdeal.τ).loc Cert.InProjIdeal.main_v33_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v31) = v0 c
          ∧ r.2.mem ((c.tc : Thread Cert.InProjReferenceIdeal.nD Cert.InProjReferenceIdeal.τ).loc Cert.InProjReferenceIdeal.main_v32) = v1 c
          ∧ r.2.mem ((c.tc : Thread Cert.InProjReferenceIdeal.nD Cert.InProjReferenceIdeal.τ).loc Cert.InProjReferenceIdeal.main_v30) = v2 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3))

def preserves_Ffn_FfnIdeal : Prop :=
  IdealRules.named_const.Statement Cert.FfnIdeal.κ "gelu_c3" .f32 0xBDD2D3E8#32 (((12003091 / 268435456) * (((-2) * (6693141 / 8388608)) * (Real.log 2)⁻¹) : ℝ) : EReal)
  ∧ IdealRules.named_const.Statement Cert.FfnIdeal.κ "gelu_c1" .f32 0xC0135761#32 ((((-2) * (6693141 / 8388608)) * (Real.log 2)⁻¹ : ℝ) : EReal)

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)
      ∧ m' ((c.tc : Thread Cert.FfnReferenceIdeal.nD Cert.FfnReferenceIdeal.τ).loc Cert.FfnReferenceIdeal.main_arg9) = m ((c.tc : Thread Cert.FfnIdeal.nD Cert.FfnIdeal.τ).loc Cert.FfnIdeal.main_arg9)
      ∧ m' ((c.tc : Thread Cert.FfnReferenceIdeal.nD Cert.FfnReferenceIdeal.τ).loc Cert.FfnReferenceIdeal.main_arg10) = m ((c.tc : Thread Cert.FfnIdeal.nD Cert.FfnIdeal.τ).loc Cert.FfnIdeal.main_arg10)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v93) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8)
          ∧ r.2.mem ((c.tc : Thread Cert.FfnReferenceIdeal.nD Cert.FfnReferenceIdeal.τ).loc Cert.FfnReferenceIdeal.main_arg9) = m' ((c.tc : Thread Cert.FfnReferenceIdeal.nD Cert.FfnReferenceIdeal.τ).loc Cert.FfnReferenceIdeal.main_arg9)
          ∧ r.2.mem ((c.tc : Thread Cert.FfnReferenceIdeal.nD Cert.FfnReferenceIdeal.τ).loc Cert.FfnReferenceIdeal.main_arg10) = m' ((c.tc : Thread Cert.FfnReferenceIdeal.nD Cert.FfnReferenceIdeal.τ).loc Cert.FfnReferenceIdeal.main_arg10))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v56) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_FfnSample_FfnSampleIdeal : Prop :=
  IdealRules.named_const.Statement Cert.FfnSampleIdeal.κ "gelu_c3" .f32 0xBDD2D3E8#32 (((12003091 / 268435456) * (((-2) * (6693141 / 8388608)) * (Real.log 2)⁻¹) : ℝ) : EReal)
  ∧ IdealRules.named_const.Statement Cert.FfnSampleIdeal.κ "gelu_c1" .f32 0xC0135761#32 ((((-2) * (6693141 / 8388608)) * (Real.log 2)⁻¹ : ℝ) : EReal)

def algebraic_FfnSampleIdeal_FfnSampleReferenceIdeal [hFfnSampleIdeal : Cert.FfnSampleIdeal.Facts] [hFfnSampleReferenceIdeal : Cert.FfnSampleReferenceIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleReferenceIdeal.nD Cert.FfnSampleReferenceIdeal.τ Cert.FfnSampleReferenceIdeal.sig) → Buf (Elt Ideal) ℓ) (g' : Dev Cert.FfnSampleReferenceIdeal.nD → PrngReg), Pre_FfnSampleIdeal m →
    (∀ c : Dev Cert.FfnSampleIdeal.nD,
      m' ((c.tc : Thread Cert.FfnSampleReferenceIdeal.nD Cert.FfnSampleReferenceIdeal.τ).loc Cert.FfnSampleReferenceIdeal.main_arg0) = m ((c.tc : Thread Cert.FfnSampleIdeal.nD Cert.FfnSampleIdeal.τ).loc Cert.FfnSampleIdeal.main_arg0)
      ∧ m' ((c.tc : Thread Cert.FfnSampleReferenceIdeal.nD Cert.FfnSampleReferenceIdeal.τ).loc Cert.FfnSampleReferenceIdeal.main_arg1) = m ((c.tc : Thread Cert.FfnSampleIdeal.nD Cert.FfnSampleIdeal.τ).loc Cert.FfnSampleIdeal.main_arg1)
      ∧ m' ((c.tc : Thread Cert.FfnSampleReferenceIdeal.nD Cert.FfnSampleReferenceIdeal.τ).loc Cert.FfnSampleReferenceIdeal.main_arg2) = m ((c.tc : Thread Cert.FfnSampleIdeal.nD Cert.FfnSampleIdeal.τ).loc Cert.FfnSampleIdeal.main_arg2)
      ∧ m' ((c.tc : Thread Cert.FfnSampleReferenceIdeal.nD Cert.FfnSampleReferenceIdeal.τ).loc Cert.FfnSampleReferenceIdeal.main_arg3) = m ((c.tc : Thread Cert.FfnSampleIdeal.nD Cert.FfnSampleIdeal.τ).loc Cert.FfnSampleIdeal.main_arg3)
      ∧ m' ((c.tc : Thread Cert.FfnSampleReferenceIdeal.nD Cert.FfnSampleReferenceIdeal.τ).loc Cert.FfnSampleReferenceIdeal.main_arg4) = m ((c.tc : Thread Cert.FfnSampleIdeal.nD Cert.FfnSampleIdeal.τ).loc Cert.FfnSampleIdeal.main_arg4)
      ∧ m' ((c.tc : Thread Cert.FfnSampleReferenceIdeal.nD Cert.FfnSampleReferenceIdeal.τ).loc Cert.FfnSampleReferenceIdeal.main_arg5) = m ((c.tc : Thread Cert.FfnSampleIdeal.nD Cert.FfnSampleIdeal.τ).loc Cert.FfnSampleIdeal.main_arg5)
      ∧ m' ((c.tc : Thread Cert.FfnSampleReferenceIdeal.nD Cert.FfnSampleReferenceIdeal.τ).loc Cert.FfnSampleReferenceIdeal.main_arg6) = m ((c.tc : Thread Cert.FfnSampleIdeal.nD Cert.FfnSampleIdeal.τ).loc Cert.FfnSampleIdeal.main_arg6)
      ∧ m' ((c.tc : Thread Cert.FfnSampleReferenceIdeal.nD Cert.FfnSampleReferenceIdeal.τ).loc Cert.FfnSampleReferenceIdeal.main_arg7) = m ((c.tc : Thread Cert.FfnSampleIdeal.nD Cert.FfnSampleIdeal.τ).loc Cert.FfnSampleIdeal.main_arg7)
      ∧ m' ((c.tc : Thread Cert.FfnSampleReferenceIdeal.nD Cert.FfnSampleReferenceIdeal.τ).loc Cert.FfnSampleReferenceIdeal.main_arg8) = m ((c.tc : Thread Cert.FfnSampleIdeal.nD Cert.FfnSampleIdeal.τ).loc Cert.FfnSampleIdeal.main_arg8)
      ∧ m' ((c.tc : Thread Cert.FfnSampleReferenceIdeal.nD Cert.FfnSampleReferenceIdeal.τ).loc Cert.FfnSampleReferenceIdeal.main_arg9) = m ((c.tc : Thread Cert.FfnSampleIdeal.nD Cert.FfnSampleIdeal.τ).loc Cert.FfnSampleIdeal.main_arg9)
      ∧ m' ((c.tc : Thread Cert.FfnSampleReferenceIdeal.nD Cert.FfnSampleReferenceIdeal.τ).loc Cert.FfnSampleReferenceIdeal.main_arg10) = m ((c.tc : Thread Cert.FfnSampleIdeal.nD Cert.FfnSampleIdeal.τ).loc Cert.FfnSampleIdeal.main_arg10)) →
    ∃ (v0 : (c : Dev Cert.FfnSampleIdeal.nD) → Buf (Elt Ideal) ((c.tc : Thread Cert.FfnSampleIdeal.nD Cert.FfnSampleIdeal.τ).loc Cert.FfnSampleIdeal.main_v8)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v8) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
          ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
          ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7)
          ∧ r.2.mem ((c.tc : Thread Cert.FfnSampleIdeal.nD Cert.FfnSampleIdeal.τ).loc Cert.FfnSampleIdeal.main_arg8) = m ((c.tc : Thread Cert.FfnSampleIdeal.nD Cert.FfnSampleIdeal.τ).loc Cert.FfnSampleIdeal.main_arg8)
          ∧ r.2.mem ((c.tc : Thread Cert.FfnSampleIdeal.nD Cert.FfnSampleIdeal.τ).loc Cert.FfnSampleIdeal.main_arg9) = m ((c.tc : Thread Cert.FfnSampleIdeal.nD Cert.FfnSampleIdeal.τ).loc Cert.FfnSampleIdeal.main_arg9)
          ∧ r.2.mem ((c.tc : Thread Cert.FfnSampleIdeal.nD Cert.FfnSampleIdeal.τ).loc Cert.FfnSampleIdeal.main_arg10) = m ((c.tc : Thread Cert.FfnSampleIdeal.nD Cert.FfnSampleIdeal.τ).loc Cert.FfnSampleIdeal.main_arg10))
      ∧ θ_run (Cert.FfnSampleReferenceIdeal.defs (F := Ideal)) (onTc (τ := Cert.FfnSampleReferenceIdeal.τ) (Cert.FfnSampleReferenceIdeal.main (F := Ideal))) ⟨m', fun _ => 0, g'⟩ (fun r => ∀ c : Dev Cert.FfnSampleReferenceIdeal.nD,
          r.2.mem ((c.tc : Thread Cert.FfnSampleReferenceIdeal.nD Cert.FfnSampleReferenceIdeal.τ).loc Cert.FfnSampleReferenceIdeal.main_v93) = v0 c
          ∧ r.2.mem ((c.tc : Thread Cert.FfnSampleReferenceIdeal.nD Cert.FfnSampleReferenceIdeal.τ).loc Cert.FfnSampleReferenceIdeal.main_arg0) = m' ((c.tc : Thread Cert.FfnSampleReferenceIdeal.nD Cert.FfnSampleReferenceIdeal.τ).loc Cert.FfnSampleReferenceIdeal.main_arg0)
          ∧ r.2.mem ((c.tc : Thread Cert.FfnSampleReferenceIdeal.nD Cert.FfnSampleReferenceIdeal.τ).loc Cert.FfnSampleReferenceIdeal.main_arg1) = m' ((c.tc : Thread Cert.FfnSampleReferenceIdeal.nD Cert.FfnSampleReferenceIdeal.τ).loc Cert.FfnSampleReferenceIdeal.main_arg1)
          ∧ r.2.mem ((c.tc : Thread Cert.FfnSampleReferenceIdeal.nD Cert.FfnSampleReferenceIdeal.τ).loc Cert.FfnSampleReferenceIdeal.main_arg2) = m' ((c.tc : Thread Cert.FfnSampleReferenceIdeal.nD Cert.FfnSampleReferenceIdeal.τ).loc Cert.FfnSampleReferenceIdeal.main_arg2)
          ∧ r.2.mem ((c.tc : Thread Cert.FfnSampleReferenceIdeal.nD Cert.FfnSampleReferenceIdeal.τ).loc Cert.FfnSampleReferenceIdeal.main_arg3) = m' ((c.tc : Thread Cert.FfnSampleReferenceIdeal.nD Cert.FfnSampleReferenceIdeal.τ).loc Cert.FfnSampleReferenceIdeal.main_arg3)
          ∧ r.2.mem ((c.tc : Thread Cert.FfnSampleReferenceIdeal.nD Cert.FfnSampleReferenceIdeal.τ).loc Cert.FfnSampleReferenceIdeal.main_arg4) = m' ((c.tc : Thread Cert.FfnSampleReferenceIdeal.nD Cert.FfnSampleReferenceIdeal.τ).loc Cert.FfnSampleReferenceIdeal.main_arg4)
          ∧ r.2.mem ((c.tc : Thread Cert.FfnSampleReferenceIdeal.nD Cert.FfnSampleReferenceIdeal.τ).loc Cert.FfnSampleReferenceIdeal.main_arg5) = m' ((c.tc : Thread Cert.FfnSampleReferenceIdeal.nD Cert.FfnSampleReferenceIdeal.τ).loc Cert.FfnSampleReferenceIdeal.main_arg5)
          ∧ r.2.mem ((c.tc : Thread Cert.FfnSampleReferenceIdeal.nD Cert.FfnSampleReferenceIdeal.τ).loc Cert.FfnSampleReferenceIdeal.main_arg6) = m' ((c.tc : Thread Cert.FfnSampleReferenceIdeal.nD Cert.FfnSampleReferenceIdeal.τ).loc Cert.FfnSampleReferenceIdeal.main_arg6)
          ∧ r.2.mem ((c.tc : Thread Cert.FfnSampleReferenceIdeal.nD Cert.FfnSampleReferenceIdeal.τ).loc Cert.FfnSampleReferenceIdeal.main_arg7) = m' ((c.tc : Thread Cert.FfnSampleReferenceIdeal.nD Cert.FfnSampleReferenceIdeal.τ).loc Cert.FfnSampleReferenceIdeal.main_arg7)
          ∧ r.2.mem ((c.tc : Thread Cert.FfnSampleReferenceIdeal.nD Cert.FfnSampleReferenceIdeal.τ).loc Cert.FfnSampleReferenceIdeal.main_arg8) = m' ((c.tc : Thread Cert.FfnSampleReferenceIdeal.nD Cert.FfnSampleReferenceIdeal.τ).loc Cert.FfnSampleReferenceIdeal.main_arg8)
          ∧ r.2.mem ((c.tc : Thread Cert.FfnSampleReferenceIdeal.nD Cert.FfnSampleReferenceIdeal.τ).loc Cert.FfnSampleReferenceIdeal.main_arg9) = m' ((c.tc : Thread Cert.FfnSampleReferenceIdeal.nD Cert.FfnSampleReferenceIdeal.τ).loc Cert.FfnSampleReferenceIdeal.main_arg9)
          ∧ r.2.mem ((c.tc : Thread Cert.FfnSampleReferenceIdeal.nD Cert.FfnSampleReferenceIdeal.τ).loc Cert.FfnSampleReferenceIdeal.main_arg10) = m' ((c.tc : Thread Cert.FfnSampleReferenceIdeal.nD Cert.FfnSampleReferenceIdeal.τ).loc Cert.FfnSampleReferenceIdeal.main_arg10))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hFfnSample : Cert.FfnSample.Facts) (hFfnSampleIdeal : Cert.FfnSampleIdeal.Facts) (hFfnSampleReferenceIdeal : Cert.FfnSampleReferenceIdeal.Facts) (hPre_decays : Cert.Pre_decays.Facts),
    quiescent_Kernel (hKernel := hKernel)
    ∧ quiescent_KernelIdeal (hKernelIdeal := hKernelIdeal)
    ∧ quiescent_KernelIdeal_pre_decays (hKernelIdeal := hKernelIdeal) (hPre_decays := hPre_decays)
    ∧ quiescent_ReferenceIdeal (hReferenceIdeal := hReferenceIdeal)
    ∧ quiescent_ReferenceIdeal_pre_decays (hReferenceIdeal := hReferenceIdeal) (hPre_decays := hPre_decays)
    ∧ quiescent_InProj (hInProj := hInProj)
    ∧ quiescent_InProjIdeal (hInProjIdeal := hInProjIdeal)
    ∧ quiescent_InProjReferenceIdeal (hInProjReferenceIdeal := hInProjReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_FfnSample (hFfnSample := hFfnSample)
    ∧ quiescent_FfnSampleIdeal (hFfnSampleIdeal := hFfnSampleIdeal)
    ∧ quiescent_FfnSampleReferenceIdeal (hFfnSampleReferenceIdeal := hFfnSampleReferenceIdeal)
    ∧ preserves_Kernel_KernelIdeal
    ∧ algebraic_KernelIdeal_ReferenceIdeal_pre_decays (hKernelIdeal := hKernelIdeal) (hReferenceIdeal := hReferenceIdeal) (hPre_decays := hPre_decays)
    ∧ preserves_InProj_InProjIdeal
    ∧ algebraic_InProjIdeal_InProjReferenceIdeal (hInProjIdeal := hInProjIdeal) (hInProjReferenceIdeal := hInProjReferenceIdeal)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
    ∧ preserves_FfnSample_FfnSampleIdeal
    ∧ algebraic_FfnSampleIdeal_FfnSampleReferenceIdeal (hFfnSampleIdeal := hFfnSampleIdeal) (hFfnSampleReferenceIdeal := hFfnSampleReferenceIdeal)
-- ==== Pre_decays.lean ====
abbrev S65536x8704 : Shape := ⟨2, ![65536, 8704]⟩
abbrev S4x512 : Shape := ⟨2, ![4, 512]⟩
abbrev S512 : Shape := ⟨1, ![512]⟩
abbrev S2x2x4x128x128 : Shape := ⟨5, ![2, 2, 4, 128, 128]⟩
abbrev S2x2x512 : Shape := ⟨3, ![2, 2, 512]⟩
abbrev S2x512 : Shape := ⟨2, ![2, 512]⟩
abbrev S65536x512 : Shape := ⟨2, ![65536, 512]⟩
abbrev S16x4096x512 : Shape := ⟨3, ![16, 4096, 512]⟩
abbrev S_ : Shape := ⟨0, ![]⟩
abbrev S16x4099x512 : Shape := ⟨3, ![16, 4099, 512]⟩
abbrev S1x512 : Shape := ⟨2, ![1, 512]⟩
abbrev S1x1x512 : Shape := ⟨3, ![1, 1, 512]⟩
abbrev S1x2x4x128x128 : Shape := ⟨5, ![1, 2, 4, 128, 128]⟩
abbrev S2x4x128x128 : Shape := ⟨4, ![2, 4, 128, 128]⟩
abbrev S1x2x512 : Shape := ⟨3, ![1, 2, 512]⟩
abbrev S16x4096x4x128 : Shape := ⟨4, ![16, 4096, 4, 128]⟩
abbrev S4x2x128x16x4096 : Shape := ⟨5, ![4, 2, 128, 16, 4096]⟩
abbrev S2x16x4096x4x128 : Shape := ⟨5, ![2, 16, 4096, 4, 128]⟩
abbrev S2x16x4096x512 : Shape := ⟨4, ![2, 16, 4096, 512]⟩
abbrev S2x1x1x512 : Shape := ⟨4, ![2, 1, 1, 512]⟩
abbrev S1x16x4096x512 : Shape := ⟨4, ![1, 16, 4096, 512]⟩

class Facts : Prop where
  slices_S65536x8704_S65536x512_0_4096 : S65536x8704.Slices ![0, 4096] S65536x512
  bitsLt_bf16_f32 : FTy.bits .bf16 < FTy.bits .f32
  shapeCasts_S65536x512_S16x4096x512 : S65536x512.ShapeCasts S16x4096x512
  pads_S16x4096x512_S16x4099x512_000_120_000 : S16x4096x512.Pads (![0, 1, 0] : Fin 3 → Nat) ![0, 2, 0] ![0, 0, 0] S16x4099x512
  h_S_ : 0 < S_.numel
  slices_S4x512_S1x512_0_0 : S4x512.Slices ![0, 0] S1x512
  shapeCasts_S1x512_S512 : S1x512.ShapeCasts S512
  slices_S16x4099x512_S16x4096x512_0_0_0 : S16x4099x512.Slices ![0, 0, 0] S16x4096x512
  bcast_S512_S1x1x512_2 : S512.BroadcastsInDim S1x1x512 (![2] : Fin 1 → Fin S1x1x512.rank)
  bcast_S1x1x512_S16x4096x512_0_1_2 : S1x1x512.BroadcastsInDim S16x4096x512 (![0, 1, 2] : Fin 3 → Fin S16x4096x512.rank)
  slices_S4x512_S1x512_1_0 : S4x512.Slices ![1, 0] S1x512
  slices_S16x4099x512_S16x4096x512_0_1_0 : S16x4099x512.Slices ![0, 1, 0] S16x4096x512
  slices_S4x512_S1x512_2_0 : S4x512.Slices ![2, 0] S1x512
  slices_S16x4099x512_S16x4096x512_0_2_0 : S16x4099x512.Slices ![0, 2, 0] S16x4096x512
  slices_S4x512_S1x512_3_0 : S4x512.Slices ![3, 0] S1x512
  slices_S16x4099x512_S16x4096x512_0_3_0 : S16x4099x512.Slices ![0, 3, 0] S16x4096x512
  slices_S2x2x4x128x128_S1x2x4x128x128_0_0_0_0_0 : S2x2x4x128x128.Slices ![0, 0, 0, 0, 0] S1x2x4x128x128
  shapeCasts_S1x2x4x128x128_S2x4x128x128 : S1x2x4x128x128.ShapeCasts S2x4x128x128
  slices_S2x2x512_S1x2x512_0_0_0 : S2x2x512.Slices ![0, 0, 0] S1x2x512
  shapeCasts_S1x2x512_S2x512 : S1x2x512.ShapeCasts S2x512
  shapeCasts_S16x4096x512_S16x4096x4x128 : S16x4096x512.ShapeCasts S16x4096x4x128
  transposes_S4x2x128x16x4096_S2x16x4096x4x128_1_3_4_0_2 : S4x2x128x16x4096.Transposes [1, 3, 4, 0, 2] S2x16x4096x4x128
  shapeCasts_S2x16x4096x4x128_S2x16x4096x512 : S2x16x4096x4x128.ShapeCasts S2x16x4096x512
  bcast_S2x512_S2x1x1x512_0_3 : S2x512.BroadcastsInDim S2x1x1x512 (![0, 3] : Fin 2 → Fin S2x1x1x512.rank)
  bcast_S2x1x1x512_S2x16x4096x512_0_1_2_3 : S2x1x1x512.BroadcastsInDim S2x16x4096x512 (![0, 1, 2, 3] : Fin 4 → Fin S2x16x4096x512.rank)
  bcast_S_S2x16x4096x512 : S_.BroadcastsInDim S2x16x4096x512 (![] : Fin 0 → Fin S2x16x4096x512.rank)
  slices_S2x512_S1x512_0_0 : S2x512.Slices ![0, 0] S1x512
  slices_S2x16x4096x512_S1x16x4096x512_0_0_0_0 : S2x16x4096x512.Slices ![0, 0, 0, 0] S1x16x4096x512
  shapeCasts_S1x16x4096x512_S16x4096x512 : S1x16x4096x512.ShapeCasts S16x4096x512
  bcast_S_S16x4096x512 : S_.BroadcastsInDim S16x4096x512 (![] : Fin 0 → Fin S16x4096x512.rank)
  bcast_S_S512 : S_.BroadcastsInDim S512 (![] : Fin 0 → Fin S512.rank)
  reducesTo_S16x4096x512_S_d0_1_2 : S16x4096x512.ReducesTo [0, 1, 2] S_
  slices_S2x2x4x128x128_S1x2x4x128x128_1_0_0_0_0 : S2x2x4x128x128.Slices ![1, 0, 0, 0, 0] S1x2x4x128x128
  slices_S2x2x512_S1x2x512_1_0_0 : S2x2x512.Slices ![1, 0, 0] S1x2x512
  slices_S2x512_S1x512_1_0 : S2x512.Slices ![1, 0] S1x512
  dot_S2x4x128x128_S16x4096x4x128_S4x2x128x16x4096_2_3_03_01_1_2_wf : DotDims.WF S2x4x128x128 S16x4096x4x128 S4x2x128x16x4096 [2] [3] [0, 3] [0, 1] [1] [2]

variable [Facts]

def dot_S2x4x128x128_S16x4096x4x128_S4x2x128x16x4096_2_3_03_01_1_2 : DotDims S2x4x128x128 S16x4096x4x128 S4x2x128x16x4096 where
  lhsContracting := [2]
  rhsContracting := [3]
  lhsNonContracting := [0, 3]
  rhsNonContracting := [0, 1]
  lhsBatch := [1]
  rhsBatch := [2]
  wf := dot_S2x4x128x128_S16x4096x4x128_S4x2x128x16x4096_2_3_03_01_1_2_wf
def fn_pad {F : FTy → Type} [FloatOps F] (arg0 : FVec F S16x4096x512 .f32) (arg1 : IVec S_ 32) : FVec F S16x4099x512 .f32 :=
  let v0 : FVec F S_ .f32 := sitofp .f32 arg1
  let v1 : FVec F S16x4099x512 .f32 := (fun x v => pad S16x4099x512 ![0, 1, 0] ![0, 2, 0] ![0, 0, 0] x v pads_S16x4096x512_S16x4099x512_000_120_000 h_S_) arg0 v0
  v1

def fn_softplus {F : FTy → Type} [FloatOps F] (arg0 : FVec F S512 .f32) : FVec F S512 .f32 :=
  let cst : FVec F S_ .f32 := constant S_ .f32 0x00000000#32
  let v0 : FVec F S512 .f32 := broadcastInDim S512 ![] bcast_S_S512 cst
  let v1 : FVec F S512 .f32 := maximumf arg0 v0
  let v2 : FVec F S512 .f32 := broadcastInDim S512 ![] bcast_S_S512 cst
  let v3 : FVec F S512 .f32 := subf arg0 v2
  let v4 : IVec S512 1 := cmpf .une v3 v3
  let v5 : FVec F S512 .f32 := broadcastInDim S512 ![] bcast_S_S512 cst
  let v6 : FVec F S512 .f32 := addf arg0 v5
  let v7 : FVec F S512 .f32 := Host.absf v3
  let v8 : FVec F S512 .f32 := Host.negf v7
  let v9 : FVec F S512 .f32 := Host.exp v8
  let v10 : FVec F S512 .f32 := Host.log1p v9
  let v11 : FVec F S512 .f32 := addf v1 v10
  let v12 : FVec F S512 .f32 := select v4 v6 v11
  v12

def fn_part4 {F : FTy → Type} [FloatOps F] (main_arg5 : FVec F S2x512 .f32) (main_v69 : IVec S_ 1) (main_v84 : FVec F S2x16x4096x512 .f32) (main_v85 : FVec F S2x16x4096x512 .f32) : IVec S_ 1 :=
  let main_v86 : FVec F S2x16x4096x512 .f32 := Host.divf main_v85 main_v84
  let main_v87 : FVec F S1x512 .f32 := (extractStridedSlice S1x512 ![1, 0] · slices_S2x512_S1x512_1_0) main_arg5
  let main_v88 : FVec F S512 .f32 := shapeCast S512 main_v87 shapeCasts_S1x512_S512
  let main_v89 : FVec F S1x16x4096x512 .f32 := (extractStridedSlice S1x16x4096x512 ![0, 0, 0, 0] · slices_S2x16x4096x512_S1x16x4096x512_0_0_0_0) main_v86
  let main_v90 : FVec F S16x4096x512 .f32 := shapeCast S16x4096x512 main_v89 shapeCasts_S1x16x4096x512_S16x4096x512
  let main_cst_8 : FVec F S_ .f32 := constant S_ .f32 0xC1000000#32
  let main_v91 : FVec F S16x4096x512 .f32 := broadcastInDim S16x4096x512 ![] bcast_S_S16x4096x512 main_cst_8
  let main_v92 : FVec F S16x4096x512 .f32 := mulf main_v91 main_v90
  let main_v93 : FVec F S512 .f32 := Host.negf main_v88
  let main_v94 : FVec F S512 .f32 := fn_softplus (F := F) main_v93
  let main_v95 : FVec F S1x1x512 .f32 := broadcastInDim S1x1x512 ![2] bcast_S512_S1x1x512_2 main_v94
  let main_v96 : FVec F S16x4096x512 .f32 := broadcastInDim S16x4096x512 ![0, 1, 2] bcast_S1x1x512_S16x4096x512_0_1_2 main_v95
  let main_v97 : FVec F S16x4096x512 .f32 := mulf main_v92 main_v96
  let main_cst_9 : FVec F S_ .f32 := constant S_ .f32 0x40000000#32
  let main_v98 : FVec F S16x4096x512 .f32 := broadcastInDim S16x4096x512 ![] bcast_S_S16x4096x512 main_cst_9
  let main_v99 : FVec F S16x4096x512 .f32 := mulf main_v98 main_v97
  let main_v100 : FVec F S16x4096x512 .f32 := Host.expm1 main_v99
  let main_v101 : FVec F S16x4096x512 .f32 := Host.negf main_v100
  let main_cst_10 : FVec F S_ .f32 := constant S_ .f32 0x0DA24260#32
  let main_v102 : FVec F S16x4096x512 .f32 := broadcastInDim S16x4096x512 ![] bcast_S_S16x4096x512 main_cst_10
  let main_v103 : IVec S16x4096x512 1 := cmpf .oge main_v101 main_v102
  let main_c_11 : IVec S_ 1 := constantI S_ 1 1#1
  let main_v104 : IVec S_ 1 := (fun x v => Host.reduce IntOp.andi x v reducesTo_S16x4096x512_S_d0_1_2 h_S_) main_v103 main_c_11
  let main_v105 : IVec S_ 1 := andi main_v69 main_v104
  main_v105

def fn_part3 {F : FTy → Type} [FloatOps F] (main_arg3 : FVec F S2x2x4x128x128 .f32) (main_arg4 : FVec F S2x2x512 .f32) (main_arg5 : FVec F S2x512 .f32) (main_v33 : FVec F S16x4096x512 .f32) (main_v65 : FVec F S16x4096x512 .f32) (main_cst_3 : FVec F S_ .f32) : IVec S_ 1 :=
  let main_v66 : FVec F S16x4096x512 .f32 := broadcastInDim S16x4096x512 ![] bcast_S_S16x4096x512 main_cst_3
  let main_v67 : IVec S16x4096x512 1 := cmpf .oge main_v65 main_v66
  let main_c_4 : IVec S_ 1 := constantI S_ 1 1#1
  let main_v68 : IVec S_ 1 := (fun x v => Host.reduce IntOp.andi x v reducesTo_S16x4096x512_S_d0_1_2 h_S_) main_v67 main_c_4
  let main_c_5 : IVec S_ 1 := constantI S_ 1 1#1
  let main_v69 : IVec S_ 1 := andi main_c_5 main_v68
  let main_v70 : FVec F S1x2x4x128x128 .f32 := (extractStridedSlice S1x2x4x128x128 ![1, 0, 0, 0, 0] · slices_S2x2x4x128x128_S1x2x4x128x128_1_0_0_0_0) main_arg3
  let main_v71 : FVec F S2x4x128x128 .f32 := shapeCast S2x4x128x128 main_v70 shapeCasts_S1x2x4x128x128_S2x4x128x128
  let main_v72 : FVec F S1x2x512 .f32 := (extractStridedSlice S1x2x512 ![1, 0, 0] · slices_S2x2x512_S1x2x512_1_0_0) main_arg4
  let main_v73 : FVec F S2x512 .f32 := shapeCast S2x512 main_v72 shapeCasts_S1x2x512_S2x512
  let main_v74 : FVec F S16x4096x4x128 .f32 := shapeCast S16x4096x4x128 main_v33 shapeCasts_S16x4096x512_S16x4096x4x128
  let main_v75 : FVec F S4x2x128x16x4096 .f32 := (fun l r => Host.dotGeneral dot_S2x4x128x128_S16x4096x4x128_S4x2x128x16x4096_2_3_03_01_1_2 none l r) main_v71 main_v74
  let main_v76 : FVec F S2x16x4096x4x128 .f32 := (transpose S2x16x4096x4x128 [1, 3, 4, 0, 2] · transposes_S4x2x128x16x4096_S2x16x4096x4x128_1_3_4_0_2) main_v75
  let main_v77 : FVec F S2x16x4096x512 .f32 := shapeCast S2x16x4096x512 main_v76 shapeCasts_S2x16x4096x4x128_S2x16x4096x512
  let main_v78 : FVec F S2x1x1x512 .f32 := broadcastInDim S2x1x1x512 ![0, 3] bcast_S2x512_S2x1x1x512_0_3 main_v73
  let main_v79 : FVec F S2x16x4096x512 .f32 := broadcastInDim S2x16x4096x512 ![0, 1, 2, 3] bcast_S2x1x1x512_S2x16x4096x512_0_1_2_3 main_v78
  let main_v80 : FVec F S2x16x4096x512 .f32 := addf main_v77 main_v79
  let main_v81 : FVec F S2x16x4096x512 .f32 := Host.negf main_v80
  let main_v82 : FVec F S2x16x4096x512 .f32 := Host.exp main_v81
  let main_cst_6 : FVec F S_ .f32 := constant S_ .f32 0x3F800000#32
  let main_v83 : FVec F S2x16x4096x512 .f32 := broadcastInDim S2x16x4096x512 ![] bcast_S_S2x16x4096x512 main_cst_6
  let main_v84 : FVec F S2x16x4096x512 .f32 := addf main_v83 main_v82
  let main_cst_7 : FVec F S_ .f32 := constant S_ .f32 0x3F800000#32
  let main_v85 : FVec F S2x16x4096x512 .f32 := broadcastInDim S2x16x4096x512 ![] bcast_S_S2x16x4096x512 main_cst_7
  fn_part4 (F := F) main_arg5 main_v69 main_v84 main_v85

def fn_part2 {F : FTy → Type} [FloatOps F] (main_arg3 : FVec F S2x2x4x128x128 .f32) (main_arg4 : FVec F S2x2x512 .f32) (main_arg5 : FVec F S2x512 .f32) (main_v33 : FVec F S16x4096x512 .f32) (main_v46 : FVec F S2x16x4096x512 .f32) : IVec S_ 1 :=
  let main_cst : FVec F S_ .f32 := constant S_ .f32 0x3F800000#32
  let main_v47 : FVec F S2x16x4096x512 .f32 := broadcastInDim S2x16x4096x512 ![] bcast_S_S2x16x4096x512 main_cst
  let main_v48 : FVec F S2x16x4096x512 .f32 := addf main_v47 main_v46
  let main_cst_0 : FVec F S_ .f32 := constant S_ .f32 0x3F800000#32
  let main_v49 : FVec F S2x16x4096x512 .f32 := broadcastInDim S2x16x4096x512 ![] bcast_S_S2x16x4096x512 main_cst_0
  let main_v50 : FVec F S2x16x4096x512 .f32 := Host.divf main_v49 main_v48
  let main_v51 : FVec F S1x512 .f32 := (extractStridedSlice S1x512 ![0, 0] · slices_S2x512_S1x512_0_0) main_arg5
  let main_v52 : FVec F S512 .f32 := shapeCast S512 main_v51 shapeCasts_S1x512_S512
  let main_v53 : FVec F S1x16x4096x512 .f32 := (extractStridedSlice S1x16x4096x512 ![0, 0, 0, 0] · slices_S2x16x4096x512_S1x16x4096x512_0_0_0_0) main_v50
  let main_v54 : FVec F S16x4096x512 .f32 := shapeCast S16x4096x512 main_v53 shapeCasts_S1x16x4096x512_S16x4096x512
  let main_cst_1 : FVec F S_ .f32 := constant S_ .f32 0xC1000000#32
  let main_v55 : FVec F S16x4096x512 .f32 := broadcastInDim S16x4096x512 ![] bcast_S_S16x4096x512 main_cst_1
  let main_v56 : FVec F S16x4096x512 .f32 := mulf main_v55 main_v54
  let main_v57 : FVec F S512 .f32 := Host.negf main_v52
  let main_v58 : FVec F S512 .f32 := fn_softplus (F := F) main_v57
  let main_v59 : FVec F S1x1x512 .f32 := broadcastInDim S1x1x512 ![2] bcast_S512_S1x1x512_2 main_v58
  let main_v60 : FVec F S16x4096x512 .f32 := broadcastInDim S16x4096x512 ![0, 1, 2] bcast_S1x1x512_S16x4096x512_0_1_2 main_v59
  let main_v61 : FVec F S16x4096x512 .f32 := mulf main_v56 main_v60
  let main_cst_2 : FVec F S_ .f32 := constant S_ .f32 0x40000000#32
  let main_v62 : FVec F S16x4096x512 .f32 := broadcastInDim S16x4096x512 ![] bcast_S_S16x4096x512 main_cst_2
  let main_v63 : FVec F S16x4096x512 .f32 := mulf main_v62 main_v61
  let main_v64 : FVec F S16x4096x512 .f32 := Host.expm1 main_v63
  let main_v65 : FVec F S16x4096x512 .f32 := Host.negf main_v64
  let main_cst_3 : FVec F S_ .f32 := constant S_ .f32 0x0DA24260#32
  fn_part3 (F := F) main_arg3 main_arg4 main_arg5 main_v33 main_v65 main_cst_3

def fn_part1 {F : FTy → Type} [FloatOps F] (main_arg1 : FVec F S4x512 .f32) (main_arg3 : FVec F S2x2x4x128x128 .f32) (main_arg4 : FVec F S2x2x512 .f32) (main_arg5 : FVec F S2x512 .f32) (main_v3 : FVec F S16x4099x512 .f32) (main_v19 : FVec F S16x4096x512 .f32) (main_v21 : FVec F S512 .f32) (main_v22 : FVec F S16x4096x512 .f32) : IVec S_ 1 :=
  let main_v23 : FVec F S1x1x512 .f32 := broadcastInDim S1x1x512 ![2] bcast_S512_S1x1x512_2 main_v21
  let main_v24 : FVec F S16x4096x512 .f32 := broadcastInDim S16x4096x512 ![0, 1, 2] bcast_S1x1x512_S16x4096x512_0_1_2 main_v23
  let main_v25 : FVec F S16x4096x512 .f32 := mulf main_v24 main_v22
  let main_v26 : FVec F S16x4096x512 .f32 := addf main_v19 main_v25
  let main_v27 : FVec F S1x512 .f32 := (extractStridedSlice S1x512 ![3, 0] · slices_S4x512_S1x512_3_0) main_arg1
  let main_v28 : FVec F S512 .f32 := shapeCast S512 main_v27 shapeCasts_S1x512_S512
  let main_v29 : FVec F S16x4096x512 .f32 := (extractStridedSlice S16x4096x512 ![0, 3, 0] · slices_S16x4099x512_S16x4096x512_0_3_0) main_v3
  let main_v30 : FVec F S1x1x512 .f32 := broadcastInDim S1x1x512 ![2] bcast_S512_S1x1x512_2 main_v28
  let main_v31 : FVec F S16x4096x512 .f32 := broadcastInDim S16x4096x512 ![0, 1, 2] bcast_S1x1x512_S16x4096x512_0_1_2 main_v30
  let main_v32 : FVec F S16x4096x512 .f32 := mulf main_v31 main_v29
  let main_v33 : FVec F S16x4096x512 .f32 := addf main_v26 main_v32
  let main_v34 : FVec F S1x2x4x128x128 .f32 := (extractStridedSlice S1x2x4x128x128 ![0, 0, 0, 0, 0] · slices_S2x2x4x128x128_S1x2x4x128x128_0_0_0_0_0) main_arg3
  let main_v35 : FVec F S2x4x128x128 .f32 := shapeCast S2x4x128x128 main_v34 shapeCasts_S1x2x4x128x128_S2x4x128x128
  let main_v36 : FVec F S1x2x512 .f32 := (extractStridedSlice S1x2x512 ![0, 0, 0] · slices_S2x2x512_S1x2x512_0_0_0) main_arg4
  let main_v37 : FVec F S2x512 .f32 := shapeCast S2x512 main_v36 shapeCasts_S1x2x512_S2x512
  let main_v38 : FVec F S16x4096x4x128 .f32 := shapeCast S16x4096x4x128 main_v33 shapeCasts_S16x4096x512_S16x4096x4x128
  let main_v39 : FVec F S4x2x128x16x4096 .f32 := (fun l r => Host.dotGeneral dot_S2x4x128x128_S16x4096x4x128_S4x2x128x16x4096_2_3_03_01_1_2 none l r) main_v35 main_v38
  let main_v40 : FVec F S2x16x4096x4x128 .f32 := (transpose S2x16x4096x4x128 [1, 3, 4, 0, 2] · transposes_S4x2x128x16x4096_S2x16x4096x4x128_1_3_4_0_2) main_v39
  let main_v41 : FVec F S2x16x4096x512 .f32 := shapeCast S2x16x4096x512 main_v40 shapeCasts_S2x16x4096x4x128_S2x16x4096x512
  let main_v42 : FVec F S2x1x1x512 .f32 := broadcastInDim S2x1x1x512 ![0, 3] bcast_S2x512_S2x1x1x512_0_3 main_v37
  let main_v43 : FVec F S2x16x4096x512 .f32 := broadcastInDim S2x16x4096x512 ![0, 1, 2, 3] bcast_S2x1x1x512_S2x16x4096x512_0_1_2_3 main_v42
  let main_v44 : FVec F S2x16x4096x512 .f32 := addf main_v41 main_v43
  let main_v45 : FVec F S2x16x4096x512 .f32 := Host.negf main_v44
  let main_v46 : FVec F S2x16x4096x512 .f32 := Host.exp main_v45
  fn_part2 (F := F) main_arg3 main_arg4 main_arg5 main_v33 main_v46

def fn {F : FTy → Type} [FloatOps F] (main_arg0 : FVec F S65536x8704 .bf16) (main_arg1 : FVec F S4x512 .f32) (main_arg2 : FVec F S512 .f32) (main_arg3 : FVec F S2x2x4x128x128 .f32) (main_arg4 : FVec F S2x2x512 .f32) (main_arg5 : FVec F S2x512 .f32) : IVec S_ 1 :=
  let main_v0 : FVec F S65536x512 .bf16 := (extractStridedSlice S65536x512 ![0, 4096] · slices_S65536x8704_S65536x512_0_4096) main_arg0
  let main_v1 : FVec F S65536x512 .f32 := (extf .f32 · bitsLt_bf16_f32) main_v0
  let main_v2 : FVec F S16x4096x512 .f32 := shapeCast S16x4096x512 main_v1 shapeCasts_S65536x512_S16x4096x512
  let main_c : IVec S_ 32 := constantI S_ 32 0#32
  let main_v3 : FVec F S16x4099x512 .f32 := fn_pad (F := F) main_v2 main_c
  let main_v4 : FVec F S1x512 .f32 := (extractStridedSlice S1x512 ![0, 0] · slices_S4x512_S1x512_0_0) main_arg1
  let main_v5 : FVec F S512 .f32 := shapeCast S512 main_v4 shapeCasts_S1x512_S512
  let main_v6 : FVec F S16x4096x512 .f32 := (extractStridedSlice S16x4096x512 ![0, 0, 0] · slices_S16x4099x512_S16x4096x512_0_0_0) main_v3
  let main_v7 : FVec F S1x1x512 .f32 := broadcastInDim S1x1x512 ![2] bcast_S512_S1x1x512_2 main_v5
  let main_v8 : FVec F S16x4096x512 .f32 := broadcastInDim S16x4096x512 ![0, 1, 2] bcast_S1x1x512_S16x4096x512_0_1_2 main_v7
  let main_v9 : FVec F S16x4096x512 .f32 := mulf main_v8 main_v6
  let main_v10 : FVec F S1x1x512 .f32 := broadcastInDim S1x1x512 ![2] bcast_S512_S1x1x512_2 main_arg2
  let main_v11 : FVec F S16x4096x512 .f32 := broadcastInDim S16x4096x512 ![0, 1, 2] bcast_S1x1x512_S16x4096x512_0_1_2 main_v10
  let main_v12 : FVec F S16x4096x512 .f32 := addf main_v11 main_v9
  let main_v13 : FVec F S1x512 .f32 := (extractStridedSlice S1x512 ![1, 0] · slices_S4x512_S1x512_1_0) main_arg1
  let main_v14 : FVec F S512 .f32 := shapeCast S512 main_v13 shapeCasts_S1x512_S512
  let main_v15 : FVec F S16x4096x512 .f32 := (extractStridedSlice S16x4096x512 ![0, 1, 0] · slices_S16x4099x512_S16x4096x512_0_1_0) main_v3
  let main_v16 : FVec F S1x1x512 .f32 := broadcastInDim S1x1x512 ![2] bcast_S512_S1x1x512_2 main_v14
  let main_v17 : FVec F S16x4096x512 .f32 := broadcastInDim S16x4096x512 ![0, 1, 2] bcast_S1x1x512_S16x4096x512_0_1_2 main_v16
  let main_v18 : FVec F S16x4096x512 .f32 := mulf main_v17 main_v15
  let main_v19 : FVec F S16x4096x512 .f32 := addf main_v12 main_v18
  let main_v20 : FVec F S1x512 .f32 := (extractStridedSlice S1x512 ![2, 0] · slices_S4x512_S1x512_2_0) main_arg1
  let main_v21 : FVec F S512 .f32 := shapeCast S512 main_v20 shapeCasts_S1x512_S512
  let main_v22 : FVec F S16x4096x512 .f32 := (extractStridedSlice S16x4096x512 ![0, 2, 0] · slices_S16x4099x512_S16x4096x512_0_2_0) main_v3
  fn_part1 (F := F) main_arg1 main_arg3 main_arg4 main_arg5 main_v3 main_v19 main_v21 main_v22
-- ==== Kernel.lean ====
abbrev S65536x8704 : Shape := ⟨2, ![65536, 8704]⟩
abbrev S4x512 : Shape := ⟨2, ![4, 512]⟩
abbrev S512 : Shape := ⟨1, ![512]⟩
abbrev S2x2x4x128x128 : Shape := ⟨5, ![2, 2, 4, 128, 128]⟩
abbrev S2x2x512 : Shape := ⟨3, ![2, 2, 512]⟩
abbrev S2x512 : Shape := ⟨2, ![2, 512]⟩
abbrev S4x128x2x2x128 : Shape := ⟨5, ![4, 128, 2, 2, 128]⟩
abbrev S4x128x512 : Shape := ⟨3, ![4, 128, 512]⟩
abbrev S2x2x4x128 : Shape := ⟨4, ![2, 2, 4, 128]⟩
abbrev S4x2x2x128 : Shape := ⟨4, ![4, 2, 2, 128]⟩
abbrev S4x1x512 : Shape := ⟨3, ![4, 1, 512]⟩
abbrev S1x512 : Shape := ⟨2, ![1, 512]⟩
abbrev S65536x512 : Shape := ⟨2, ![65536, 512]⟩
abbrev S4096x128 : Shape := ⟨2, ![4096, 128]⟩
abbrev S4x128 : Shape := ⟨2, ![4, 128]⟩
abbrev S1x128 : Shape := ⟨2, ![1, 128]⟩
abbrev S1x128x512 : Shape := ⟨3, ![1, 128, 512]⟩
abbrev S1x1x512 : Shape := ⟨3, ![1, 1, 512]⟩
abbrev S2x128 : Shape := ⟨2, ![2, 128]⟩
abbrev S512x128 : Shape := ⟨2, ![512, 128]⟩
abbrev S16x128 : Shape := ⟨2, ![16, 128]⟩
abbrev S544x128 : Shape := ⟨2, ![544, 128]⟩
abbrev S1x128x256 : Shape := ⟨3, ![1, 128, 256]⟩
abbrev S128x256 : Shape := ⟨2, ![128, 256]⟩
abbrev S512x256 : Shape := ⟨2, ![512, 256]⟩
abbrev S1x1x256 : Shape := ⟨3, ![1, 1, 256]⟩
abbrev S1x256 : Shape := ⟨2, ![1, 256]⟩
abbrev S8x128 : Shape := ⟨2, ![8, 128]⟩

abbrev nBuf : Space → Nat
  | .hbm => 14
  | .vmem => 19
  | .smem => 0
  | _ => 0

abbrev bufTy : (tb : Table) → Fin (tcTables nBuf tb) → BufTy
  | .hbm, ⟨0, _⟩ => ⟨S65536x8704, .bf16⟩
  | .hbm, ⟨1, _⟩ => ⟨S4x512, .f32⟩
  | .hbm, ⟨2, _⟩ => ⟨S512, .f32⟩
  | .hbm, ⟨3, _⟩ => ⟨S2x2x4x128x128, .f32⟩
  | .hbm, ⟨4, _⟩ => ⟨S2x2x512, .f32⟩
  | .hbm, ⟨5, _⟩ => ⟨S2x512, .f32⟩
  | .hbm, ⟨6, _⟩ => ⟨S4x128x2x2x128, .f32⟩
  | .hbm, ⟨7, _⟩ => ⟨S4x128x512, .f32⟩
  | .hbm, ⟨8, _⟩ => ⟨S2x2x4x128, .f32⟩
  | .hbm, ⟨9, _⟩ => ⟨S4x2x2x128, .f32⟩
  | .hbm, ⟨10, _⟩ => ⟨S4x1x512, .f32⟩
  | .hbm, ⟨11, _⟩ => ⟨S1x512, .f32⟩
  | .hbm, ⟨12, _⟩ => ⟨S4x128x512, .bf16⟩
  | .hbm, ⟨13, _⟩ => ⟨S65536x512, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4x128, .f32⟩
  | .local _ .vmem, ⟨5, _⟩ => ⟨S4x128, .f32⟩
  | .local _ .vmem, ⟨6, _⟩ => ⟨S1x128, .f32⟩
  | .local _ .vmem, ⟨7, _⟩ => ⟨S1x128, .f32⟩
  | .local _ .vmem, ⟨8, _⟩ => ⟨S1x128x512, .bf16⟩
  | .local _ .vmem, ⟨9, _⟩ => ⟨S1x128x512, .bf16⟩
  | .local _ .vmem, ⟨10, _⟩ => ⟨S1x1x512, .f32⟩
  | .local _ .vmem, ⟨11, _⟩ => ⟨S1x1x512, .f32⟩
  | .local _ .vmem, ⟨12, _⟩ => ⟨S2x128, .f32⟩
  | .local _ .vmem, ⟨13, _⟩ => ⟨S2x128, .f32⟩
  | .local _ .vmem, ⟨14, _⟩ => ⟨S4096x128, .bf16⟩
  | .local _ .vmem, ⟨15, _⟩ => ⟨S4096x128, .bf16⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | _, _ => ⟨S65536x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32 : BitVec 32 := 0#32
  let c8_i32 : BitVec 32 := 8#32
  let v25 : BitVec 32 := Scalar.addi c0_i32 c8_i32
  let c1_i32 : BitVec 32 := 1#32
  ⟨c0_i32, v25, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32 : BitVec 32 := 512#32
  let v30 : BitVec 32 := Scalar.muli arg13 c512_i32
  v30
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c512_i32 : BitVec 32 := 512#32
  let v30 : BitVec 32 := Scalar.muli arg13 c512_i32
  let v31 : BitVec 32 := v30
  let v32 : Index := Scalar.indexCast v31
  let c0_18 : Index := 0#32
  ![v32.toNat, 0]
def k0_mult2 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32 : BitVec 32 := 512#32
  let v30 : BitVec 32 := Scalar.muli arg13 c512_i32
  let v31 : BitVec 32 := v30
  let c16_i32 : BitVec 32 := 16#32
  let v35 : BitVec 32 := Scalar.subi v31 c16_i32
  let c0_i32_19 : BitVec 32 := 0#32
  let v36 : BitVec 32 := Scalar.maxsi v35 c0_i32_19
  v36
def k0_mult3 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32 : BitVec 32 := 512#32
  let v30 : BitVec 32 := Scalar.muli arg13 c512_i32
  let v31 : BitVec 32 := v30
  let c512_i32_20 : BitVec 32 := 512#32
  let v38 : BitVec 32 := Scalar.addi v31 c512_i32_20
  let c4080_i32 : BitVec 32 := 4080#32
  let v39 : BitVec 32 := Scalar.minsi v38 c4080_i32
  v39
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c512_i32 : BitVec 32 := 512#32
  let v30 : BitVec 32 := Scalar.muli arg13 c512_i32
  let v31 : BitVec 32 := v30
  let c16_i32 : BitVec 32 := 16#32
  let v35 : BitVec 32 := Scalar.subi v31 c16_i32
  let c0_i32_19 : BitVec 32 := 0#32
  let v36 : BitVec 32 := Scalar.maxsi v35 c0_i32_19
  let v37 : BitVec 32 := v36
  let v42 : Index := Scalar.indexCast v37
  let c0_22 : Index := 0#32
  ![v42.toNat, 0]
def k0_off3 (k0_t1 : Fin k0_t1_loop.trips) : Fin 2 → Nat :=
  let c0_i32 : BitVec 32 := 0#32
  let c1_i32 : BitVec 32 := 1#32
  let arg13 : BitVec 32 := Scf.iv c0_i32 c1_i32 k0_t1
  let c512_i32 : BitVec 32 := 512#32
  let v30 : BitVec 32 := Scalar.muli arg13 c512_i32
  let v31 : BitVec 32 := v30
  let c512_i32_20 : BitVec 32 := 512#32
  let v38 : BitVec 32 := Scalar.addi v31 c512_i32_20
  let c4080_i32 : BitVec 32 := 4080#32
  let v39 : BitVec 32 := Scalar.minsi v38 c4080_i32
  let v40 : BitVec 32 := v39
  let v48 : Index := Scalar.indexCast v40
  let c0_25 : Index := 0#32
  ![v48.toNat, 0]
@[reducible] def k0_t2_loop : Scf.Loop 32 :=
  let c0_i32_10 : BitVec 32 := 0#32
  let c8_i32_11 : BitVec 32 := 8#32
  let v27 : BitVec 32 := Scalar.addi c0_i32_10 c8_i32_11
  let c1_i32_12 : BitVec 32 := 1#32
  ⟨c0_i32_10, v27, c1_i32_12⟩
def k0_mult4 (k0_t2 : Fin k0_t2_loop.trips) : BitVec 32 :=
  let c0_i32_10 : BitVec 32 := 0#32
  let c1_i32_12 : BitVec 32 := 1#32
  let arg13 : BitVec 32 := Scf.iv c0_i32_10 c1_i32_12 k0_t2
  let c512_i32 : BitVec 32 := 512#32
  let v30 : BitVec 32 := Scalar.muli arg13 c512_i32
  v30
def k0_mult5 (k0_t2 : Fin k0_t2_loop.trips) : BitVec 32 :=
  let c7_i32_18 : BitVec 32 := 7#32
  let c0_i32_10 : BitVec 32 := 0#32
  let c1_i32_12 : BitVec 32 := 1#32
  let arg13 : BitVec 32 := Scf.iv c0_i32_10 c1_i32_12 k0_t2
  let v32 : BitVec 32 := Scalar.subi c7_i32_18 arg13
  let c512_i32_19 : BitVec 32 := 512#32
  let v33 : BitVec 32 := Scalar.muli v32 c512_i32_19
  v33
def k0_off4 (k0_t2 : Fin k0_t2_loop.trips) : Fin 2 → Nat :=
  let c0_i32_10 : BitVec 32 := 0#32
  let c1_i32_12 : BitVec 32 := 1#32
  let arg13 : BitVec 32 := Scf.iv c0_i32_10 c1_i32_12 k0_t2
  let c512_i32 : BitVec 32 := 512#32
  let v30 : BitVec 32 := Scalar.muli arg13 c512_i32
  let v31 : BitVec 32 := v30
  let v35 : Index := Scalar.indexCast v31
  let c0_20 : Index := 0#32
  ![v35.toNat, 0]
def k0_off5 (k0_t2 : Fin k0_t2_loop.trips) : Fin 2 → Nat :=
  let c7_i32_18 : BitVec 32 := 7#32
  let c0_i32_10 : BitVec 32 := 0#32
  let c1_i32_12 : BitVec 32 := 1#32
  let arg13 : BitVec 32 := Scf.iv c0_i32_10 c1_i32_12 k0_t2
  let v32 : BitVec 32 := Scalar.subi c7_i32_18 arg13
  let c512_i32_19 : BitVec 32 := 512#32
  let v33 : BitVec 32 := Scalar.muli v32 c512_i32_19
  let v34 : BitVec 32 := v33
  let v483 : Index := Scalar.indexCast v34
  let c0_44 : Index := 0#32
  ![v483.toNat, 0]
@[reducible] def k0_t3_loop : Scf.Loop 32 :=
  let c0_i32_14 : BitVec 32 := 0#32
  let c8_i32_15 : BitVec 32 := 8#32
  let v29 : BitVec 32 := Scalar.addi c0_i32_14 c8_i32_15
  let c1_i32_16 : BitVec 32 := 1#32
  ⟨c0_i32_14, v29, c1_i32_16⟩
def k0_mult6 (k0_t3 : Fin k0_t3_loop.trips) : BitVec 32 :=
  let c0_i32_14 : BitVec 32 := 0#32
  let c1_i32_16 : BitVec 32 := 1#32
  let arg13 : BitVec 32 := Scf.iv c0_i32_14 c1_i32_16 k0_t3
  let c512_i32 : BitVec 32 := 512#32
  let v30 : BitVec 32 := Scalar.muli arg13 c512_i32
  v30
def k0_off6 (k0_t3 : Fin k0_t3_loop.trips) : Fin 2 → Nat :=
  let c0_i32_14 : BitVec 32 := 0#32
  let c1_i32_16 : BitVec 32 := 1#32
  let arg13 : BitVec 32 := Scf.iv c0_i32_14 c1_i32_16 k0_t3
  let c512_i32 : BitVec 32 := 512#32
  let v30 : BitVec 32 := Scalar.muli arg13 c512_i32
  let v31 : BitVec 32 := v30
  let v32 : Index := Scalar.indexCast v31
  let c0_18 : Index := 0#32
  ![v32.toNat, 0]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "decay_rate" => some (((-8) * (Real.log 2)⁻¹ : ℝ) : EReal)
  | "gelu_c1" => some ((((-2) * (6693141 / 8388608)) * (Real.log 2)⁻¹ : ℝ) : EReal)
  | "gelu_c3" => some (((12003091 / 268435456) * (((-2) * (6693141 / 8388608)) * (Real.log 2)⁻¹) : ℝ) : EReal)
  | _ => none
-- ==== ReferenceIdeal.lean ====
abbrev S65536x8704 : Shape := ⟨2, ![65536, 8704]⟩
abbrev S4x512 : Shape := ⟨2, ![4, 512]⟩
abbrev S512 : Shape := ⟨1, ![512]⟩
abbrev S2x2x4x128x128 : Shape := ⟨5, ![2, 2, 4, 128, 128]⟩
abbrev S2x2x512 : Shape := ⟨3, ![2, 2, 512]⟩
abbrev S2x512 : Shape := ⟨2, ![2, 512]⟩
abbrev S65536x512 : Shape := ⟨2, ![65536, 512]⟩
abbrev S16x4096x512 : Shape := ⟨3, ![16, 4096, 512]⟩
abbrev S_ : Shape := ⟨0, ![]⟩
abbrev S16x4099x512 : Shape := ⟨3, ![16, 4099, 512]⟩
abbrev S1x512 : Shape := ⟨2, ![1, 512]⟩
abbrev S1x1x512 : Shape := ⟨3, ![1, 1, 512]⟩
abbrev S1x2x4x128x128 : Shape := ⟨5, ![1, 2, 4, 128, 128]⟩
abbrev S2x4x128x128 : Shape := ⟨4, ![2, 4, 128, 128]⟩
abbrev S1x2x512 : Shape := ⟨3, ![1, 2, 512]⟩
abbrev S16x4096x4x128 : Shape := ⟨4, ![16, 4096, 4, 128]⟩
abbrev S4x2x128x16x4096 : Shape := ⟨5, ![4, 2, 128, 16, 4096]⟩
abbrev S2x16x4096x4x128 : Shape := ⟨5, ![2, 16, 4096, 4, 128]⟩
abbrev S2x16x4096x512 : Shape := ⟨4, ![2, 16, 4096, 512]⟩
abbrev S2x1x1x512 : Shape := ⟨4, ![2, 1, 1, 512]⟩
abbrev S1x16x4096x512 : Shape := ⟨4, ![1, 16, 4096, 512]⟩
abbrev S4096x16x512 : Shape := ⟨3, ![4096, 16, 512]⟩
abbrev S4096x1x16x512 : Shape := ⟨4, ![4096, 1, 16, 512]⟩
abbrev S4096x2x16x512 : Shape := ⟨4, ![4096, 2, 16, 512]⟩
abbrev S2x16x512 : Shape := ⟨3, ![2, 16, 512]⟩
abbrev S1x2x16x512 : Shape := ⟨4, ![1, 2, 16, 512]⟩

abbrev nBuf : Space → Nat
  | .hbm => 225
  | .vmem => 0
  | .smem => 0
  | _ => 0

abbrev hbmTy0_0 (i : Nat) : BufTy := match i % 128 with
  | 0 => ⟨S65536x8704, .bf16⟩
  | 1 => ⟨S4x512, .f32⟩
  | 2 => ⟨S512, .f32⟩
  | 3 => ⟨S2x2x4x128x128, .f32⟩
  | 4 => ⟨S2x2x512, .f32⟩
  | 5 => ⟨S2x512, .f32⟩
  | 6 => ⟨S65536x512, .bf16⟩
  | 7 => ⟨S65536x512, .f32⟩
  | 8 => ⟨S16x4096x512, .f32⟩
  | 9 => ⟨S_, .i32⟩
  | 10 => ⟨S_, .f32⟩
  | 11 => ⟨S16x4099x512, .f32⟩
  | 12 => ⟨S1x512, .f32⟩
  | 13 => ⟨S512, .f32⟩
  | 14 => ⟨S16x4096x512, .f32⟩
  | 15 => ⟨S1x1x512, .f32⟩
  | 16 => ⟨S16x4096x512, .f32⟩
  | 17 => ⟨S16x4096x512, .f32⟩
  | 18 => ⟨S1x1x512, .f32⟩
  | 19 => ⟨S16x4096x512, .f32⟩
  | 20 => ⟨S16x4096x512, .f32⟩
  | 21 => ⟨S1x512, .f32⟩
  | 22 => ⟨S512, .f32⟩
  | 23 => ⟨S16x4096x512, .f32⟩
  | 24 => ⟨S1x1x512, .f32⟩
  | 25 => ⟨S16x4096x512, .f32⟩
  | 26 => ⟨S16x4096x512, .f32⟩
  | 27 => ⟨S16x4096x512, .f32⟩
  | 28 => ⟨S1x512, .f32⟩
  | 29 => ⟨S512, .f32⟩
  | 30 => ⟨S16x4096x512, .f32⟩
  | 31 => ⟨S1x1x512, .f32⟩
  | 32 => ⟨S16x4096x512, .f32⟩
  | 33 => ⟨S16x4096x512, .f32⟩
  | 34 => ⟨S16x4096x512, .f32⟩
  | 35 => ⟨S1x512, .f32⟩
  | 36 => ⟨S512, .f32⟩
  | 37 => ⟨S16x4096x512, .f32⟩
  | 38 => ⟨S1x1x512, .f32⟩
  | 39 => ⟨S16x4096x512, .f32⟩
  | 40 => ⟨S16x4096x512, .f32⟩
  | 41 => ⟨S16x4096x512, .f32⟩
  | 42 => ⟨S65536x512, .bf16⟩
  | 43 => ⟨S65536x512, .f32⟩
  | 44 => ⟨S16x4096x512, .f32⟩
  | 45 => ⟨S16x4096x512, .f32⟩
  | 46 => ⟨S16x4096x512, .f32⟩
  | 47 => ⟨S_, .f32⟩
  | 48 => ⟨S16x4096x512, .f32⟩
  | 49 => ⟨S16x4096x512, .f32⟩
  | 50 => ⟨S16x4096x512, .f32⟩
  | 51 => ⟨S_, .f32⟩
  | 52 => ⟨S16x4096x512, .f32⟩
  | 53 => ⟨S16x4096x512, .f32⟩
  | 54 => ⟨S16x4096x512, .f32⟩
  | 55 => ⟨S_, .f32⟩
  | 56 => ⟨S16x4096x512, .f32⟩
  | 57 => ⟨S16x4096x512, .f32⟩
  | 58 => ⟨S_, .f32⟩
  | 59 => ⟨S16x4096x512, .f32⟩
  | 60 => ⟨S16x4096x512, .f32⟩
  | 61 => ⟨S16x4096x512, .f32⟩
  | 62 => ⟨S1x2x4x128x128, .f32⟩
  | 63 => ⟨S2x4x128x128, .f32⟩
  | 64 => ⟨S1x2x512, .f32⟩
  | 65 => ⟨S2x512, .f32⟩
  | 66 => ⟨S16x4096x4x128, .f32⟩
  | 67 => ⟨S4x2x128x16x4096, .f32⟩
  | 68 => ⟨S2x16x4096x4x128, .f32⟩
  | 69 => ⟨S2x16x4096x512, .f32⟩
  | 70 => ⟨S2x1x1x512, .f32⟩
  | 71 => ⟨S2x16x4096x512, .f32⟩
  | 72 => ⟨S2x16x4096x512, .f32⟩
  | 73 => ⟨S2x16x4096x512, .f32⟩
  | 74 => ⟨S2x16x4096x512, .f32⟩
  | 75 => ⟨S_, .f32⟩
  | 76 => ⟨S2x16x4096x512, .f32⟩
  | 77 => ⟨S2x16x4096x512, .f32⟩
  | 78 => ⟨S_, .f32⟩
  | 79 => ⟨S2x16x4096x512, .f32⟩
  | 80 => ⟨S2x16x4096x512, .f32⟩
  | 81 => ⟨S1x512, .f32⟩
  | 82 => ⟨S512, .f32⟩
  | 83 => ⟨S1x16x4096x512, .f32⟩
  | 84 => ⟨S16x4096x512, .f32⟩
  | 85 => ⟨S_, .f32⟩
  | 86 => ⟨S16x4096x512, .f32⟩
  | 87 => ⟨S16x4096x512, .f32⟩
  | 88 => ⟨S512, .f32⟩
  | 89 => ⟨S_, .f32⟩
  | 90 => ⟨S512, .f32⟩
  | 91 => ⟨S512, .f32⟩
  | 92 => ⟨S512, .f32⟩
  | 93 => ⟨S512, .f32⟩
  | 94 => ⟨S512, .i1⟩
  | 95 => ⟨S512, .f32⟩
  | 96 => ⟨S512, .f32⟩
  | 97 => ⟨S512, .f32⟩
  | 98 => ⟨S512, .f32⟩
  | 99 => ⟨S512, .f32⟩
  | 100 => ⟨S512, .f32⟩
  | 101 => ⟨S512, .f32⟩
  | 102 => ⟨S512, .f32⟩
  | 103 => ⟨S1x1x512, .f32⟩
  | 104 => ⟨S16x4096x512, .f32⟩
  | 105 => ⟨S16x4096x512, .f32⟩
  | 106 => ⟨S16x4096x512, .f32⟩
  | 107 => ⟨S4096x16x512, .f32⟩
  | 108 => ⟨S_, .f32⟩
  | 109 => ⟨S16x4096x512, .f32⟩
  | 110 => ⟨S16x4096x512, .f32⟩
  | 111 => ⟨S16x4096x512, .f32⟩
  | 112 => ⟨S16x4096x512, .f32⟩
  | 113 => ⟨S16x4096x512, .f32⟩
  | 114 => ⟨S1x16x4096x512, .f32⟩
  | 115 => ⟨S16x4096x512, .f32⟩
  | 116 => ⟨S16x4096x512, .f32⟩
  | 117 => ⟨S16x4096x512, .f32⟩
  | 118 => ⟨S4096x16x512, .f32⟩
  | 119 => ⟨S1x2x4x128x128, .f32⟩
  | 120 => ⟨S2x4x128x128, .f32⟩
  | 121 => ⟨S1x2x512, .f32⟩
  | 122 => ⟨S2x512, .f32⟩
  | 123 => ⟨S16x4096x4x128, .f32⟩
  | 124 => ⟨S4x2x128x16x4096, .f32⟩
  | 125 => ⟨S2x16x4096x4x128, .f32⟩
  | 126 => ⟨S2x16x4096x512, .f32⟩
  | 127 => ⟨S2x1x1x512, .f32⟩
  | _ => ⟨S65536x8704, .bf16⟩

abbrev hbmTy0_1 (i : Nat) : BufTy := match i % 128 with
  | 0 => ⟨S2x16x4096x512, .f32⟩
  | 1 => ⟨S2x16x4096x512, .f32⟩
  | 2 => ⟨S2x16x4096x512, .f32⟩
  | 3 => ⟨S2x16x4096x512, .f32⟩
  | 4 => ⟨S_, .f32⟩
  | 5 => ⟨S2x16x4096x512, .f32⟩
  | 6 => ⟨S2x16x4096x512, .f32⟩
  | 7 => ⟨S_, .f32⟩
  | 8 => ⟨S2x16x4096x512, .f32⟩
  | 9 => ⟨S2x16x4096x512, .f32⟩
  | 10 => ⟨S1x512, .f32⟩
  | 11 => ⟨S512, .f32⟩
  | 12 => ⟨S1x16x4096x512, .f32⟩
  | 13 => ⟨S16x4096x512, .f32⟩
  | 14 => ⟨S_, .f32⟩
  | 15 => ⟨S16x4096x512, .f32⟩
  | 16 => ⟨S16x4096x512, .f32⟩
  | 17 => ⟨S512, .f32⟩
  | 18 => ⟨S_, .f32⟩
  | 19 => ⟨S512, .f32⟩
  | 20 => ⟨S512, .f32⟩
  | 21 => ⟨S512, .f32⟩
  | 22 => ⟨S512, .f32⟩
  | 23 => ⟨S512, .i1⟩
  | 24 => ⟨S512, .f32⟩
  | 25 => ⟨S512, .f32⟩
  | 26 => ⟨S512, .f32⟩
  | 27 => ⟨S512, .f32⟩
  | 28 => ⟨S512, .f32⟩
  | 29 => ⟨S512, .f32⟩
  | 30 => ⟨S512, .f32⟩
  | 31 => ⟨S512, .f32⟩
  | 32 => ⟨S1x1x512, .f32⟩
  | 33 => ⟨S16x4096x512, .f32⟩
  | 34 => ⟨S16x4096x512, .f32⟩
  | 35 => ⟨S16x4096x512, .f32⟩
  | 36 => ⟨S4096x16x512, .f32⟩
  | 37 => ⟨S_, .f32⟩
  | 38 => ⟨S16x4096x512, .f32⟩
  | 39 => ⟨S16x4096x512, .f32⟩
  | 40 => ⟨S16x4096x512, .f32⟩
  | 41 => ⟨S16x4096x512, .f32⟩
  | 42 => ⟨S16x4096x512, .f32⟩
  | 43 => ⟨S1x16x4096x512, .f32⟩
  | 44 => ⟨S16x4096x512, .f32⟩
  | 45 => ⟨S16x4096x512, .f32⟩
  | 46 => ⟨S16x4096x512, .f32⟩
  | 47 => ⟨S4096x16x512, .f32⟩
  | 48 => ⟨S4096x16x512, .f32⟩
  | 49 => ⟨S4096x1x16x512, .f32⟩
  | 50 => ⟨S4096x1x16x512, .f32⟩
  | 51 => ⟨S4096x2x16x512, .f32⟩
  | 52 => ⟨S4096x16x512, .f32⟩
  | 53 => ⟨S4096x1x16x512, .f32⟩
  | 54 => ⟨S4096x1x16x512, .f32⟩
  | 55 => ⟨S4096x2x16x512, .f32⟩
  | 56 => ⟨S_, .f32⟩
  | 57 => ⟨S2x16x512, .f32⟩
  | 58 => ⟨S_, .f32⟩
  | 59 => ⟨S4096x2x16x512, .f32⟩
  | 60 => ⟨S_, .i32⟩
  | 61 => ⟨S4096x2x16x512, .f32⟩
  | 62 => ⟨S4096x2x16x512, .f32⟩
  | 63 => ⟨S_, .i32⟩
  | 64 => ⟨S2x16x512, .f32⟩
  | 65 => ⟨S4096x2x16x512, .f32⟩
  | 66 => ⟨S_, .i32⟩
  | 67 => ⟨S_, .i1⟩
  | 68 => ⟨S_, .i32⟩
  | 69 => ⟨S_, .i32⟩
  | 70 => ⟨S_, .i32⟩
  | 71 => ⟨S1x2x16x512, .f32⟩
  | 72 => ⟨S2x16x512, .f32⟩
  | 73 => ⟨S_, .i32⟩
  | 74 => ⟨S_, .i32⟩
  | 75 => ⟨S_, .i32⟩
  | 76 => ⟨S1x2x16x512, .f32⟩
  | 77 => ⟨S2x16x512, .f32⟩
  | 78 => ⟨S2x16x512, .f32⟩
  | 79 => ⟨S2x16x512, .f32⟩
  | 80 => ⟨S1x2x16x512, .f32⟩
  | 81 => ⟨S_, .i32⟩
  | 82 => ⟨S_, .i32⟩
  | 83 => ⟨S_, .i32⟩
  | 84 => ⟨S4096x2x16x512, .f32⟩
  | 85 => ⟨S_, .i32⟩
  | 86 => ⟨S_, .i32⟩
  | 87 => ⟨S4096x1x16x512, .f32⟩
  | 88 => ⟨S4096x16x512, .f32⟩
  | 89 => ⟨S4096x1x16x512, .f32⟩
  | 90 => ⟨S4096x16x512, .f32⟩
  | 91 => ⟨S4096x16x512, .f32⟩
  | 92 => ⟨S4096x16x512, .f32⟩
  | 93 => ⟨S16x4096x512, .f32⟩
  | 94 => ⟨S16x4096x512, .f32⟩
  | 95 => ⟨S16x4096x512, .bf16⟩
  | 96 => ⟨S65536x512, .bf16⟩
  | _ => ⟨S65536x8704, .bf16⟩

abbrev hbmTy (i : Nat) : BufTy := match i / 128 with
  | 0 => hbmTy0_0 i
  | 1 => hbmTy0_1 i
  | _ => ⟨S65536x8704, .bf16⟩

abbrev bufTy : (tb : Table) → Fin (tcTables nBuf tb) → BufTy
  | .hbm, ⟨i, _⟩ => hbmTy i
  | _, _ => ⟨S65536x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_0 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_1 : Ref sig .tc := ⟨.hbm, 55, rfl⟩
abbrev main_v45 : Ref sig .tc := ⟨.hbm, 56, rfl⟩
abbrev main_v46 : Ref sig .tc := ⟨.hbm, 57, rfl⟩
abbrev main_cst_2 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_3 : Ref sig .tc := ⟨.hbm, 75, rfl⟩
abbrev main_v63 : Ref sig .tc := ⟨.hbm, 76, rfl⟩
abbrev main_v64 : Ref sig .tc := ⟨.hbm, 77, rfl⟩
abbrev main_cst_4 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_cst_5 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_call1_cst : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_v5 : Ref sig .tc := ⟨.hbm, 95, rfl⟩
abbrev main_call1_v6 : Ref sig .tc := ⟨.hbm, 96, rfl⟩
abbrev main_call1_v7 : Ref sig .tc := ⟨.hbm, 97, rfl⟩
abbrev main_call1_v8 : Ref sig .tc := ⟨.hbm, 98, rfl⟩
abbrev main_call1_v9 : Ref sig .tc := ⟨.hbm, 99, rfl⟩
abbrev main_call1_v10 : Ref sig .tc := ⟨.hbm, 100, rfl⟩
abbrev main_call1_v11 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_6 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_7 : Ref sig .tc := ⟨.hbm, 132, rfl⟩
abbrev main_v103 : Ref sig .tc := ⟨.hbm, 133, rfl⟩
abbrev main_v104 : Ref sig .tc := ⟨.hbm, 134, rfl⟩
abbrev main_cst_8 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_cst_9 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_call2_cst : Ref sig .tc := ⟨.hbm, 146, rfl⟩
abbrev main_call2_v0 : Ref sig .tc := ⟨.hbm, 147, rfl⟩
abbrev main_call2_v1 : Ref sig .tc := ⟨.hbm, 148, rfl⟩
abbrev main_call2_v2 : Ref sig .tc := ⟨.hbm, 149, rfl⟩
abbrev main_call2_v3 : Ref sig .tc := ⟨.hbm, 150, rfl⟩
abbrev main_call2_v4 : Ref sig .tc := ⟨.hbm, 151, rfl⟩
abbrev main_call2_v5 : Ref sig .tc := ⟨.hbm, 152, rfl⟩
abbrev main_call2_v6 : Ref sig .tc := ⟨.hbm, 153, rfl⟩
abbrev main_call2_v7 : Ref sig .tc := ⟨.hbm, 154, rfl⟩
abbrev main_call2_v8 : Ref sig .tc := ⟨.hbm, 155, rfl⟩
abbrev main_call2_v9 : Ref sig .tc := ⟨.hbm, 156, rfl⟩
abbrev main_call2_v10 : Ref sig .tc := ⟨.hbm, 157, rfl⟩
abbrev main_call2_v11 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_10 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_cst_11 : Ref sig .tc := ⟨.hbm, 184, rfl⟩
abbrev main_v138 : Ref sig .tc := ⟨.hbm, 185, rfl⟩
abbrev main_cst_12 : Ref sig .tc := ⟨.hbm, 186, rfl⟩
abbrev main_v139 : Ref sig .tc := ⟨.hbm, 187, rfl⟩
abbrev main_c_13 : Ref sig .tc := ⟨.hbm, 188, rfl⟩
abbrev main_v140_0 : Ref sig .tc := ⟨.hbm, 189, rfl⟩
abbrev main_v140_1 : Ref sig .tc := ⟨.hbm, 190, rfl⟩
abbrev main_v140_2 : Ref sig .tc := ⟨.hbm, 191, rfl⟩
abbrev main_v140_3 : Ref sig .tc := ⟨.hbm, 192, rfl⟩
abbrev main_v140_4 : Ref sig .tc := ⟨.hbm, 193, rfl⟩
abbrev main_while0c_c_18 : Ref sig .tc := ⟨.hbm, 194, rfl⟩
abbrev main_while0c_v151 : Ref sig .tc := ⟨.hbm, 195, rfl⟩
abbrev main_while0b_call5_c : Ref sig .tc := ⟨.hbm, 196, rfl⟩
abbrev main_while0b_call5_c_0 : Ref sig .tc := ⟨.hbm, 197, rfl⟩
abbrev main_while0b_call5_c_1 : Ref sig .tc := ⟨.hbm, 198, rfl⟩
abbrev main_while0b_call5_v0 : Ref sig .tc := ⟨.hbm, 199, rfl⟩
abbrev main_while0b_v151 : Ref sig .tc := ⟨.hbm, 200, rfl⟩
abbrev main_while0b_call6_c : Ref sig .tc := ⟨.hbm, 201, rfl⟩
abbrev main_while0b_call6_c_0 : Ref sig .tc := ⟨.hbm, 202, rfl⟩
abbrev main_while0b_call6_c_1 : Ref sig .tc := ⟨.hbm, 203, rfl⟩
abbrev main_while0b_call6_v0 : Ref sig .tc := ⟨.hbm, 204, rfl⟩
abbrev main_while0b_v152 : Ref sig .tc := ⟨.hbm, 205, rfl⟩
abbrev main_while0b_v153 : Ref sig .tc := ⟨.hbm, 206, rfl⟩
abbrev main_while0b_v154 : Ref sig .tc := ⟨.hbm, 207, rfl⟩
abbrev main_while0b_call7_v0 : Ref sig .tc := ⟨.hbm, 208, rfl⟩
abbrev main_while0b_call7_c : Ref sig .tc := ⟨.hbm, 209, rfl⟩
abbrev main_while0b_call7_c_0 : Ref sig .tc := ⟨.hbm, 210, rfl⟩
abbrev main_while0b_call7_c_1 : Ref sig .tc := ⟨.hbm, 211, rfl⟩
abbrev main_while0b_v155 : Ref sig .tc := ⟨.hbm, 212, rfl⟩
abbrev main_while0b_c_18 : Ref sig .tc := ⟨.hbm, 213, rfl⟩
abbrev main_while0b_v156 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩

abbrev nD : Nat := 1
abbrev τ : Topo := Topo.v7x

variable {F : FTy → Type} [FloatOps F]

abbrev main_while0_count : Scf.Loop 32 := ⟨0#32, 4096#32, 1#32⟩
-- ==== InProj.lean ====
abbrev S65536x1024 : Shape := ⟨2, ![65536, 1024]⟩
abbrev S1024 : Shape := ⟨1, ![1024]⟩
abbrev S1024x11280 : Shape := ⟨2, ![1024, 11280]⟩
abbrev S11280 : Shape := ⟨1, ![11280]⟩
abbrev S1024x4096 : Shape := ⟨2, ![1024, 4096]⟩
abbrev S1024x1024 : Shape := ⟨2, ![1024, 1024]⟩
abbrev S1024x2048 : Shape := ⟨2, ![1024, 2048]⟩
abbrev S1024x512 : Shape := ⟨2, ![1024, 512]⟩
abbrev S1024x8704 : Shape := ⟨2, ![1024, 8704]⟩
abbrev S1024x16 : Shape := ⟨2, ![1024, 16]⟩
abbrev S1024x4x4 : Shape := ⟨3, ![1024, 4, 4]⟩
abbrev S_ : Shape := ⟨0, ![]⟩
abbrev S1024x4x128 : Shape := ⟨3, ![1024, 4, 128]⟩
abbrev S1024x1536 : Shape := ⟨2, ![1024, 1536]⟩
abbrev S1x11280 : Shape := ⟨2, ![1, 11280]⟩
abbrev S1x4096 : Shape := ⟨2, ![1, 4096]⟩
abbrev S1x1024 : Shape := ⟨2, ![1, 1024]⟩
abbrev S1x2048 : Shape := ⟨2, ![1, 2048]⟩
abbrev S1x512 : Shape := ⟨2, ![1, 512]⟩
abbrev S1x8704 : Shape := ⟨2, ![1, 8704]⟩
abbrev S1x16 : Shape := ⟨2, ![1, 16]⟩
abbrev S1x4x4 : Shape := ⟨3, ![1, 4, 4]⟩
abbrev S1x4x128 : Shape := ⟨3, ![1, 4, 128]⟩
abbrev S1x1536 : Shape := ⟨2, ![1, 1536]⟩
abbrev S65536x8704 : Shape := ⟨2, ![65536, 8704]⟩
abbrev S65536x1536 : Shape := ⟨2, ![65536, 1536]⟩
abbrev S256x1024 : Shape := ⟨2, ![256, 1024]⟩
abbrev S256x8704 : Shape := ⟨2, ![256, 8704]⟩
abbrev S256x1536 : Shape := ⟨2, ![256, 1536]⟩
abbrev S256 : Shape := ⟨1, ![256]⟩
abbrev S256x1 : Shape := ⟨2, ![256, 1]⟩
abbrev S256x512 : Shape := ⟨2, ![256, 512]⟩

abbrev nBuf : Space → Nat
  | .hbm => 42
  | .vmem => 15
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x11280, .f32⟩
  | .hbm, ⟨3, _⟩ => ⟨S11280, .f32⟩
  | .hbm, ⟨4, _⟩ => ⟨S1024x4096, .f32⟩
  | .hbm, ⟨5, _⟩ => ⟨S1024x1024, .f32⟩
  | .hbm, ⟨6, _⟩ => ⟨S1024x2048, .f32⟩
  | .hbm, ⟨7, _⟩ => ⟨S1024x512, .f32⟩
  | .hbm, ⟨8, _⟩ => ⟨S1024x1024, .f32⟩
  | .hbm, ⟨9, _⟩ => ⟨S1024x8704, .f32⟩
  | .hbm, ⟨10, _⟩ => ⟨S1024x16, .f32⟩
  | .hbm, ⟨11, _⟩ => ⟨S1024x4x4, .f32⟩
  | .hbm, ⟨12, _⟩ => ⟨S1024x4x4, .f32⟩
  | .hbm, ⟨13, _⟩ => ⟨S_, .f32⟩
  | .hbm, ⟨14, _⟩ => ⟨S1024x4x128, .f32⟩
  | .hbm, ⟨15, _⟩ => ⟨S1024x1024, .f32⟩
  | .hbm, ⟨16, _⟩ => ⟨S1024x512, .f32⟩
  | .hbm, ⟨17, _⟩ => ⟨S1024x1536, .f32⟩
  | .hbm, ⟨18, _⟩ => ⟨S1024x1536, .f32⟩
  | .hbm, ⟨19, _⟩ => ⟨S1x11280, .f32⟩
  | .hbm, ⟨20, _⟩ => ⟨S1x4096, .f32⟩
  | .hbm, ⟨21, _⟩ => ⟨S1x1024, .f32⟩
  | .hbm, ⟨22, _⟩ => ⟨S1x2048, .f32⟩
  | .hbm, ⟨23, _⟩ => ⟨S1x512, .f32⟩
  | .hbm, ⟨24, _⟩ => ⟨S1x1024, .f32⟩
  | .hbm, ⟨25, _⟩ => ⟨S1x8704, .f32⟩
  | .hbm, ⟨26, _⟩ => ⟨S1x16, .f32⟩
  | .hbm, ⟨27, _⟩ => ⟨S1x4x4, .f32⟩
  | .hbm, ⟨28, _⟩ => ⟨S1x4x4, .f32⟩
  | .hbm, ⟨29, _⟩ => ⟨S_, .f32⟩
  | .hbm, ⟨30, _⟩ => ⟨S1x4x128, .f32⟩
  | .hbm, ⟨31, _⟩ => ⟨S1x1024, .f32⟩
  | .hbm, ⟨32, _⟩ => ⟨S1x512, .f32⟩
  | .hbm, ⟨33, _⟩ => ⟨S1x1536, .f32⟩
  | .hbm, ⟨34, _⟩ => ⟨S1x1536, .f32⟩
  | .hbm, ⟨35, _⟩ => ⟨S1x1024, .f32⟩
  | .hbm, ⟨36, _⟩ => ⟨S1024x8704, .bf16⟩
  | .hbm, ⟨37, _⟩ => ⟨S1024x1536, .bf16⟩
  | .hbm, ⟨38, _⟩ => ⟨S1024x1536, .bf16⟩
  | .hbm, ⟨39, _⟩ => ⟨S65536x8704, .bf16⟩
  | .hbm, ⟨40, _⟩ => ⟨S65536x1536, .bf16⟩
  | .hbm, ⟨41, _⟩ => ⟨S65536x1536, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x8704, .bf16⟩
  | .local _ .vmem, ⟨4, _⟩ => ⟨S1x8704, .f32⟩
  | .local _ .vmem, ⟨5, _⟩ => ⟨S1024x1536, .bf16⟩
  | .local _ .vmem, ⟨6, _⟩ => ⟨S1x1536, .f32⟩
  | .local _ .vmem, ⟨7, _⟩ => ⟨S1024x1536, .bf16⟩
  | .local _ .vmem, ⟨8, _⟩ => ⟨S1x1536, .f32⟩
  | .local _ .vmem, ⟨9, _⟩ => ⟨S256x8704, .bf16⟩
  | .local _ .vmem, ⟨10, _⟩ => ⟨S256x8704, .bf16⟩
  | .local _ .vmem, ⟨11, _⟩ => ⟨S256x1536, .bf16⟩
  | .local _ .vmem, ⟨12, _⟩ => ⟨S256x1536, .bf16⟩
  | .local _ .vmem, ⟨13, _⟩ => ⟨S256x1536, .f32⟩
  | .local _ .vmem, ⟨14, _⟩ => ⟨S256x1536, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33_0 : Ref sig .tc := ⟨.hbm, 39, rfl⟩
abbrev main_v33_1 : Ref sig .tc := ⟨.hbm, 40, rfl⟩
abbrev main_v33_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x8704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InProjReferenceIdeal.lean ====
abbrev S65536x1024 : Shape := ⟨2, ![65536, 1024]⟩
abbrev S1024 : Shape := ⟨1, ![1024]⟩
abbrev S1024x11280 : Shape := ⟨2, ![1024, 11280]⟩
abbrev S11280 : Shape := ⟨1, ![11280]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x11280 : Shape := ⟨2, ![65536, 11280]⟩
abbrev S1x11280 : Shape := ⟨2, ![1, 11280]⟩
abbrev S65536x4096 : Shape := ⟨2, ![65536, 4096]⟩
abbrev S65536x2048 : Shape := ⟨2, ![65536, 2048]⟩
abbrev S65536x512 : Shape := ⟨2, ![65536, 512]⟩
abbrev S65536x8704 : Shape := ⟨2, ![65536, 8704]⟩
abbrev S65536x1536 : Shape := ⟨2, ![65536, 1536]⟩
abbrev S65536x16 : Shape := ⟨2, ![65536, 16]⟩
abbrev S65536x4x4 : Shape := ⟨3, ![65536, 4, 4]⟩
abbrev S65536x4x128 : Shape := ⟨3, ![65536, 4, 128]⟩

abbrev nBuf : Space → Nat
  | .hbm => 41
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x11280, .f32⟩
  | .hbm, ⟨3, _⟩ => ⟨S11280, .f32⟩
  | .hbm, ⟨4, _⟩ => ⟨S65536x1024, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S65536x1, .f32⟩
  | .hbm, ⟨15, _⟩ => ⟨S65536x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S65536x11280, .f32⟩
  | .hbm, ⟨21, _⟩ => ⟨S1x11280, .f32⟩
  | .hbm, ⟨22, _⟩ => ⟨S65536x11280, .f32⟩
  | .hbm, ⟨23, _⟩ => ⟨S65536x11280, .f32⟩
  | .hbm, ⟨24, _⟩ => ⟨S65536x4096, .f32⟩
  | .hbm, ⟨25, _⟩ => ⟨S65536x1024, .f32⟩
  | .hbm, ⟨26, _⟩ => ⟨S65536x2048, .f32⟩
  | .hbm, ⟨27, _⟩ => ⟨S65536x512, .f32⟩
  | .hbm, ⟨28, _⟩ => ⟨S65536x1024, .f32⟩
  | .hbm, ⟨29, _⟩ => ⟨S65536x8704, .f32⟩
  | .hbm, ⟨30, _⟩ => ⟨S65536x1536, .f32⟩
  | .hbm, ⟨31, _⟩ => ⟨S65536x16, .f32⟩
  | .hbm, ⟨32, _⟩ => ⟨S65536x4x4, .f32⟩
  | .hbm, ⟨33, _⟩ => ⟨S65536x4x4, .f32⟩
  | .hbm, ⟨34, _⟩ => ⟨S_, .f32⟩
  | .hbm, ⟨35, _⟩ => ⟨S65536x4x128, .f32⟩
  | .hbm, ⟨36, _⟩ => ⟨S65536x512, .f32⟩
  | .hbm, ⟨37, _⟩ => ⟨S65536x1024, .f32⟩
  | .hbm, ⟨38, _⟩ => ⟨S65536x1536, .f32⟩
  | .hbm, ⟨39, _⟩ => ⟨S65536x8704, .bf16⟩
  | .hbm, ⟨40, _⟩ => ⟨S65536x1536, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Ffn.lean ====
abbrev S65536x1024 : Shape := ⟨2, ![65536, 1024]⟩
abbrev S65536x256 : Shape := ⟨2, ![65536, 256]⟩
abbrev S1024 : Shape := ⟨1, ![1024]⟩
abbrev S1024x4096 : Shape := ⟨2, ![1024, 4096]⟩
abbrev S3x4096 : Shape := ⟨2, ![3, 4096]⟩
abbrev S4096 : Shape := ⟨1, ![4096]⟩
abbrev S2048x1024 : Shape := ⟨2, ![2048, 1024]⟩
abbrev S1024x1024 : Shape := ⟨2, ![1024, 1024]⟩
abbrev S256x1024 : Shape := ⟨2, ![256, 1024]⟩
abbrev S1x1024 : Shape := ⟨2, ![1, 1024]⟩
abbrev S1x4096 : Shape := ⟨2, ![1, 4096]⟩
abbrev S512x1024 : Shape := ⟨2, ![512, 1024]⟩
abbrev S16x1024 : Shape := ⟨2, ![16, 1024]⟩
abbrev S512x256 : Shape := ⟨2, ![512, 256]⟩
abbrev S16 : Shape := ⟨1, ![16]⟩
abbrev S16x1 : Shape := ⟨2, ![16, 1]⟩
abbrev S512 : Shape := ⟨1, ![512]⟩
abbrev S512x1 : Shape := ⟨2, ![512, 1]⟩
abbrev S544x1024 : Shape := ⟨2, ![544, 1024]⟩
abbrev S1024x2048 : Shape := ⟨2, ![1024, 2048]⟩
abbrev S544x2048 : Shape := ⟨2, ![544, 2048]⟩
abbrev S3x2048 : Shape := ⟨2, ![3, 2048]⟩
abbrev S1x2048 : Shape := ⟨2, ![1, 2048]⟩
abbrev S512x2048 : Shape := ⟨2, ![512, 2048]⟩

abbrev nBuf : Space → Nat
  | .hbm => 20
  | .vmem => 19
  | .smem => 0
  | _ => 0

abbrev bufTy : (tb : Table) → Fin (tcTables nBuf tb) → BufTy
  | .hbm, ⟨0, _⟩ => ⟨S65536x1024, .f32⟩
  | .hbm, ⟨1, _⟩ => ⟨S65536x256, .f32⟩
  | .hbm, ⟨2, _⟩ => ⟨S1024, .f32⟩
  | .hbm, ⟨3, _⟩ => ⟨S1024x4096, .f32⟩
  | .hbm, ⟨4, _⟩ => ⟨S3x4096, .f32⟩
  | .hbm, ⟨5, _⟩ => ⟨S4096, .f32⟩
  | .hbm, ⟨6, _⟩ => ⟨S2048x1024, .f32⟩
  | .hbm, ⟨7, _⟩ => ⟨S1024, .f32⟩
  | .hbm, ⟨8, _⟩ => ⟨S1024x1024, .f32⟩
  | .hbm, ⟨9, _⟩ => ⟨S256x1024, .f32⟩
  | .hbm, ⟨10, _⟩ => ⟨S1024, .f32⟩
  | .hbm, ⟨11, _⟩ => ⟨S1x1024, .f32⟩
  | .hbm, ⟨12, _⟩ => ⟨S1024x4096, .bf16⟩
  | .hbm, ⟨13, _⟩ => ⟨S1x4096, .f32⟩
  | .hbm, ⟨14, _⟩ => ⟨S2048x1024, .bf16⟩
  | .hbm, ⟨15, _⟩ => ⟨S1x1024, .f32⟩
  | .hbm, ⟨16, _⟩ => ⟨S1024x1024, .bf16⟩
  | .hbm, ⟨17, _⟩ => ⟨S256x1024, .bf16⟩
  | .hbm, ⟨18, _⟩ => ⟨S1x1024, .f32⟩
  | .hbm, ⟨19, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S512x256, .f32⟩
  | .local _ .vmem, ⟨7, _⟩ => ⟨S512x256, .f32⟩
  | .local _ .vmem, ⟨8, _⟩ => ⟨S1x1024, .f32⟩
  | .local _ .vmem, ⟨9, _⟩ => ⟨S1024x4096, .bf16⟩
  | .local _ .vmem, ⟨10, _⟩ => ⟨S3x4096, .f32⟩
  | .local _ .vmem, ⟨11, _⟩ => ⟨S1x4096, .f32⟩
  | .local _ .vmem, ⟨12, _⟩ => ⟨S2048x1024, .bf16⟩
  | .local _ .vmem, ⟨13, _⟩ => ⟨S1x1024, .f32⟩
  | .local _ .vmem, ⟨14, _⟩ => ⟨S1024x1024, .bf16⟩
  | .local _ .vmem, ⟨15, _⟩ => ⟨S256x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== FfnIdeal.lean ====
variable {F : FTy → Type} [FloatOps F] [Named F]
def κ : String → Option EReal := fun
  | "gelu_c1" => some ((((-2) * (6693141 / 8388608)) * (Real.log 2)⁻¹ : ℝ) : EReal)
  | "gelu_c3" => some (((12003091 / 268435456) * (((-2) * (6693141 / 8388608)) * (Real.log 2)⁻¹) : ℝ) : EReal)
  | _ => none
-- ==== FfnReferenceIdeal.lean ====
abbrev S65536x1024 : Shape := ⟨2, ![65536, 1024]⟩
abbrev S65536x256 : Shape := ⟨2, ![65536, 256]⟩
abbrev S1024 : Shape := ⟨1, ![1024]⟩
abbrev S1024x4096 : Shape := ⟨2, ![1024, 4096]⟩
abbrev S3x4096 : Shape := ⟨2, ![3, 4096]⟩
abbrev S4096 : Shape := ⟨1, ![4096]⟩
abbrev S2048x1024 : Shape := ⟨2, ![2048, 1024]⟩
abbrev S1024x1024 : Shape := ⟨2, ![1024, 1024]⟩
abbrev S256x1024 : Shape := ⟨2, ![256, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x4096 : Shape := ⟨2, ![65536, 4096]⟩
abbrev S16x4096x4096 : Shape := ⟨3, ![16, 4096, 4096]⟩
abbrev S16x4098x4096 : Shape := ⟨3, ![16, 4098, 4096]⟩
abbrev S1x4096 : Shape := ⟨2, ![1, 4096]⟩
abbrev S1x1x4096 : Shape := ⟨3, ![1, 1, 4096]⟩
abbrev S65536x2048 : Shape := ⟨2, ![65536, 2048]⟩

abbrev nBuf : Space → Nat
  | .hbm => 122
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x256, .f32⟩
  | .hbm, ⟨2, _⟩ => ⟨S1024, .f32⟩
  | .hbm, ⟨3, _⟩ => ⟨S1024x4096, .f32⟩
  | .hbm, ⟨4, _⟩ => ⟨S3x4096, .f32⟩
  | .hbm, ⟨5, _⟩ => ⟨S4096, .f32⟩
  | .hbm, ⟨6, _⟩ => ⟨S2048x1024, .f32⟩
  | .hbm, ⟨7, _⟩ => ⟨S1024, .f32⟩
  | .hbm, ⟨8, _⟩ => ⟨S1024x1024, .f32⟩
  | .hbm, ⟨9, _⟩ => ⟨S256x1024, .f32⟩
  | .hbm, ⟨10, _⟩ => ⟨S1024, .f32⟩
  | .hbm, ⟨11, _⟩ => ⟨S65536x1024, .f32⟩
  | .hbm, ⟨12, _⟩ => ⟨S_, .f32⟩
  | .hbm, ⟨13, _⟩ => ⟨S65536, .f32⟩
  | .hbm, ⟨14, _⟩ => ⟨S65536x1, .f32⟩
  | .hbm, ⟨15, _⟩ => ⟨S_, .f32⟩
  | .hbm, ⟨16, _⟩ => ⟨S65536x1, .f32⟩
  | .hbm, ⟨17, _⟩ => ⟨S65536x1, .f32⟩
  | .hbm, ⟨18, _⟩ => ⟨S_, .f32⟩
  | .hbm, ⟨19, _⟩ => ⟨S65536x1, .f32⟩
  | .hbm, ⟨20, _⟩ => ⟨S65536x1, .f32⟩
  | .hbm, ⟨21, _⟩ => ⟨S65536x1, .f32⟩
  | .hbm, ⟨22, _⟩ => ⟨S65536x1024, .f32⟩
  | .hbm, ⟨23, _⟩ => ⟨S65536x1024, .f32⟩
  | .hbm, ⟨24, _⟩ => ⟨S1x1024, .f32⟩
  | .hbm, ⟨25, _⟩ => ⟨S65536x1024, .f32⟩
  | .hbm, ⟨26, _⟩ => ⟨S65536x1024, .f32⟩
  | .hbm, ⟨27, _⟩ => ⟨S65536x4096, .f32⟩
  | .hbm, ⟨28, _⟩ => ⟨S16x4096x4096, .f32⟩
  | .hbm, ⟨29, _⟩ => ⟨S_, .i32⟩
  | .hbm, ⟨30, _⟩ => ⟨S_, .f32⟩
  | .hbm, ⟨31, _⟩ => ⟨S16x4098x4096, .f32⟩
  | .hbm, ⟨32, _⟩ => ⟨S1x4096, .f32⟩
  | .hbm, ⟨33, _⟩ => ⟨S4096, .f32⟩
  | .hbm, ⟨34, _⟩ => ⟨S16x4096x4096, .f32⟩
  | .hbm, ⟨35, _⟩ => ⟨S1x1x4096, .f32⟩
  | .hbm, ⟨36, _⟩ => ⟨S16x4096x4096, .f32⟩
  | .hbm, ⟨37, _⟩ => ⟨S16x4096x4096, .f32⟩
  | .hbm, ⟨38, _⟩ => ⟨S1x1x4096, .f32⟩
  | .hbm, ⟨39, _⟩ => ⟨S16x4096x4096, .f32⟩
  | .hbm, ⟨40, _⟩ => ⟨S16x4096x4096, .f32⟩
  | .hbm, ⟨41, _⟩ => ⟨S1x4096, .f32⟩
  | .hbm, ⟨42, _⟩ => ⟨S4096, .f32⟩
  | .hbm, ⟨43, _⟩ => ⟨S16x4096x4096, .f32⟩
  | .hbm, ⟨44, _⟩ => ⟨S1x1x4096, .f32⟩
  | .hbm, ⟨45, _⟩ => ⟨S16x4096x4096, .f32⟩
  | .hbm, ⟨46, _⟩ => ⟨S16x4096x4096, .f32⟩
  | .hbm, ⟨47, _⟩ => ⟨S16x4096x4096, .f32⟩
  | .hbm, ⟨48, _⟩ => ⟨S1x4096, .f32⟩
  | .hbm, ⟨49, _⟩ => ⟨S4096, .f32⟩
  | .hbm, ⟨50, _⟩ => ⟨S16x4096x4096, .f32⟩
  | .hbm, ⟨51, _⟩ => ⟨S1x1x4096, .f32⟩
  | .hbm, ⟨52, _⟩ => ⟨S16x4096x4096, .f32⟩
  | .hbm, ⟨53, _⟩ => ⟨S16x4096x4096, .f32⟩
  | .hbm, ⟨54, _⟩ => ⟨S16x4096x4096, .f32⟩
  | .hbm, ⟨55, _⟩ => ⟨S65536x4096, .f32⟩
  | .hbm, ⟨56, _⟩ => ⟨S65536x2048, .f32⟩
  | .hbm, ⟨57, _⟩ => ⟨S65536x2048, .f32⟩
  | .hbm, ⟨58, _⟩ => ⟨S65536x2048, .f32⟩
  | .hbm, ⟨59, _⟩ => ⟨S_, .f32⟩
  | .hbm, ⟨60, _⟩ => ⟨S65536x2048, .f32⟩
  | .hbm, ⟨61, _⟩ => ⟨S65536x2048, .f32⟩
  | .hbm, ⟨62, _⟩ => ⟨S65536x2048, .f32⟩
  | .hbm, ⟨63, _⟩ => ⟨S_, .f32⟩
  | .hbm, ⟨64, _⟩ => ⟨S65536x2048, .f32⟩
  | .hbm, ⟨65, _⟩ => ⟨S65536x2048, .f32⟩
  | .hbm, ⟨66, _⟩ => ⟨S65536x2048, .f32⟩
  | .hbm, ⟨67, _⟩ => ⟨S_, .f32⟩
  | .hbm, ⟨68, _⟩ => ⟨S65536x2048, .f32⟩
  | .hbm, ⟨69, _⟩ => ⟨S65536x2048, .f32⟩
  | .hbm, ⟨70, _⟩ => ⟨S_, .f32⟩
  | .hbm, ⟨71, _⟩ => ⟨S65536x2048, .f32⟩
  | .hbm, ⟨72, _⟩ => ⟨S65536x2048, .f32⟩
  | .hbm, ⟨73, _⟩ => ⟨S65536x2048, .f32⟩
  | .hbm, ⟨74, _⟩ => ⟨S65536x2048, .f32⟩
  | .hbm, ⟨75, _⟩ => ⟨S65536x2048, .f32⟩
  | .hbm, ⟨76, _⟩ => ⟨S65536x1024, .f32⟩
  | .hbm, ⟨77, _⟩ => ⟨S65536x1024, .f32⟩
  | .hbm, ⟨78, _⟩ => ⟨S65536x1024, .f32⟩
  | .hbm, ⟨79, _⟩ => ⟨S_, .f32⟩
  | .hbm, ⟨80, _⟩ => ⟨S65536, .f32⟩
  | .hbm, ⟨81, _⟩ => ⟨S65536x1, .f32⟩
  | .hbm, ⟨82, _⟩ => ⟨S_, .f32⟩
  | .hbm, ⟨83, _⟩ => ⟨S65536x1, .f32⟩
  | .hbm, ⟨84, _⟩ => ⟨S65536x1, .f32⟩
  | .hbm, ⟨85, _⟩ => ⟨S_, .f32⟩
  | .hbm, ⟨86, _⟩ => ⟨S65536x1, .f32⟩
  | .hbm, ⟨87, _⟩ => ⟨S65536x1, .f32⟩
  | .hbm, ⟨88, _⟩ => ⟨S65536x1, .f32⟩
  | .hbm, ⟨89, _⟩ => ⟨S65536x1024, .f32⟩
  | .hbm, ⟨90, _⟩ => ⟨S65536x1024, .f32⟩
  | .hbm, ⟨91, _⟩ => ⟨S1x1024, .f32⟩
  | .hbm, ⟨92, _⟩ => ⟨S65536x1024, .f32⟩
  | .hbm, ⟨93, _⟩ => ⟨S65536x1024, .f32⟩
  | .hbm, ⟨94, _⟩ => ⟨S65536x1024, .f32⟩
  | .hbm, ⟨95, _⟩ => ⟨S65536x1024, .f32⟩
  | .hbm, ⟨96, _⟩ => ⟨S65536x1024, .f32⟩
  | .hbm, ⟨97, _⟩ => ⟨S_, .f32⟩
  | .hbm, ⟨98, _⟩ => ⟨S65536x1024, .f32⟩
  | .hbm, ⟨99, _⟩ => ⟨S65536x1024, .f32⟩
  | .hbm, ⟨100, _⟩ => ⟨S_, .f32⟩
  | .hbm, ⟨101, _⟩ => ⟨S65536x1024, .f32⟩
  | .hbm, ⟨102, _⟩ => ⟨S65536x1024, .f32⟩
  | .hbm, ⟨103, _⟩ => ⟨S65536x1024, .f32⟩
  | .hbm, ⟨104, _⟩ => ⟨S65536x1024, .f32⟩
  | .hbm, ⟨105, _⟩ => ⟨S65536x1024, .f32⟩
  | .hbm, ⟨106, _⟩ => ⟨S65536x1024, .f32⟩
  | .hbm, ⟨107, _⟩ => ⟨S_, .f32⟩
  | .hbm, ⟨108, _⟩ => ⟨S65536, .f32⟩
  | .hbm, ⟨109, _⟩ => ⟨S65536x1, .f32⟩
  | .hbm, ⟨110, _⟩ => ⟨S_, .f32⟩
  | .hbm, ⟨111, _⟩ => ⟨S65536x1, .f32⟩
  | .hbm, ⟨112, _⟩ => ⟨S65536x1, .f32⟩
  | .hbm, ⟨113, _⟩ => ⟨S_, .f32⟩
  | .hbm, ⟨114, _⟩ => ⟨S65536x1, .f32⟩
  | .hbm, ⟨115, _⟩ => ⟨S65536x1, .f32⟩
  | .hbm, ⟨116, _⟩ => ⟨S65536x1, .f32⟩
  | .hbm, ⟨117, _⟩ => ⟨S65536x1024, .f32⟩
  | .hbm, ⟨118, _⟩ => ⟨S65536x1024, .f32⟩
  | .hbm, ⟨119, _⟩ => ⟨S1x1024, .f32⟩
  | .hbm, ⟨120, _⟩ => ⟨S65536x1024, .f32⟩
  | .hbm, ⟨121, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_call0_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_2 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_3 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_4 : Ref sig .tc := ⟨.hbm, 67, rfl⟩
abbrev main_v49 : Ref sig .tc := ⟨.hbm, 68, rfl⟩
abbrev main_v50 : Ref sig .tc := ⟨.hbm, 69, rfl⟩
abbrev main_cst_5 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_6 : Ref sig .tc := ⟨.hbm, 79, rfl⟩
abbrev main_v59 : Ref sig .tc := ⟨.hbm, 80, rfl⟩
abbrev main_v60 : Ref sig .tc := ⟨.hbm, 81, rfl⟩
abbrev main_cst_7 : Ref sig .tc := ⟨.hbm, 82, rfl⟩
abbrev main_v61 : Ref sig .tc := ⟨.hbm, 83, rfl⟩
abbrev main_v62 : Ref sig .tc := ⟨.hbm, 84, rfl⟩
abbrev main_cst_8 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_9 : Ref sig .tc := ⟨.hbm, 97, rfl⟩
abbrev main_v74 : Ref sig .tc := ⟨.hbm, 98, rfl⟩
abbrev main_v75 : Ref sig .tc := ⟨.hbm, 99, rfl⟩
abbrev main_cst_10 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_11 : Ref sig .tc := ⟨.hbm, 107, rfl⟩
abbrev main_v82 : Ref sig .tc := ⟨.hbm, 108, rfl⟩
abbrev main_v83 : Ref sig .tc := ⟨.hbm, 109, rfl⟩
abbrev main_cst_12 : Ref sig .tc := ⟨.hbm, 110, rfl⟩
abbrev main_v84 : Ref sig .tc := ⟨.hbm, 111, rfl⟩
abbrev main_v85 : Ref sig .tc := ⟨.hbm, 112, rfl⟩
abbrev main_cst_13 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩

abbrev nD : Nat := 1
abbrev τ : Topo := Topo.v7x

variable {F : FTy → Type} [FloatOps F]
-- ==== Merge.lean ====
abbrev S65536x1024 : Shape := ⟨2, ![65536, 1024]⟩
abbrev S65536x8704 : Shape := ⟨2, ![65536, 8704]⟩
abbrev S65536x512 : Shape := ⟨2, ![65536, 512]⟩
abbrev S4x512x1024 : Shape := ⟨3, ![4, 512, 1024]⟩
abbrev S1024x1024 : Shape := ⟨2, ![1024, 1024]⟩
abbrev S512x1024 : Shape := ⟨2, ![512, 1024]⟩
abbrev S512x512 : Shape := ⟨2, ![512, 512]⟩
abbrev S1x512x1024 : Shape := ⟨3, ![1, 512, 1024]⟩

abbrev nBuf : Space → Nat
  | .hbm => 11
  | .vmem => 22
  | .smem => 0
  | _ => 0

abbrev bufTy : (tb : Table) → Fin (tcTables nBuf tb) → BufTy
  | .hbm, ⟨0, _⟩ => ⟨S65536x1024, .f32⟩
  | .hbm, ⟨1, _⟩ => ⟨S65536x8704, .bf16⟩
  | .hbm, ⟨2, _⟩ => ⟨S65536x512, .bf16⟩
  | .hbm, ⟨3, _⟩ => ⟨S65536x512, .bf16⟩
  | .hbm, ⟨4, _⟩ => ⟨S65536x512, .bf16⟩
  | .hbm, ⟨5, _⟩ => ⟨S65536x512, .bf16⟩
  | .hbm, ⟨6, _⟩ => ⟨S4x512x1024, .f32⟩
  | .hbm, ⟨7, _⟩ => ⟨S1024x1024, .f32⟩
  | .hbm, ⟨8, _⟩ => ⟨S4x512x1024, .bf16⟩
  | .hbm, ⟨9, _⟩ => ⟨S1024x1024, .bf16⟩
  | .hbm, ⟨10, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S4x512x1024, .bf16⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeReferenceIdeal.lean ====
abbrev S65536x1024 : Shape := ⟨2, ![65536, 1024]⟩
abbrev S65536x8704 : Shape := ⟨2, ![65536, 8704]⟩
abbrev S65536x512 : Shape := ⟨2, ![65536, 512]⟩
abbrev S4x512x1024 : Shape := ⟨3, ![4, 512, 1024]⟩
abbrev S1024x1024 : Shape := ⟨2, ![1024, 1024]⟩
abbrev S_ : Shape := ⟨0, ![]⟩
abbrev S1x512x1024 : Shape := ⟨3, ![1, 512, 1024]⟩
abbrev S512x1024 : Shape := ⟨2, ![512, 1024]⟩

abbrev nBuf : Space → Nat
  | .hbm => 73
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x8704, .bf16⟩
  | .hbm, ⟨2, _⟩ => ⟨S65536x512, .bf16⟩
  | .hbm, ⟨3, _⟩ => ⟨S65536x512, .bf16⟩
  | .hbm, ⟨4, _⟩ => ⟨S65536x512, .bf16⟩
  | .hbm, ⟨5, _⟩ => ⟨S65536x512, .bf16⟩
  | .hbm, ⟨6, _⟩ => ⟨S4x512x1024, .f32⟩
  | .hbm, ⟨7, _⟩ => ⟨S1024x1024, .f32⟩
  | .hbm, ⟨8, _⟩ => ⟨S65536x1024, .bf16⟩
  | .hbm, ⟨9, _⟩ => ⟨S65536x1024, .f32⟩
  | .hbm, ⟨10, _⟩ => ⟨S65536x1024, .f32⟩
  | .hbm, ⟨11, _⟩ => ⟨S65536x1024, .f32⟩
  | .hbm, ⟨12, _⟩ => ⟨S_, .f32⟩
  | .hbm, ⟨13, _⟩ => ⟨S65536x1024, .f32⟩
  | .hbm, ⟨14, _⟩ => ⟨S65536x1024, .f32⟩
  | .hbm, ⟨15, _⟩ => ⟨S_, .f32⟩
  | .hbm, ⟨16, _⟩ => ⟨S65536x1024, .f32⟩
  | .hbm, ⟨17, _⟩ => ⟨S65536x1024, .f32⟩
  | .hbm, ⟨18, _⟩ => ⟨S65536x512, .f32⟩
  | .hbm, ⟨19, _⟩ => ⟨S1x512x1024, .f32⟩
  | .hbm, ⟨20, _⟩ => ⟨S512x1024, .f32⟩
  | .hbm, ⟨21, _⟩ => ⟨S65536x1024, .f32⟩
  | .hbm, ⟨22, _⟩ => ⟨S65536x1024, .f32⟩
  | .hbm, ⟨23, _⟩ => ⟨S65536x1024, .bf16⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S_, .f32⟩
  | .hbm, ⟨28, _⟩ => ⟨S65536x1024, .f32⟩
  | .hbm, ⟨29, _⟩ => ⟨S65536x1024, .f32⟩
  | .hbm, ⟨30, _⟩ => ⟨S_, .f32⟩
  | .hbm, ⟨31, _⟩ => ⟨S65536x1024, .f32⟩
  | .hbm, ⟨32, _⟩ => ⟨S65536x1024, .f32⟩
  | .hbm, ⟨33, _⟩ => ⟨S65536x512, .f32⟩
  | .hbm, ⟨34, _⟩ => ⟨S1x512x1024, .f32⟩
  | .hbm, ⟨35, _⟩ => ⟨S512x1024, .f32⟩
  | .hbm, ⟨36, _⟩ => ⟨S65536x1024, .f32⟩
  | .hbm, ⟨37, _⟩ => ⟨S65536x1024, .f32⟩
  | .hbm, ⟨38, _⟩ => ⟨S65536x1024, .f32⟩
  | .hbm, ⟨39, _⟩ => ⟨S65536x1024, .bf16⟩
  | .hbm, ⟨40, _⟩ => ⟨S65536x1024, .f32⟩
  | .hbm, ⟨41, _⟩ => ⟨S65536x1024, .f32⟩
  | .hbm, ⟨42, _⟩ => ⟨S65536x1024, .f32⟩
  | .hbm, ⟨43, _⟩ => ⟨S_, .f32⟩
  | .hbm, ⟨44, _⟩ => ⟨S65536x1024, .f32⟩
  | .hbm, ⟨45, _⟩ => ⟨S65536x1024, .f32⟩
  | .hbm, ⟨46, _⟩ => ⟨S_, .f32⟩
  | .hbm, ⟨47, _⟩ => ⟨S65536x1024, .f32⟩
  | .hbm, ⟨48, _⟩ => ⟨S65536x1024, .f32⟩
  | .hbm, ⟨49, _⟩ => ⟨S65536x512, .f32⟩
  | .hbm, ⟨50, _⟩ => ⟨S1x512x1024, .f32⟩
  | .hbm, ⟨51, _⟩ => ⟨S512x1024, .f32⟩
  | .hbm, ⟨52, _⟩ => ⟨S65536x1024, .f32⟩
  | .hbm, ⟨53, _⟩ => ⟨S65536x1024, .f32⟩
  | .hbm, ⟨54, _⟩ => ⟨S65536x1024, .f32⟩
  | .hbm, ⟨55, _⟩ => ⟨S65536x1024, .bf16⟩
  | .hbm, ⟨56, _⟩ => ⟨S65536x1024, .f32⟩
  | .hbm, ⟨57, _⟩ => ⟨S65536x1024, .f32⟩
  | .hbm, ⟨58, _⟩ => ⟨S65536x1024, .f32⟩
  | .hbm, ⟨59, _⟩ => ⟨S_, .f32⟩
  | .hbm, ⟨60, _⟩ => ⟨S65536x1024, .f32⟩
  | .hbm, ⟨61, _⟩ => ⟨S65536x1024, .f32⟩
  | .hbm, ⟨62, _⟩ => ⟨S_, .f32⟩
  | .hbm, ⟨63, _⟩ => ⟨S65536x1024, .f32⟩
  | .hbm, ⟨64, _⟩ => ⟨S65536x1024, .f32⟩
  | .hbm, ⟨65, _⟩ => ⟨S65536x512, .f32⟩
  | .hbm, ⟨66, _⟩ => ⟨S1x512x1024, .f32⟩
  | .hbm, ⟨67, _⟩ => ⟨S512x1024, .f32⟩
  | .hbm, ⟨68, _⟩ => ⟨S65536x1024, .f32⟩
  | .hbm, ⟨69, _⟩ => ⟨S65536x1024, .f32⟩
  | .hbm, ⟨70, _⟩ => ⟨S65536x1024, .f32⟩
  | .hbm, ⟨71, _⟩ => ⟨S65536x1024, .f32⟩
  | .hbm, ⟨72, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩

abbrev nD : Nat := 1
abbrev τ : Topo := Topo.v7x

variable {F : FTy → Type} [FloatOps F]
-- ==== FfnSample.lean ====
abbrev S16384x1024 : Shape := ⟨2, ![16384, 1024]⟩
abbrev S16384x256 : Shape := ⟨2, ![16384, 256]⟩
abbrev S1024 : Shape := ⟨1, ![1024]⟩
abbrev S1024x4096 : Shape := ⟨2, ![1024, 4096]⟩
abbrev S3x4096 : Shape := ⟨2, ![3, 4096]⟩
abbrev S4096 : Shape := ⟨1, ![4096]⟩
abbrev S2048x1024 : Shape := ⟨2, ![2048, 1024]⟩
abbrev S1024x1024 : Shape := ⟨2, ![1024, 1024]⟩
abbrev S256x1024 : Shape := ⟨2, ![256, 1024]⟩
abbrev S1x1024 : Shape := ⟨2, ![1, 1024]⟩
abbrev S1x4096 : Shape := ⟨2, ![1, 4096]⟩
abbrev S512x1024 : Shape := ⟨2, ![512, 1024]⟩
abbrev S16x1024 : Shape := ⟨2, ![16, 1024]⟩
abbrev S512x256 : Shape := ⟨2, ![512, 256]⟩
abbrev S16 : Shape := ⟨1, ![16]⟩
abbrev S16x1 : Shape := ⟨2, ![16, 1]⟩
abbrev S512 : Shape := ⟨1, ![512]⟩
abbrev S512x1 : Shape := ⟨2, ![512, 1]⟩
abbrev S544x1024 : Shape := ⟨2, ![544, 1024]⟩
abbrev S1024x2048 : Shape := ⟨2, ![1024, 2048]⟩
abbrev S544x2048 : Shape := ⟨2, ![544, 2048]⟩
abbrev S3x2048 : Shape := ⟨2, ![3, 2048]⟩
abbrev S1x2048 : Shape := ⟨2, ![1, 2048]⟩
abbrev S512x2048 : Shape := ⟨2, ![512, 2048]⟩

abbrev nBuf : Space → Nat
  | .hbm => 20
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S1024, .f32⟩
  | .hbm, ⟨3, _⟩ => ⟨S1024x4096, .f32⟩
  | .hbm, ⟨4, _⟩ => ⟨S3x4096, .f32⟩
  | .hbm, ⟨5, _⟩ => ⟨S4096, .f32⟩
  | .hbm, ⟨6, _⟩ => ⟨S2048x1024, .f32⟩
  | .hbm, ⟨7, _⟩ => ⟨S1024, .f32⟩
  | .hbm, ⟨8, _⟩ => ⟨S1024x1024, .f32⟩
  | .hbm, ⟨9, _⟩ => ⟨S256x1024, .f32⟩
  | .hbm, ⟨10, _⟩ => ⟨S1024, .f32⟩
  | .hbm, ⟨11, _⟩ => ⟨S1x1024, .f32⟩
  | .hbm, ⟨12, _⟩ => ⟨S1024x4096, .bf16⟩
  | .hbm, ⟨13, _⟩ => ⟨S1x4096, .f32⟩
  | .hbm, ⟨14, _⟩ => ⟨S2048x1024, .bf16⟩
  | .hbm, ⟨15, _⟩ => ⟨S1x1024, .f32⟩
  | .hbm, ⟨16, _⟩ => ⟨S1024x1024, .bf16⟩
  | .hbm, ⟨17, _⟩ => ⟨S256x1024, .bf16⟩
  | .hbm, ⟨18, _⟩ => ⟨S1x1024, .f32⟩
  | .hbm, ⟨19, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S512x256, .f32⟩
  | .local _ .vmem, ⟨7, _⟩ => ⟨S512x256, .f32⟩
  | .local _ .vmem, ⟨8, _⟩ => ⟨S1x1024, .f32⟩
  | .local _ .vmem, ⟨9, _⟩ => ⟨S1024x4096, .bf16⟩
  | .local _ .vmem, ⟨10, _⟩ => ⟨S3x4096, .f32⟩
  | .local _ .vmem, ⟨11, _⟩ => ⟨S1x4096, .f32⟩
  | .local _ .vmem, ⟨12, _⟩ => ⟨S2048x1024, .bf16⟩
  | .local _ .vmem, ⟨13, _⟩ => ⟨S1x1024, .f32⟩
  | .local _ .vmem, ⟨14, _⟩ => ⟨S1024x1024, .bf16⟩
  | .local _ .vmem, ⟨15, _⟩ => ⟨S256x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== FfnSampleIdeal.lean ====
variable {F : FTy → Type} [FloatOps F] [Named F]
def κ : String → Option EReal := fun
  | "gelu_c1" => some ((((-2) * (6693141 / 8388608)) * (Real.log 2)⁻¹ : ℝ) : EReal)
  | "gelu_c3" => some (((12003091 / 268435456) * (((-2) * (6693141 / 8388608)) * (Real.log 2)⁻¹) : ℝ) : EReal)
  | _ => none
-- ==== FfnSampleReferenceIdeal.lean ====
abbrev S16384x1024 : Shape := ⟨2, ![16384, 1024]⟩
abbrev S16384x256 : Shape := ⟨2, ![16384, 256]⟩
abbrev S1024 : Shape := ⟨1, ![1024]⟩
abbrev S1024x4096 : Shape := ⟨2, ![1024, 4096]⟩
abbrev S3x4096 : Shape := ⟨2, ![3, 4096]⟩
abbrev S4096 : Shape := ⟨1, ![4096]⟩
abbrev S2048x1024 : Shape := ⟨2, ![2048, 1024]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩
abbrev S2x8192x4096 : Shape := ⟨3, ![2, 8192, 4096]⟩
abbrev S2x8194x4096 : Shape := ⟨3, ![2, 8194, 4096]⟩
abbrev S1x4096 : Shape := ⟨2, ![1, 4096]⟩
abbrev S1x1x4096 : Shape := ⟨3, ![1, 1, 4096]⟩
abbrev S16384x2048 : Shape := ⟨2, ![16384, 2048]⟩

abbrev nBuf : Space → Nat
  | .hbm => 122
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S1024, .f32⟩
  | .hbm, ⟨3, _⟩ => ⟨S1024x4096, .f32⟩
  | .hbm, ⟨4, _⟩ => ⟨S3x4096, .f32⟩
  | .hbm, ⟨5, _⟩ => ⟨S4096, .f32⟩
  | .hbm, ⟨6, _⟩ => ⟨S2048x1024, .f32⟩
  | .hbm, ⟨7, _⟩ => ⟨S1024, .f32⟩
  | .hbm, ⟨8, _⟩ => ⟨S1024x1024, .f32⟩
  | .hbm, ⟨9, _⟩ => ⟨S256x1024, .f32⟩
  | .hbm, ⟨10, _⟩ => ⟨S1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x4096, .f32⟩
  | .hbm, ⟨28, _⟩ => ⟨S2x8192x4096, .f32⟩
  | .hbm, ⟨29, _⟩ => ⟨S_, .i32⟩
  | .hbm, ⟨30, _⟩ => ⟨S_, .f32⟩
  | .hbm, ⟨31, _⟩ => ⟨S2x8194x4096, .f32⟩
  | .hbm, ⟨32, _⟩ => ⟨S1x4096, .f32⟩
  | .hbm, ⟨33, _⟩ => ⟨S4096, .f32⟩
  | .hbm, ⟨34, _⟩ => ⟨S2x8192x4096, .f32⟩
  | .hbm, ⟨35, _⟩ => ⟨S1x1x4096, .f32⟩
  | .hbm, ⟨36, _⟩ => ⟨S2x8192x4096, .f32⟩
  | .hbm, ⟨37, _⟩ => ⟨S2x8192x4096, .f32⟩
  | .hbm, ⟨38, _⟩ => ⟨S1x1x4096, .f32⟩
  | .hbm, ⟨39, _⟩ => ⟨S2x8192x4096, .f32⟩
  | .hbm, ⟨40, _⟩ => ⟨S2x8192x4096, .f32⟩
  | .hbm, ⟨41, _⟩ => ⟨S1x4096, .f32⟩
  | .hbm, ⟨42, _⟩ => ⟨S4096, .f32⟩
  | .hbm, ⟨43, _⟩ => ⟨S2x8192x4096, .f32⟩
  | .hbm, ⟨44, _⟩ => ⟨S1x1x4096, .f32⟩
  | .hbm, ⟨45, _⟩ => ⟨S2x8192x4096, .f32⟩
  | .hbm, ⟨46, _⟩ => ⟨S2x8192x4096, .f32⟩
  | .hbm, ⟨47, _⟩ => ⟨S2x8192x4096, .f32⟩
  | .hbm, ⟨48, _⟩ => ⟨S1x4096, .f32⟩
  | .hbm, ⟨49, _⟩ => ⟨S4096, .f32⟩
  | .hbm, ⟨50, _⟩ => ⟨S2x8192x4096, .f32⟩
  | .hbm, ⟨51, _⟩ => ⟨S1x1x4096, .f32⟩
  | .hbm, ⟨52, _⟩ => ⟨S2x8192x4096, .f32⟩
  | .hbm, ⟨53, _⟩ => ⟨S2x8192x4096, .f32⟩
  | .hbm, ⟨54, _⟩ => ⟨S2x8192x4096, .f32⟩
  | .hbm, ⟨55, _⟩ => ⟨S16384x4096, .f32⟩
  | .hbm, ⟨56, _⟩ => ⟨S16384x2048, .f32⟩
  | .hbm, ⟨57, _⟩ => ⟨S16384x2048, .f32⟩
  | .hbm, ⟨58, _⟩ => ⟨S16384x2048, .f32⟩
  | .hbm, ⟨59, _⟩ => ⟨S_, .f32⟩
  | .hbm, ⟨60, _⟩ => ⟨S16384x2048, .f32⟩
  | .hbm, ⟨61, _⟩ => ⟨S16384x2048, .f32⟩
  | .hbm, ⟨62, _⟩ => ⟨S16384x2048, .f32⟩
  | .hbm, ⟨63, _⟩ => ⟨S_, .f32⟩
  | .hbm, ⟨64, _⟩ => ⟨S16384x2048, .f32⟩
  | .hbm, ⟨65, _⟩ => ⟨S16384x2048, .f32⟩
  | .hbm, ⟨66, _⟩ => ⟨S16384x2048, .f32⟩
  | .hbm, ⟨67, _⟩ => ⟨S_, .f32⟩
  | .hbm, ⟨68, _⟩ => ⟨S16384x2048, .f32⟩
  | .hbm, ⟨69, _⟩ => ⟨S16384x2048, .f32⟩
  | .hbm, ⟨70, _⟩ => ⟨S_, .f32⟩
  | .hbm, ⟨71, _⟩ => ⟨S16384x2048, .f32⟩
  | .hbm, ⟨72, _⟩ => ⟨S16384x2048, .f32⟩
  | .hbm, ⟨73, _⟩ => ⟨S16384x2048, .f32⟩
  | .hbm, ⟨74, _⟩ => ⟨S16384x2048, .f32⟩
  | .hbm, ⟨75, _⟩ => ⟨S16384x2048, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S_, .f32⟩
  | .hbm, ⟨80, _⟩ => ⟨S16384, .f32⟩
  | .hbm, ⟨81, _⟩ => ⟨S16384x1, .f32⟩
  | .hbm, ⟨82, _⟩ => ⟨S_, .f32⟩
  | .hbm, ⟨83, _⟩ => ⟨S16384x1, .f32⟩
  | .hbm, ⟨84, _⟩ => ⟨S16384x1, .f32⟩
  | .hbm, ⟨85, _⟩ => ⟨S_, .f32⟩
  | .hbm, ⟨86, _⟩ => ⟨S16384x1, .f32⟩
  | .hbm, ⟨87, _⟩ => ⟨S16384x1, .f32⟩
  | .hbm, ⟨88, _⟩ => ⟨S16384x1, .f32⟩
  | .hbm, ⟨89, _⟩ => ⟨S16384x1024, .f32⟩
  | .hbm, ⟨90, _⟩ => ⟨S16384x1024, .f32⟩
  | .hbm, ⟨91, _⟩ => ⟨S1x1024, .f32⟩
  | .hbm, ⟨92, _⟩ => ⟨S16384x1024, .f32⟩
  | .hbm, ⟨93, _⟩ => ⟨S16384x1024, .f32⟩
  | .hbm, ⟨94, _⟩ => ⟨S16384x1024, .f32⟩
  | .hbm, ⟨95, _⟩ => ⟨S16384x1024, .f32⟩
  | .hbm, ⟨96, _⟩ => ⟨S16384x1024, .f32⟩
  | .hbm, ⟨97, _⟩ => ⟨S_, .f32⟩
  | .hbm, ⟨98, _⟩ => ⟨S16384x1024, .f32⟩
  | .hbm, ⟨99, _⟩ => ⟨S16384x1024, .f32⟩
  | .hbm, ⟨100, _⟩ => ⟨S_, .f32⟩
  | .hbm, ⟨101, _⟩ => ⟨S16384x1024, .f32⟩
  | .hbm, ⟨102, _⟩ => ⟨S16384x1024, .f32⟩
  | .hbm, ⟨103, _⟩ => ⟨S16384x1024, .f32⟩
  | .hbm, ⟨104, _⟩ => ⟨S16384x1024, .f32⟩
  | .hbm, ⟨105, _⟩ => ⟨S16384x1024, .f32⟩
  | .hbm, ⟨106, _⟩ => ⟨S16384x1024, .f32⟩
  | .hbm, ⟨107, _⟩ => ⟨S_, .f32⟩
  | .hbm, ⟨108, _⟩ => ⟨S16384, .f32⟩
  | .hbm, ⟨109, _⟩ => ⟨S16384x1, .f32⟩
  | .hbm, ⟨110, _⟩ => ⟨S_, .f32⟩
  | .hbm, ⟨111, _⟩ => ⟨S16384x1, .f32⟩
  | .hbm, ⟨112, _⟩ => ⟨S16384x1, .f32⟩
  | .hbm, ⟨113, _⟩ => ⟨S_, .f32⟩
  | .hbm, ⟨114, _⟩ => ⟨S16384x1, .f32⟩
  | .hbm, ⟨115, _⟩ => ⟨S16384x1, .f32⟩
  | .hbm, ⟨116, _⟩ => ⟨S16384x1, .f32⟩
  | .hbm, ⟨117, _⟩ => ⟨S16384x1024, .f32⟩
  | .hbm, ⟨118, _⟩ => ⟨S16384x1024, .f32⟩
  | .hbm, ⟨119, _⟩ => ⟨S1x1024, .f32⟩
  | .hbm, ⟨120, _⟩ => ⟨S16384x1024, .f32⟩
  | .hbm, ⟨121, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_call0_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_2 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_3 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_4 : Ref sig .tc := ⟨.hbm, 67, rfl⟩
abbrev main_v49 : Ref sig .tc := ⟨.hbm, 68, rfl⟩
abbrev main_v50 : Ref sig .tc := ⟨.hbm, 69, rfl⟩
abbrev main_cst_5 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_6 : Ref sig .tc := ⟨.hbm, 79, rfl⟩
abbrev main_v59 : Ref sig .tc := ⟨.hbm, 80, rfl⟩
abbrev main_v60 : Ref sig .tc := ⟨.hbm, 81, rfl⟩
abbrev main_cst_7 : Ref sig .tc := ⟨.hbm, 82, rfl⟩
abbrev main_v61 : Ref sig .tc := ⟨.hbm, 83, rfl⟩
abbrev main_v62 : Ref sig .tc := ⟨.hbm, 84, rfl⟩
abbrev main_cst_8 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_9 : Ref sig .tc := ⟨.hbm, 97, rfl⟩
abbrev main_v74 : Ref sig .tc := ⟨.hbm, 98, rfl⟩
abbrev main_v75 : Ref sig .tc := ⟨.hbm, 99, rfl⟩
abbrev main_cst_10 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_11 : Ref sig .tc := ⟨.hbm, 107, rfl⟩
abbrev main_v82 : Ref sig .tc := ⟨.hbm, 108, rfl⟩
abbrev main_v83 : Ref sig .tc := ⟨.hbm, 109, rfl⟩
abbrev main_cst_12 : Ref sig .tc := ⟨.hbm, 110, rfl⟩
abbrev main_v84 : Ref sig .tc := ⟨.hbm, 111, rfl⟩
abbrev main_v85 : Ref sig .tc := ⟨.hbm, 112, rfl⟩
abbrev main_cst_13 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩

abbrev nD : Nat := 1
abbrev τ : Topo := Topo.v7x

variable {F : FTy → Type} [FloatOps F]
-- ==== Proof.InProj.Rows.lean ====
/- The input projection in plain words: one row of the hidden state, normalised by its root mean square and scaled, then
   multiplied by one column of the projection's weights, plus that column's bias. And where each column of the three
   grouped outputs stands among the projection's 11280 columns. -/
module

public import Idealize.ShloMosaic.Lib.ValueIdx
public import Idealize.ShloMosaic.PureOps.Ideal.Laws

@[expose] public section

noncomputable section

namespace Cert.InProjRows

open Idealize.ShloMosaic Idealize.ShloMosaic.ValueIdx

/-- One entry of a row after the RMS norm: the entry times the reciprocal root of the row's mean square plus the small
    constant, times the scale. -/
def normed (h g : Fin 1024 → EReal) (k : Fin 1024) : EReal :=
  h k * Ideal.rsqrt (Ideal.div (∑ x, h x * h x) (Ideal.ofBits FTy.f32 1149239296#32) + Ideal.ofBits FTy.f32 897988541#32) * g k

/-- One entry of the projection: the normed row times a column of weights, plus the column's bias. -/
def entry (h g w : Fin 1024 → EReal) (b : EReal) : EReal := ∑ k, normed h g k * w k + b

theorem entry_congr {h h' g g' w w' : Fin 1024 → EReal} {b b' : EReal} (eh : ∀ k, h k = h' k) (eg : ∀ k, g k = g' k)
    (ew : ∀ k, w k = w' k) (eb : b = b') : entry h g w b = entry h' g' w' b' := by
  obtain rfl := funext eh; obtain rfl := funext eg; obtain rfl := funext ew; subst eb; rfl

/-- A column whose weights and bias are zero projects to zero. -/
theorem entry_zero (h g : Fin 1024 → EReal) : entry h g (fun _ => 0) 0 = 0 := by
  simp only [entry, mul_zero, Finset.sum_const_zero, add_zero]

/-- Where column `n` of the first group stands: the output gate's columns, then the RG-LRU's two, the mLSTM's four, and
    of the last layer's five the first, the fourth and the fifth. -/
def colBf (n : Fin 8704) : Fin 11280 :=
  if h : n.val < 4096 then ⟨7184 + n.val, by omega⟩
  else if h1 : n.val - 4096 < 1024 then ⟨n.val - 4096, by omega⟩
  else if h2 : n.val - 4096 - 1024 < 2048 then ⟨1024 + (n.val - 4096 - 1024), by omega⟩
  else if h3 : n.val - 4096 - 1024 - 2048 < 512 then ⟨4624 + (n.val - 4096 - 1024 - 2048), by omega⟩
  else ⟨6160 + (n.val - 4096 - 1024 - 2048 - 512), by omega⟩

/-- Where column `n` of the second group stands: the Hyena operator's three. -/
def colHy (n : Fin 1536) : Fin 11280 := ⟨3088 + n.val, by omega⟩

/-- Column `n` of the third group, read from a function `f` of the projection's columns: the forget projections, then per
    head the four gates in the head's first four lanes and zero in the others. -/
def colFp (f : Fin 11280 → EReal) (n : Fin 1536) : EReal :=
  if h : n.val < 1024 then f ⟨5136 + n.val, by omega⟩
  else if h1 : (n.val - 1024) / 128 < 4 ∧ (n.val - 1024) % 128 < 4 then
    f ⟨3072 + ((n.val - 1024) % 128 * 4 + (n.val - 1024) / 128), by omega⟩
  else 0

/-- Regrouping the weights' columns and the biases and then projecting is projecting and then regrouping the columns. -/
theorem entry_colFp (h g : Fin 1024 → EReal) (w : Fin 1024 → Fin 11280 → EReal) (b : Fin 11280 → EReal) (n : Fin 1536) :
    entry h g (fun k => colFp (w k) n) (colFp b n) = colFp (fun j => entry h g (fun k => w k j) (b j)) n := by
  unfold colFp
  by_cases h0 : n.val < 1024
  · simp only [dif_pos h0]
  · by_cases h1 : (n.val - 1024) / 128 < 4 ∧ (n.val - 1024) % 128 < 4
    · simp only [dif_neg h0, dif_pos h1]
    · simp only [dif_neg h0, dif_neg h1, entry_zero]

end Cert.InProjRows

end
-- ==== Proof.InProj.Host.lean ====
/- The operands the host prepares for the launch: the projection's weights and biases with their columns regrouped. -/
module

public import proofs.«01_k».proof.Proof.Gen.InProjIdeal.Value
public import proofs.«01_k».proof.Proof.InProj.Rows
public import Idealize.ShloMosaic.Lib.Pipeline.ValueKit.Point
public import Idealize.ShloMosaic.Lib.Pointwise
public import Idealize.ShloMosaic.Lib.Claim

@[expose] public section

set_option maxRecDepth 16384

noncomputable section

namespace Cert.InProjIdeal.Host

open Cert.InProjIdeal Cert.InProjIdeal.Gen Cert.InProjRows Idealize.ShloMosaic Idealize.ShloMosaic.TcCoe Idealize.SL.Sem

section
variable {F : FTy → Type} [FloatOps F]
variable (m : (ℓ : Loc nD τ sig) → Buf (Elt F) ℓ)

/-- The first group of weight columns. -/
def wBf (w : Vec F S1024x11280 .f32) : Vec F S1024x8704 .bf16 :=
  truncf .bf16 (concatenate S1024x8704 1 [⟨S1024x4096, extractStridedSlice S1024x4096 ![0, 7184] w slices_S1024x11280_S1024x4096_0_7184⟩,
    ⟨S1024x1024, extractStridedSlice S1024x1024 ![0, 0] w slices_S1024x11280_S1024x1024_0_0⟩,
    ⟨S1024x2048, extractStridedSlice S1024x2048 ![0, 1024] w slices_S1024x11280_S1024x2048_0_1024⟩,
    ⟨S1024x512, extractStridedSlice S1024x512 ![0, 4624] w slices_S1024x11280_S1024x512_0_4624⟩,
    ⟨S1024x1024, extractStridedSlice S1024x1024 ![0, 6160] w slices_S1024x11280_S1024x1024_0_6160⟩]
    concatenates_S1024x4096_S1024x1024_S1024x2048_S1024x512_S1024x1024_S1024x8704_d1) bitsLt_bf16_f32

/-- The first group of biases. -/
def bBf (b : Vec F S11280 .f32) : Vec F S1x8704 .f32 :=
  concatenate S1x8704 1 [⟨S1x4096, extractStridedSlice S1x4096 ![0, 7184] (broadcastInDim S1x11280 ![1] bcast_S11280_S1x11280_1 b) slices_S1x11280_S1x4096_0_7184⟩,
    ⟨S1x1024, extractStridedSlice S1x1024 ![0, 0] (broadcastInDim S1x11280 ![1] bcast_S11280_S1x11280_1 b) slices_S1x11280_S1x1024_0_0⟩,
    ⟨S1x2048, extractStridedSlice S1x2048 ![0, 1024] (broadcastInDim S1x11280 ![1] bcast_S11280_S1x11280_1 b) slices_S1x11280_S1x2048_0_1024⟩,
    ⟨S1x512, extractStridedSlice S1x512 ![0, 4624] (broadcastInDim S1x11280 ![1] bcast_S11280_S1x11280_1 b) slices_S1x11280_S1x512_0_4624⟩,
    ⟨S1x1024, extractStridedSlice S1x1024 ![0, 6160] (broadcastInDim S1x11280 ![1] bcast_S11280_S1x11280_1 b) slices_S1x11280_S1x1024_0_6160⟩]
    concatenates_S1x4096_S1x1024_S1x2048_S1x512_S1x1024_S1x8704_d1

set_option maxHeartbeats 2000000 in
theorem w_bf_eq (c : Dev nD) : V m c main_v30 = wBf (m ((c : Thread nD τ).loc main_arg2)) := by
  unfold V hostOps0
  (after_results_simp <;> (try dsimp only [Matrix.cons_val]) <;> (try after_results_simp) <;> rfl)

set_option maxHeartbeats 2000000 in
theorem b_bf_eq (c : Dev nD) : V m c main_v20 = bBf (m ((c : Thread nD τ).loc main_arg3)) := by
  unfold V hostOps0
  (after_results_simp <;> (try dsimp only [Matrix.cons_val]) <;> (try after_results_simp) <;> rfl)
end

variable (m : (ℓ : Loc nD τ sig) → Buf (Elt Ideal) ℓ)

/-- The weights as a function of row and column. -/
def W (c : Dev nD) (k : Fin 1024) (n : Fin 11280) : EReal := (m ((c : Thread nD τ).loc main_arg2) : S1024x11280.Idx → EReal) (ix2 k n)
/-- The biases as a function of the column. -/
def B (c : Dev nD) (n : Fin 11280) : EReal := (m ((c : Thread nD τ).loc main_arg3) : S11280.Idx → EReal) (ix1 n)

theorem w_bf_at (c : Dev nD) (k : Fin 1024) (n : Fin 8704) :
    (V m c main_v30 : S1024x8704.Idx → EReal) (ix2 k n) = W m c k (colBf n) := by
  rw [w_bf_eq]
  pointwise [wBf, W, colBf]
  split_ifs <;> rfl

theorem b_bf_at (c : Dev nD) (n : Fin 8704) :
    (V m c main_v20 : S1x8704.Idx → EReal) (ix2 0 n) = B m c (colBf n) := by
  rw [b_bf_eq]
  pointwise [bBf, B, colBf]
  split_ifs <;> rfl

theorem w_hy_at (c : Dev nD) (k : Fin 1024) (n : Fin 1536) :
    (V m c main_v31 : S1024x1536.Idx → EReal) (ix2 k n) = W m c k (colHy n) := by
  entry_read
  pointwise [W, colHy]
  try rfl

theorem b_hy_at (c : Dev nD) (n : Fin 1536) :
    (V m c main_v28 : S1x1536.Idx → EReal) (ix2 0 n) = B m c (colHy n) := by
  entry_read
  pointwise [B, colHy]
  try rfl

theorem w_fp_at (c : Dev nD) (k : Fin 1024) (n : Fin 1536) :
    (V m c main_v32 : S1024x1536.Idx → EReal) (ix2 k n) = colFp (W m c k) n := by
  entry_read
  pointwise [W, colFp]
  try rfl

theorem b_fp_at (c : Dev nD) (n : Fin 1536) :
    (V m c main_v27 : S1x1536.Idx → EReal) (ix2 0 n) = colFp (B m c) n := by
  entry_read
  pointwise [B, colFp]
  try rfl

theorem g_at (c : Dev nD) (k : Fin 1024) :
    (V m c main_v29 : S1x1024.Idx → EReal) (ix2 0 k) = (m ((c : Thread nD τ).loc main_arg1) : S1024.Idx → EReal) (ix1 k) := by
  entry_read
  pointwise
  try rfl

end Cert.InProjIdeal.Host
end
-- ==== Proof.InProj.Block.lean ====
/- What one grid point writes: a block of 256 rows, each entry the projection of its normed row. -/
module

public import proofs.«01_k».proof.Proof.Gen.InProjIdeal.Value
public import proofs.«01_k».proof.Proof.InProj.Rows
public import Idealize.ShloMosaic.Lib.Pipeline.ValueKit.Point
public import Idealize.ShloMosaic.Lib.Pointwise

@[expose] public section

set_option maxRecDepth 16384

noncomputable section

namespace Cert.InProjIdeal.Block

open Cert.InProjIdeal Cert.InProjIdeal.Gen Cert.InProjRows Idealize.ShloMosaic Idealize.ShloMosaic.TcCoe Idealize.SL.Sem

variable (x0 : Vec Ideal S256x1024 .f32) (x1 : Vec Ideal S1x1024 .f32) (x2 : Vec Ideal S1024x8704 .bf16) (x3 : Vec Ideal S1x8704 .f32)
  (x4 : Vec Ideal S1024x1536 .bf16) (x5 : Vec Ideal S1x1536 .f32) (x6 : Vec Ideal S1024x1536 .bf16) (x7 : Vec Ideal S1x1536 .f32)

theorem out9_at (y : S256x1536.Idx) :
    out0_9 x0 x1 x2 x3 x4 x5 x6 x7 y = entry (fun k => x0 (ix2 (y 0) k)) (fun k => x1 (ix2 0 k)) (fun k => x4 (ix2 k (y 1))) (x5 (ix2 0 (y 1))) := by
  unfold out0_9
  canon_tiles x h
  pointwise [k0_pay2, k0_pay25, k0_pay4, entry, normed]
  blk_point []

theorem out10_at (y : S256x1536.Idx) :
    out0_10 x0 x1 x2 x3 x4 x5 x6 x7 y = entry (fun k => x0 (ix2 (y 0) k)) (fun k => x1 (ix2 0 k)) (fun k => x6 (ix2 k (y 1))) (x7 (ix2 0 (y 1))) := by
  unfold out0_10
  canon_tiles x h
  pointwise [k0_pay3, k0_pay25, k0_pay4, entry, normed]
  blk_point []

theorem out8_at (y : S256x8704.Idx) :
    out0_8 x0 x1 x2 x3 x4 x5 x6 x7 y = entry (fun k => x0 (ix2 (y 0) k)) (fun k => x1 (ix2 0 k)) (fun k => x2 (ix2 k (y 1))) (x3 (ix2 0 (y 1))) := by
  unfold out0_8
  canon_tiles x h
  all_goals
    pointwise [k0_pay1, k0_pay5, k0_pay6, k0_pay7, k0_pay8, k0_pay9, k0_pay10, k0_pay11, k0_pay12, k0_pay13, k0_pay14, k0_pay15,
      k0_pay16, k0_pay17, k0_pay18, k0_pay19, k0_pay20, k0_pay21, k0_pay22, k0_pay23, k0_pay24, k0_pay25, k0_pay4, entry, normed]
    blk_point []

end Cert.InProjIdeal.Block
end
-- ==== Proof.InProj.Value.lean ====
/- The kernel's three results: the projection's entries with the columns regrouped. -/
module

public import proofs.«01_k».proof.Proof.InProj.Host
public import proofs.«01_k».proof.Proof.InProj.Block

@[expose] public section

set_option maxRecDepth 16384

noncomputable section

namespace Cert.InProjIdeal.Result

open Cert.InProjIdeal Cert.InProjIdeal.Gen Cert.InProjIdeal.Host Cert.InProjIdeal.Block Cert.InProjRows Idealize.ShloMosaic Idealize.ShloMosaic.TcCoe Idealize.SL.Sem

variable (m : (ℓ : Loc nD τ sig) → Buf (Elt Ideal) ℓ)

/-- Row `r` of the hidden state. -/
def H (c : Dev nD) (r : Fin 65536) (k : Fin 1024) : EReal := (m ((c : Thread nD τ).loc main_arg0) : S65536x1024.Idx → EReal) (ix2 r k)
/-- The norm's scale. -/
def Sc (c : Dev nD) (k : Fin 1024) : EReal := (m ((c : Thread nD τ).loc main_arg1) : S1024.Idx → EReal) (ix1 k)

/-- The projection's entry at row `r` and column `n`. -/
def proj (c : Dev nD) (r : Fin 65536) (n : Fin 11280) : EReal := entry (H m c r) (Sc m c) (fun k => W m c k n) (B m c n)

def G8 (c : Dev nD) : S65536x8704.Idx → EReal := fun i => proj m c (i 0) (colBf (i 1))
def G9 (c : Dev nD) : S65536x1536.Idx → EReal := fun i => proj m c (i 0) (colHy (i 1))
def G10 (c : Dev nD) : S65536x1536.Idx → EReal := fun i => colFp (proj m c (i 0)) (i 1)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)

theorem lt_N (t : Fin cfg0.N) : t.val < 256 := t.isLt

/-- Row `r` of block `t` of the hidden state is row `256 t + r` of the array. -/
theorem blk0 (c : Dev nD) (t : Fin cfg0.N) (r : Fin 256) (k : Fin 1024) :
    (iblk m c 0 t : S256x1024.Idx → EReal) (ix2 r k) = H m c ⟨t.val * 256 + r.val, by have := lt_N t; omega⟩ k := by
  unfold H
  blk_ext! [iblk, V_main_arg0, idx0 t]
theorem blk1 (c : Dev nD) (t : Fin cfg0.N) (k : Fin 1024) : (iblk m c 1 t : S1x1024.Idx → EReal) (ix2 0 k) = Sc m c k := by
  refine Eq.trans ?_ (g_at m c k)
  show V m c main_v29 _ = V m c main_v29 _
  blk_ext [idx1 t]
theorem blk2 (c : Dev nD) (t : Fin cfg0.N) (k : Fin 1024) (n : Fin 8704) : (iblk m c 2 t : S1024x8704.Idx → EReal) (ix2 k n) = W m c k (colBf n) := by
  refine Eq.trans ?_ (w_bf_at m c k n)
  show V m c main_v30 _ = V m c main_v30 _
  blk_ext [idx2 t]
theorem blk3 (c : Dev nD) (t : Fin cfg0.N) (n : Fin 8704) : (iblk m c 3 t : S1x8704.Idx → EReal) (ix2 0 n) = B m c (colBf n) := by
  refine Eq.trans ?_ (b_bf_at m c n)
  show V m c main_v20 _ = V m c main_v20 _
  blk_ext [idx3 t]
theorem blk4 (c : Dev nD) (t : Fin cfg0.N) (k : Fin 1024) (n : Fin 1536) : (iblk m c 4 t : S1024x1536.Idx → EReal) (ix2 k n) = W m c k (colHy n) := by
  refine Eq.trans ?_ (w_hy_at m c k n)
  show V m c main_v31 _ = V m c main_v31 _
  blk_ext [idx4 t]
theorem blk5 (c : Dev nD) (t : Fin cfg0.N) (n : Fin 1536) : (iblk m c 5 t : S1x1536.Idx → EReal) (ix2 0 n) = B m c (colHy n) := by
  refine Eq.trans ?_ (b_hy_at m c n)
  show V m c main_v28 _ = V m c main_v28 _
  blk_ext [idx5 t]
theorem blk6 (c : Dev nD) (t : Fin cfg0.N) (k : Fin 1024) (n : Fin 1536) : (iblk m c 6 t : S1024x1536.Idx → EReal) (ix2 k n) = colFp (W m c k) n := by
  refine Eq.trans ?_ (w_fp_at m c k n)
  show V m c main_v32 _ = V m c main_v32 _
  blk_ext [idx6 t]
theorem blk7 (c : Dev nD) (t : Fin cfg0.N) (n : Fin 1536) : (iblk m c 7 t : S1x1536.Idx → EReal) (ix2 0 n) = colFp (B m c) n := by
  refine Eq.trans ?_ (b_fp_at m c n)
  show V m c main_v27 _ = V m c main_v27 _
  blk_ext [idx7 t]

theorem G8_of (c : Dev nD) (i : S65536x8704.Idx) (r : Fin 65536) (n : Fin 8704) (h0 : (i 0).val = r.val) (h1 : (i 1).val = n.val) :
    proj m c r (colBf n) = G8 m c i := by
  obtain rfl : i 0 = r := Fin.ext h0
  obtain rfl : i 1 = n := Fin.ext h1
  rfl

/-- What grid point `t` writes of this result. -/
theorem point8 (c : Dev nD) (t : Fin cfg0.N) (y : S256x8704.Idx) :
    out0_8 (iblk m c 0 t) (iblk m c 1 t) (iblk m c 2 t) (iblk m c 3 t) (iblk m c 4 t) (iblk m c 5 t) (iblk m c 6 t) (iblk m c 7 t) y = proj m c ⟨t.val * 256 + (y 0).val, by have := lt_N t; have : (y 0).val < 256 := (y 0).isLt; omega⟩ (colBf (y 1)) := by
  refine (out8_at _ _ _ _ _ _ _ _ y).trans ?_
  refine (entry_congr (fun k => blk0 m c t (y 0) k) (fun k => blk1 m c t k) (fun k => blk2 m c t k (y 1)) (blk3 m c t (y 1))).trans ?_
  rfl

theorem final8 (c : Dev nD) : (dats m 0 c).arrAt 8 cfg0.N = G8 m c := by
  refine (dats m 0 c).arrAt_eq_of_covers 8 _ (by decide +kernel) fun t hf y => ?_
  blk_simp
  rw [after0_8]
  refine (point8 m c t y).trans (G8_of m c _ _ _ ?_ ?_) <;> blk_simp [idx8 t] <;> simp

theorem G9_of (c : Dev nD) (i : S65536x1536.Idx) (r : Fin 65536) (n : Fin 1536) (h0 : (i 0).val = r.val) (h1 : (i 1).val = n.val) :
    proj m c r (colHy n) = G9 m c i := by
  obtain rfl : i 0 = r := Fin.ext h0
  obtain rfl : i 1 = n := Fin.ext h1
  rfl

/-- What grid point `t` writes of this result. -/
theorem point9 (c : Dev nD) (t : Fin cfg0.N) (y : S256x1536.Idx) :
    out0_9 (iblk m c 0 t) (iblk m c 1 t) (iblk m c 2 t) (iblk m c 3 t) (iblk m c 4 t) (iblk m c 5 t) (iblk m c 6 t) (iblk m c 7 t) y = proj m c ⟨t.val * 256 + (y 0).val, by have := lt_N t; have : (y 0).val < 256 := (y 0).isLt; omega⟩ (colHy (y 1)) := by
  refine (out9_at _ _ _ _ _ _ _ _ y).trans ?_
  refine (entry_congr (fun k => blk0 m c t (y 0) k) (fun k => blk1 m c t k) (fun k => blk4 m c t k (y 1)) (blk5 m c t (y 1))).trans ?_
  rfl

theorem final9 (c : Dev nD) : (dats m 0 c).arrAt 9 cfg0.N = G9 m c := by
  refine (dats m 0 c).arrAt_eq_of_covers 9 _ (by decide +kernel) fun t hf y => ?_
  blk_simp
  rw [after0_9]
  refine (point9 m c t y).trans (G9_of m c _ _ _ ?_ ?_) <;> blk_simp [idx9 t] <;> simp

theorem G10_of (c : Dev nD) (i : S65536x1536.Idx) (r : Fin 65536) (n : Fin 1536) (h0 : (i 0).val = r.val) (h1 : (i 1).val = n.val) :
    colFp (proj m c r) n = G10 m c i := by
  obtain rfl : i 0 = r := Fin.ext h0
  obtain rfl : i 1 = n := Fin.ext h1
  rfl

/-- What grid point `t` writes of this result. -/
theorem point10 (c : Dev nD) (t : Fin cfg0.N) (y : S256x1536.Idx) :
    out0_10 (iblk m c 0 t) (iblk m c 1 t) (iblk m c 2 t) (iblk m c 3 t) (iblk m c 4 t) (iblk m c 5 t) (iblk m c 6 t) (iblk m c 7 t) y = colFp (proj m c ⟨t.val * 256 + (y 0).val, by have := lt_N t; have : (y 0).val < 256 := (y 0).isLt; omega⟩) (y 1) := by
  refine (out10_at _ _ _ _ _ _ _ _ y).trans ?_
  refine (entry_congr (fun k => blk0 m c t (y 0) k) (fun k => blk1 m c t k) (fun k => blk6 m c t k (y 1)) (blk7 m c t (y 1))).trans ?_
  exact entry_colFp _ _ _ _ _

theorem final10 (c : Dev nD) : (dats m 0 c).arrAt 10 cfg0.N = G10 m c := by
  refine (dats m 0 c).arrAt_eq_of_covers 10 _ (by decide +kernel) fun t hf y => ?_
  blk_simp
  rw [after0_10]
  refine (point10 m c t y).trans (G10_of m c _ _ _ ?_ ?_) <;> blk_simp [idx10 t] <;> simp

/-- The kernel's run: its three results are the three groups of the projection, and its arguments are kept. -/
theorem run (ρ : Dev nD → PrngReg) :
    θ_run defs (onTc (τ := τ) (main (F := Ideal))) ⟨m, fun _ => 0, ρ⟩ fun r => ∀ c : Dev nD,
      r.2.mem ((c : Thread nD τ).loc main_v33_0) = G8 m c
      ∧ r.2.mem ((c : Thread nD τ).loc main_v33_1) = G9 m c
      ∧ r.2.mem ((c : Thread nD τ).loc main_v33_2) = G10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Value.run_blocks m ρ)
  obtain ⟨h0, h1, h2, ha⟩ := h c
  exact ⟨h0.trans (final8 m c), h1.trans (final9 m c), h2.trans (final10 m c), ha⟩

end Cert.InProjIdeal.Result
end
-- ==== Proof.InProj.Ref.lean ====
/- The reference's three results: the projection's entries, sliced and joined into the three groups. -/
module

public import proofs.«01_k».proof.Proof.Gen.InProjReferenceIdeal.Run
public import proofs.«01_k».proof.Proof.InProj.Rows
public import Idealize.ShloMosaic.Lib.Pointwise
public import Idealize.ShloMosaic.Lib.Claim

@[expose] public section

set_option maxRecDepth 16384

noncomputable section

namespace Cert.InProjReferenceIdeal.Result

open Cert.InProjReferenceIdeal Cert.InProjReferenceIdeal.Gen Cert.InProjReferenceIdeal.Value Cert.InProjRows Idealize.ShloMosaic Idealize.ShloMosaic.TcCoe Idealize.SL.Sem

variable (m : (ℓ : Loc nD τ sig) → Buf (Elt Ideal) ℓ)

/-- The projection's entry at row `r` and column `n`. -/
def proj (c : Dev nD) (r : Fin 65536) (n : Fin 11280) : EReal :=
  entry (fun k => (m ((c : Thread nD τ).loc main_arg0) : S65536x1024.Idx → EReal) (ix2 r k))
    (fun k => (m ((c : Thread nD τ).loc main_arg1) : S1024.Idx → EReal) (ix1 k))
    (fun k => (m ((c : Thread nD τ).loc main_arg2) : S1024x11280.Idx → EReal) (ix2 k n))
    ((m ((c : Thread nD τ).loc main_arg3) : S11280.Idx → EReal) (ix1 n))

def G8 (c : Dev nD) : S65536x8704.Idx → EReal := fun i => proj m c (i 0) (colBf (i 1))
def G9 (c : Dev nD) : S65536x1536.Idx → EReal := fun i => proj m c (i 0) (colHy (i 1))
def G10 (c : Dev nD) : S65536x1536.Idx → EReal := fun i => colFp (proj m c (i 0)) (i 1)

/-- The reference's run: its three results are the three groups, and its arguments are kept. -/
theorem run (ρ : Dev nD → PrngReg) :
    θ_run defs (onTc (τ := τ) (main (F := Ideal))) ⟨m, fun _ => 0, ρ⟩ fun r => ∀ c : Dev nD,
      r.2.mem ((c.tc : Thread nD τ).loc main_v31) = G8 m c
      ∧ r.2.mem ((c.tc : Thread nD τ).loc main_v32) = G9 m c
      ∧ r.2.mem ((c.tc : Thread nD τ).loc main_v30) = G10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run m ρ)
  obtain ⟨h0, h1, h2, ha⟩ := h c
  refine ⟨h0.trans ?_, h1.trans ?_, h2.trans ?_, ha⟩
  · funext i
    pointwise [res_main_v31, G8, proj, entry, normed, colBf]
    split_ifs <;> rfl
  · funext i
    pointwise [G9, proj, entry, normed, colHy]
    try rfl
  · funext i
    pointwise [G10, proj, entry, normed, colFp]
    try (split_ifs <;> rfl)

/-- The reference's frame: it ends with its arguments kept and every counter at zero. -/
theorem frame (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2.2.2, Idealize.ShloMosaic.sem_eq_zero_of_no_sems (by decide) r.2⟩) (Value.run m ρ)

end Cert.InProjReferenceIdeal.Result
end
-- ==== Proof.Ffn.Rows.lean ====
/- The feed-forward step in plain words: the normed row and its two neighbours projected up, a convolution of three taps,
   the gated activation, the projection down, the per-layer embedding behind its gate, and the last norm. And the two ways
   the activation is written, equal at every extended real. -/
module

public import Idealize.ShloMosaic.Lib.ValueIdx
public import Idealize.ShloMosaic.PureOps.Ideal.Laws
public import proofs.«01_k».proof.Proof.InProj.Rows

@[expose] public section

noncomputable section

namespace Cert.FfnRows

open Idealize.ShloMosaic Idealize.ShloMosaic.ValueIdx Cert.InProjRows

/-- The activation through a power of two and a quotient. -/
def geluK (x : EReal) : EReal :=
  Ideal.div x (1 + Ideal.exp2 (x * (((((-2) * (6693141 / 8388608)) * (Real.log 2)⁻¹ : ℝ) : EReal)
    + (((12003091 / 268435456) * (((-2) * (6693141 / 8388608)) * (Real.log 2)⁻¹) : ℝ) : EReal) * (x * x))))

/-- The activation through the hyperbolic tangent. -/
def geluR (x : EReal) : EReal :=
  x * (((1 / 2 : ℝ) : EReal) * (1 + Ideal.tanh (((6693141 / 8388608 : ℝ) : EReal) * (x + ((12003091 / 268435456 : ℝ) : EReal) * (x * x * x)))))

theorem gelu_real (x : ℝ) :
    x / (1 + Real.rpow 2 (x * (((-2) * (6693141 / 8388608)) * (Real.log 2)⁻¹
      + (12003091 / 268435456) * (((-2) * (6693141 / 8388608)) * (Real.log 2)⁻¹) * (x * x))))
    = x * (1 / 2 * (1 + Real.tanh (6693141 / 8388608 * (x + 12003091 / 268435456 * (x * x * x))))) := by
  set t : ℝ := 6693141 / 8388608 * (x + 12003091 / 268435456 * (x * x * x)) with ht
  have hl : Real.log 2 ≠ 0 := (Real.log_pos (by norm_num)).ne'
  have e : Real.rpow 2 (x * (((-2) * (6693141 / 8388608)) * (Real.log 2)⁻¹
      + (12003091 / 268435456) * (((-2) * (6693141 / 8388608)) * (Real.log 2)⁻¹) * (x * x))) = Real.exp (-t) * Real.exp (-t) := by
    rw [Real.rpow_eq_pow]
    rw [Real.rpow_def_of_pos (by norm_num), ← Real.exp_add]
    congr 1
    rw [ht]; field_simp; ring
  rw [e, Real.tanh_eq_sinh_div_cosh, Real.sinh_eq, Real.cosh_eq]
  have h1 : Real.exp t * Real.exp (-t) = 1 := by rw [← Real.exp_add]; simp
  have p1 := Real.exp_pos t
  have p2 := Real.exp_pos (-t)
  generalize Real.exp t = a at *
  generalize Real.exp (-t) = b at *
  have : 1 + b * b ≠ 0 := by positivity
  have : a + b ≠ 0 := by positivity
  field_simp
  have e2 : a = 1 / b := by field_simp; linarith
  subst e2
  field_simp
  ring

theorem gelu_eq (x : EReal) : geluK x = geluR x := by
  have hl : 0 < Real.log 2 := Real.log_pos (by norm_num)
  have hc1 : ((((-2) * (6693141 / 8388608)) * (Real.log 2)⁻¹ : ℝ)) < 0 := by
    have := inv_pos.mpr hl; nlinarith
  have hc3 : (((12003091 / 268435456) * (((-2) * (6693141 / 8388608)) * (Real.log 2)⁻¹) : ℝ)) < 0 := by nlinarith
  induction x using EReal.rec with
  | bot =>
    unfold geluK geluR
    rw [EReal.bot_mul_bot, EReal.coe_mul_top_of_neg hc3, EReal.add_bot, EReal.bot_mul_bot, Ideal.exp2_top,
      EReal.top_mul_bot, EReal.coe_mul_bot_of_pos (by norm_num), EReal.add_bot, EReal.coe_mul_bot_of_pos (by norm_num), Ideal.tanh_bot]
    simp [Ideal.div]
    have h1 : (1 : EReal) + ⊤ = ⊤ := EReal.add_top_of_ne_bot (by decide)
    have h2 : (1 : EReal) + -1 = 0 := by
      rw [← EReal.coe_one, ← EReal.coe_neg, ← EReal.coe_add]; simp
    rw [h1, h2]; simp
  | top =>
    unfold geluK geluR
    rw [EReal.top_mul_top, EReal.coe_mul_top_of_neg hc3, EReal.add_bot, EReal.top_mul_bot, Ideal.exp2_bot,
      EReal.top_mul_top, EReal.coe_mul_top_of_pos (by norm_num), EReal.top_add_top, EReal.coe_mul_top_of_pos (by norm_num), Ideal.tanh_top]
    simp [Ideal.div]
    rw [← EReal.coe_one, ← EReal.coe_add, ← EReal.coe_mul, EReal.top_mul_coe_of_pos (by norm_num)]
  | coe x =>
    unfold geluK geluR
    simp only [← EReal.coe_mul, ← EReal.coe_add, Ideal.exp2_coe, Ideal.tanh_coe, ← EReal.coe_one]
    rw [Ideal.div_coe, ← EReal.coe_mul, ← gelu_real, one_div, ← div_eq_mul_inv]
    have : 0 < Real.rpow 2 (x * (((-2) * (6693141 / 8388608)) * (Real.log 2)⁻¹
      + (12003091 / 268435456) * (((-2) * (6693141 / 8388608)) * (Real.log 2)⁻¹) * (x * x))) := Real.rpow_pos_of_pos (by norm_num) _
    linarith

/-- Three taps of the convolution at one column: the bias, then the row before, the row itself and the row after. -/
def conv (b w0 w1 w2 p c n : EReal) : EReal := b + w0 * p + w1 * c + w2 * n

/-- The normed row before: at a block's first row the last of the rows before the block, zero where a sequence begins. -/
def before (x0 : Fin 512 → Fin 1024 → EReal) (xp : Fin 1024 → EReal) (g : Fin 1024 → EReal) (f : Bool) (r : Fin 512) (k : Fin 1024) : EReal :=
  if r.val = 0 then (if f then 0 else normed xp g k) else normed (x0 ⟨r.val - 1, by omega⟩) g k

/-- The normed row after: at a block's last row the first of the rows after the block, zero where a sequence ends. -/
def after (x0 : Fin 512 → Fin 1024 → EReal) (xn : Fin 1024 → EReal) (g : Fin 1024 → EReal) (l : Bool) (r : Fin 512) (k : Fin 1024) : EReal :=
  if h : r.val + 1 < 512 then normed (x0 ⟨r.val + 1, h⟩) g k else (if l then 0 else normed xn g k)

/-- One column of the up-projected and convolved row. -/
def up (b w0 w1 w2 : EReal) (p c n w : Fin 1024 → EReal) : EReal :=
  conv b w0 w1 w2 (∑ k, p k * w k) (∑ k, c k * w k) (∑ k, n k * w k)

/-- The row after the gated activation is projected down and added. -/
def down (gl : EReal → EReal) (h : Fin 1024 → EReal) (u1 u2 : Fin 2048 → EReal) (wd : Fin 2048 → Fin 1024 → EReal) (j : Fin 1024) : EReal :=
  h j + ∑ i, gl (u1 i) * u2 i * wd i j

/-- The row after the per-layer embedding is added behind its gate. -/
def ple (h : Fin 1024 → EReal) (p : Fin 256 → EReal) (g : Fin 1024 → EReal) (wg : Fin 1024 → Fin 1024 → EReal) (wp : Fin 256 → Fin 1024 → EReal)
    (j : Fin 1024) : EReal :=
  h j + Ideal.logistic (∑ k, normed h g k * wg k j) * ∑ k, p k * wp k j

/-- The whole row from the three up-projected rows. -/
def row (gl : EReal → EReal) (h : Fin 1024 → EReal) (p : Fin 256 → EReal) (u1 u2 : Fin 2048 → EReal) (wd : Fin 2048 → Fin 1024 → EReal)
    (g : Fin 1024 → EReal) (wg : Fin 1024 → Fin 1024 → EReal) (wp : Fin 256 → Fin 1024 → EReal) (gf : Fin 1024 → EReal) : Fin 1024 → EReal :=
  normed (ple (down gl h u1 u2 wd) p g wg wp) gf

/-- The normed row before row `R` of the array, zero at a sequence's first row. -/
def prevG (H : Fin 65536 → Fin 1024 → EReal) (g : Fin 1024 → EReal) (R : Fin 65536) (k : Fin 1024) : EReal :=
  if R.val % 4096 = 0 then 0 else normed (H ⟨R.val - 1, by omega⟩) g k

/-- The normed row after row `R` of the array, zero at a sequence's last row. -/
def nextG (H : Fin 65536 → Fin 1024 → EReal) (g : Fin 1024 → EReal) (R : Fin 65536) (k : Fin 1024) : EReal :=
  if h : R.val % 4096 < 4095 then normed (H ⟨R.val + 1, by omega⟩) g k else 0

theorem prevG_zero (H : Fin 65536 → Fin 1024 → EReal) (g : Fin 1024 → EReal) (R : Fin 65536) (k : Fin 1024) (h : R.val % 4096 = 0) :
    prevG H g R k = 0 := if_pos h

theorem prevG_of (H : Fin 65536 → Fin 1024 → EReal) (g : Fin 1024 → EReal) (R q : Fin 65536) (k : Fin 1024) (h : ¬ R.val % 4096 = 0)
    (hq : q.val = R.val - 1) : prevG H g R k = normed (H q) g k := by
  rw [show q = ⟨R.val - 1, by omega⟩ from Fin.ext hq]
  exact if_neg h

theorem nextG_zero (H : Fin 65536 → Fin 1024 → EReal) (g : Fin 1024 → EReal) (R : Fin 65536) (k : Fin 1024) (h : ¬ R.val % 4096 < 4095) :
    nextG H g R k = 0 := dif_neg h

theorem nextG_of (H : Fin 65536 → Fin 1024 → EReal) (g : Fin 1024 → EReal) (R q : Fin 65536) (k : Fin 1024) (h : R.val % 4096 < 4095)
    (hq : q.val = R.val + 1) : nextG H g R k = normed (H q) g k := by
  rw [show q = ⟨R.val + 1, by omega⟩ from Fin.ext hq]
  exact dif_pos h

/-- Row `R` of the result. -/
def result (gl : EReal → EReal) (H : Fin 65536 → Fin 1024 → EReal) (P : Fin 65536 → Fin 256 → EReal) (g : Fin 1024 → EReal)
    (wu : Fin 1024 → Fin 4096 → EReal) (cw : Fin 3 → Fin 4096 → EReal) (cb : Fin 4096 → EReal) (wd : Fin 2048 → Fin 1024 → EReal)
    (gp : Fin 1024 → EReal) (wg : Fin 1024 → Fin 1024 → EReal) (wp : Fin 256 → Fin 1024 → EReal) (gf : Fin 1024 → EReal)
    (R : Fin 65536) : Fin 1024 → EReal :=
  row gl (H R) (P R)
    (fun n => up (cb ⟨n.val, by omega⟩) (cw 0 ⟨n.val, by omega⟩) (cw 1 ⟨n.val, by omega⟩) (cw 2 ⟨n.val, by omega⟩)
      (prevG H g R) (normed (H R) g) (nextG H g R) (fun k => wu k ⟨n.val, by omega⟩))
    (fun n => up (cb ⟨2048 + n.val, by omega⟩) (cw 0 ⟨2048 + n.val, by omega⟩) (cw 1 ⟨2048 + n.val, by omega⟩) (cw 2 ⟨2048 + n.val, by omega⟩)
      (prevG H g R) (normed (H R) g) (nextG H g R) (fun k => wu k ⟨2048 + n.val, by omega⟩))
    wd gp wg wp gf

/-- The row before a block's row is the array's row before it. -/
theorem before_eq (H : Fin 65536 → Fin 1024 → EReal) (g xp g' : Fin 1024 → EReal) (x0 : Fin 512 → Fin 1024 → EReal) (t : ℕ) (ht : t < 128)
    (h0 : ∀ r k, x0 r k = H ⟨t * 512 + r.val, by omega⟩ k) (hp : t ≠ 0 → ∀ k, xp k = H ⟨t * 512 - 1, by omega⟩ k) (hg : ∀ k, g' k = g k)
    (r : Fin 512) (k : Fin 1024) : before x0 xp g' (t % 8 = 0) r k = prevG H g ⟨t * 512 + r.val, by omega⟩ k := by
  obtain rfl := funext hg
  obtain rfl := funext fun r => funext (h0 r)
  unfold before prevG
  by_cases hr : r.val = 0
  · rw [if_pos hr]
    by_cases h8 : t % 8 = 0
    · rw [if_pos (by simpa using h8), if_pos (by simp only []; omega)]
    · rw [if_neg (by simpa using h8), if_neg (by simp only []; omega)]
      rw [funext (hp (by omega))]
      simp only [hr, Nat.add_zero]
  · rw [if_neg hr, if_neg (by simp only []; omega)]
    have e : t * 512 + (r.val - 1) = t * 512 + r.val - 1 := by omega
    simp only [e]

/-- The row after a block's row is the array's row after it. -/
theorem after_eq (H : Fin 65536 → Fin 1024 → EReal) (g xn g' : Fin 1024 → EReal) (x0 : Fin 512 → Fin 1024 → EReal) (t : ℕ) (ht : t < 128)
    (h0 : ∀ r k, x0 r k = H ⟨t * 512 + r.val, by omega⟩ k) (hn : ∀ h : t < 127, ∀ k, xn k = H ⟨t * 512 + 512, by omega⟩ k) (hg : ∀ k, g' k = g k)
    (r : Fin 512) (k : Fin 1024) : after x0 xn g' (t % 8 = 7) r k = nextG H g ⟨t * 512 + r.val, by omega⟩ k := by
  obtain rfl := funext hg
  obtain rfl := funext fun r => funext (h0 r)
  unfold after nextG
  by_cases hr : r.val + 1 < 512
  · rw [dif_pos hr, dif_pos (by simp only []; omega)]
    rfl
  · rw [dif_neg hr]
    by_cases h8 : t % 8 = 7
    · rw [if_pos (by simpa using h8), dif_neg (by simp only []; omega)]
    · rw [if_neg (by simpa using h8), dif_pos (by simp only []; omega)]
      rw [funext (hn (by omega))]
      have e : t * 512 + 512 = t * 512 + r.val + 1 := by omega
      simp only [e]

theorem row_congr {gl : EReal → EReal} {h h' : Fin 1024 → EReal} {p p' : Fin 256 → EReal} {u1 u1' u2 u2' : Fin 2048 → EReal}
    {wd wd' : Fin 2048 → Fin 1024 → EReal} {g g' : Fin 1024 → EReal} {wg wg' : Fin 1024 → Fin 1024 → EReal}
    {wp wp' : Fin 256 → Fin 1024 → EReal} {gf gf' : Fin 1024 → EReal} (eh : ∀ k, h k = h' k) (ep : ∀ k, p k = p' k)
    (e1 : ∀ n, u1 n = u1' n) (e2 : ∀ n, u2 n = u2' n) (ed : ∀ n j, wd n j = wd' n j) (eg : ∀ k, g k = g' k)
    (ewg : ∀ k j, wg k j = wg' k j) (ewp : ∀ k j, wp k j = wp' k j) (egf : ∀ k, gf k = gf' k) (j : Fin 1024) :
    row gl h p u1 u2 wd g wg wp gf j = row gl h' p' u1' u2' wd' g' wg' wp' gf' j := by
  obtain rfl := funext eh; obtain rfl := funext ep; obtain rfl := funext e1; obtain rfl := funext e2
  obtain rfl := funext fun n => funext (ed n); obtain rfl := funext eg; obtain rfl := funext fun n => funext (ewg n)
  obtain rfl := funext fun n => funext (ewp n); obtain rfl := funext egf; rfl

theorem up_congr {b b' w0 w0' w1 w1' w2 w2' : EReal} {p p' c c' n n' w w' : Fin 1024 → EReal} (eb : b = b') (e0 : w0 = w0') (e1 : w1 = w1')
    (e2 : w2 = w2') (ep : ∀ k, p k = p' k) (ec : ∀ k, c k = c' k) (en : ∀ k, n k = n' k) (ew : ∀ k, w k = w' k) :
    up b w0 w1 w2 p c n w = up b' w0' w1' w2' p' c' n' w' := by
  obtain rfl := funext ep; obtain rfl := funext ec; obtain rfl := funext en; obtain rfl := funext ew
  subst eb e0 e1 e2; rfl

end Cert.FfnRows

end
-- ==== Proof.Ffn.Block.lean ====
/- What one grid point of the feed-forward step writes: a block of 512 rows. -/
module

public import proofs.«01_k».proof.Proof.Gen.FfnIdeal.Value
public import proofs.«01_k».proof.Proof.Ffn.Rows
public import Idealize.ShloMosaic.Lib.Pipeline.ValueKit.Point
public import Idealize.ShloMosaic.Lib.Pointwise

@[expose] public section

set_option maxRecDepth 16384

noncomputable section

namespace Cert.FfnIdeal.Block

open Cert.FfnIdeal Cert.FfnIdeal.Gen Cert.InProjRows Cert.FfnRows Idealize.ShloMosaic Idealize.ShloMosaic.TcCoe Idealize.SL.Sem

variable (v1 : FVec Ideal S1x1024 .f32) (v2 : Vec Ideal S512x1024 .f32) (v13 v24 : BitVec 1) (v25 v40 : Vec Ideal S16x1024 .f32)
  (w : Vec Ideal S1024x2048 .bf16) (v73 : Vec Ideal S3x2048 .f32) (v75 : Vec Ideal S1x2048 .f32)

theorem ite_select (c : BitVec 1) (x : EReal) : Scalar.select c (0 : EReal) x = if decide (c = 1#1) then 0 else x := by
  by_cases h : c = 1#1 <;> simp [Scalar.select, h]

/-- The rows before, of and after the block, normed, at the three places the convolution reads. -/
theorem cat_before (r : Fin 512) (k : Fin 1024) (q : Fin 544) (hq : q.val = (16 + r.val + 544 - 1) % 544) :
    (k0_pay4 (k0_pay2 v1) v2 v13 v24 (k0_pay3 v25) v40 (ix2 q k) : EReal)
      = before (fun q x => v2 (ix2 q x)) (fun x => v25 (ix2 15 x)) (fun x => v1 (ix2 0 x)) (v13 = 1#1) r k := by
  pointwise [k0_pay4, k0_pay3, k0_pay2]
  unfold before
  by_cases h0 : r.val = 0
  · rw [dif_pos (by omega), if_pos h0]
    have e : ∀ h, (⟨q.val, h⟩ : Fin 16) = 15 := fun h => Fin.ext (by simp only [Fin.val_ofNat]; omega)
    simp only [e]
    exact ite_select _ _
  · rw [dif_neg (by omega), dif_pos (by omega), if_neg h0]
    have e : ∀ h, (⟨q.val - 16, h⟩ : Fin 512) = ⟨r.val - 1, by omega⟩ := fun h => Fin.ext (by simp only []; omega)
    simp only [e]
    rfl

theorem cat_self (r : Fin 512) (k : Fin 1024) (q : Fin 544) (hq : q.val = 16 + r.val) :
    (k0_pay4 (k0_pay2 v1) v2 v13 v24 (k0_pay3 v25) v40 (ix2 q k) : EReal)
      = normed (fun x => v2 (ix2 r x)) (fun x => v1 (ix2 0 x)) k := by
  have hb : 16 + r.val < 544 := by have := r.isLt; omega
  rw [show q = ⟨16 + r.val, hb⟩ from Fin.ext hq]
  pointwise [k0_pay4, k0_pay3, k0_pay2]
  rfl

theorem cat_after (r : Fin 512) (k : Fin 1024) (q : Fin 544) (hq : q.val = (16 + r.val + 544 - 543) % 544) :
    (k0_pay4 (k0_pay2 v1) v2 v13 v24 (k0_pay3 v25) v40 (ix2 q k) : EReal)
      = after (fun q x => v2 (ix2 q x)) (fun x => v40 (ix2 0 x)) (fun x => v1 (ix2 0 x)) (v24 = 1#1) r k := by
  pointwise [k0_pay4, k0_pay3, k0_pay2]
  unfold after
  by_cases h0 : r.val + 1 < 512
  · rw [dif_neg (by omega), dif_pos (by omega), dif_pos h0]
    have e : ∀ h, (⟨q.val - 16, h⟩ : Fin 512) = ⟨r.val + 1, h0⟩ := fun h => Fin.ext (by simp only []; omega)
    simp only [e]
    rfl
  · rw [dif_neg (by omega), dif_neg (by omega), dif_neg h0]
    have e : ∀ h, (⟨q.val - 16 - 512, h⟩ : Fin 16) = 0 := fun h => Fin.ext (by simp only [Fin.val_zero]; omega)
    simp only [e]
    exact ite_select _ _

/-- One column of the block's rows, projected up and convolved. -/
def upAt (v1 : Vec Ideal S1x1024 .f32) (v2 : Vec Ideal S512x1024 .f32) (f l : Bool) (v25 v40 : Vec Ideal S16x1024 .f32)
    (w : Fin 1024 → EReal) (b w0 w1 w2 : EReal) (r : Fin 512) : EReal :=
  up b w0 w1 w2
    (before (fun q x => v2 (ix2 q x)) (fun x => v25 (ix2 15 x)) (fun x => v1 (ix2 0 x)) f r)
    (normed (fun x => v2 (ix2 r x)) (fun x => v1 (ix2 0 x)))
    (after (fun q x => v2 (ix2 q x)) (fun x => v40 (ix2 0 x)) (fun x => v1 (ix2 0 x)) l r) w

theorem pay9_at (y : S512x2048.Idx) :
    k0_pay9 (k0_pay6 (k0_pay2 v1) v2 v13 v24 (k0_pay3 v25) v40 w) v73 (k0_pay7 v75) (k0_pay8 v73) 1#32 y
      = upAt v1 v2 (v13 = 1#1) (v24 = 1#1) v25 v40 (fun k => w (ix2 k (y 1))) (v75 (ix2 0 (y 1))) (v73 (ix2 0 (y 1))) (v73 (ix2 1 (y 1))) (v73 (ix2 2 (y 1))) (y 0) := by
  pointwise [k0_pay9, k0_pay6, k0_pay7, k0_pay8]
  unfold upAt up conv
  refine congrArg₂ (· + ·) (congrArg₂ (· + ·) (congrArg₂ (· + ·) rfl (congrArg₂ (· * ·) rfl ?_)) (congrArg₂ (· * ·) rfl ?_)) (congrArg₂ (· * ·) rfl ?_)
  · exact Finset.sum_congr rfl fun k _ => congrArg₂ (· * ·) (cat_before v1 v2 v13 v24 v25 v40 (y 0) k _ rfl) rfl
  · exact Finset.sum_congr rfl fun k _ => congrArg₂ (· * ·) (cat_self v1 v2 v13 v24 v25 v40 (y 0) k _ rfl) rfl
  · exact Finset.sum_congr rfl fun k _ => congrArg₂ (· * ·) (cat_after v1 v2 v13 v24 v25 v40 (y 0) k _ rfl) rfl

theorem pay10_at (y : S512x2048.Idx) :
    k0_pay10 (k0_pay4 (k0_pay2 v1) v2 v13 v24 (k0_pay3 v25) v40) w v73 v75 y
      = upAt v1 v2 (v13 = 1#1) (v24 = 1#1) v25 v40 (fun k => w (ix2 k (y 1))) (v75 (ix2 0 (y 1))) (v73 (ix2 0 (y 1))) (v73 (ix2 1 (y 1))) (v73 (ix2 2 (y 1))) (y 0) := by
  pointwise [k0_pay10]
  unfold upAt up conv
  refine congrArg₂ (· + ·) (congrArg₂ (· + ·) (congrArg₂ (· + ·) rfl (congrArg₂ (· * ·) rfl ?_)) (congrArg₂ (· * ·) rfl ?_)) (congrArg₂ (· * ·) rfl ?_)
  · exact Finset.sum_congr rfl fun k _ => congrArg₂ (· * ·) (cat_before v1 v2 v13 v24 v25 v40 (y 0) k _ rfl) rfl
  · exact Finset.sum_congr rfl fun k _ => congrArg₂ (· * ·) (cat_self v1 v2 v13 v24 v25 v40 (y 0) k _ rfl) rfl
  · exact Finset.sum_congr rfl fun k _ => congrArg₂ (· * ·) (cat_after v1 v2 v13 v24 v25 v40 (y 0) k _ rfl) rfl

theorem pay11_at (v72 : FVec Ideal S544x2048 .f32) (v75 v76 : FVec Ideal S1x2048 .f32) (y : S512x2048.Idx) :
    Ideal.div (k0_pay9 v72 v73 v75 v76 1#32 y) (1 + k0_pay11 v72 v73 v75 v76 1#32 y) = geluK (k0_pay9 v72 v73 v75 v76 1#32 y) := by
  pointwise [k0_pay11]
  rfl

/-- The row after the activation and the embedding, from the two halves' values. -/
theorem pay12_at (v93 v117 v124 : FVec Ideal S512x2048 .f32) (gl : EReal → EReal) (hg : ∀ y, Ideal.div (v93 y) (1 + v124 y) = gl (v93 y))
    (v130 : Vec Ideal S2048x1024 .bf16) (v135 : Vec Ideal S1x1024 .f32) (v150 : Vec Ideal S1024x1024 .bf16) (v154 : Vec Ideal S512x256 .f32)
    (v156 : Vec Ideal S256x1024 .bf16) (y : S512x1024.Idx) :
    k0_pay12 v2 k0_pay5 v93 v117 v124 v130 v135 v150 v154 v156 y
      = ple (down gl (fun k => v2 (ix2 (y 0) k)) (fun n => v93 (ix2 (y 0) n)) (fun n => v117 (ix2 (y 0) n)) (fun n j => v130 (ix2 n j)))
        (fun k => v154 (ix2 (y 0) k)) (fun k => v135 (ix2 0 k)) (fun k j => v150 (ix2 k j)) (fun k j => v156 (ix2 k j)) (y 1) := by
  pointwise [k0_pay12, k0_pay5]
  simp only [hg, zero_add, ple, down, normed]
  rw [show v2 y = v2 (ix2 (y 0) (y 1)) from congrArg v2 (funext fun a => by fin_cases a <;> rfl)]

theorem pay1_at (v161 : Vec Ideal S1x1024 .f32) (v93 v117 v124 : FVec Ideal S512x2048 .f32)
    (v130 : Vec Ideal S2048x1024 .bf16) (v135 : Vec Ideal S1x1024 .f32) (v150 : Vec Ideal S1024x1024 .bf16) (v154 : Vec Ideal S512x256 .f32)
    (v156 : Vec Ideal S256x1024 .bf16) (v69 : FVec Ideal S512x1024 .f32) (R : Fin 512 → Fin 1024 → EReal)
    (h : ∀ y, k0_pay12 v2 v69 v93 v117 v124 v130 v135 v150 v154 v156 y = R (y 0) (y 1)) (y : S512x1024.Idx) :
    k0_pay1 (k0_pay12 v2 v69 v93 v117 v124 v130 v135 v150 v154 v156) (k0_pay13 v161) (k0_pay14 v2 v69 v93 v117 v124 v130 v135 v150 v154 v156) y
      = normed (R (y 0)) (fun k => v161 (ix2 0 k)) (y 1) := by
  pointwise [k0_pay1, k0_pay14, k0_pay13]
  simp only [h]
  rfl

/-- One entry of the block from the values loaded. -/
theorem rowOf (w1 w2 : Vec Ideal S1024x2048 .bf16) (c1 c2 : Vec Ideal S3x2048 .f32) (b1 b2 : Vec Ideal S1x2048 .f32)
    (v130 : Vec Ideal S2048x1024 .bf16) (v135 : Vec Ideal S1x1024 .f32) (v150 : Vec Ideal S1024x1024 .bf16) (v154 : Vec Ideal S512x256 .f32)
    (v156 : Vec Ideal S256x1024 .bf16) (v161 : Vec Ideal S1x1024 .f32) (y : S512x1024.Idx) :
    k0_pay1 (k0_pay12 v2 k0_pay5 (k0_pay9 (k0_pay6 (k0_pay2 v1) v2 v13 v24 (k0_pay3 v25) v40 w1) c1 (k0_pay7 b1) (k0_pay8 c1) 1#32)
        (k0_pay10 (k0_pay4 (k0_pay2 v1) v2 v13 v24 (k0_pay3 v25) v40) w2 c2 b2)
        (k0_pay11 (k0_pay6 (k0_pay2 v1) v2 v13 v24 (k0_pay3 v25) v40 w1) c1 (k0_pay7 b1) (k0_pay8 c1) 1#32) v130 v135 v150 v154 v156)
      (k0_pay13 v161)
      (k0_pay14 v2 k0_pay5 (k0_pay9 (k0_pay6 (k0_pay2 v1) v2 v13 v24 (k0_pay3 v25) v40 w1) c1 (k0_pay7 b1) (k0_pay8 c1) 1#32)
        (k0_pay10 (k0_pay4 (k0_pay2 v1) v2 v13 v24 (k0_pay3 v25) v40) w2 c2 b2)
        (k0_pay11 (k0_pay6 (k0_pay2 v1) v2 v13 v24 (k0_pay3 v25) v40 w1) c1 (k0_pay7 b1) (k0_pay8 c1) 1#32) v130 v135 v150 v154 v156) y
      = row geluK (fun k => v2 (ix2 (y 0) k)) (fun k => v154 (ix2 (y 0) k))
        (fun n => upAt v1 v2 (v13 = 1#1) (v24 = 1#1) v25 v40 (fun k => w1 (ix2 k n)) (b1 (ix2 0 n)) (c1 (ix2 0 n)) (c1 (ix2 1 n)) (c1 (ix2 2 n)) (y 0))
        (fun n => upAt v1 v2 (v13 = 1#1) (v24 = 1#1) v25 v40 (fun k => w2 (ix2 k n)) (b2 (ix2 0 n)) (c2 (ix2 0 n)) (c2 (ix2 1 n)) (c2 (ix2 2 n)) (y 0))
        (fun n j => v130 (ix2 n j)) (fun k => v135 (ix2 0 k)) (fun k j => v150 (ix2 k j)) (fun k j => v156 (ix2 k j)) (fun k => v161 (ix2 0 k)) (y 1) := by
  have h9 := pay9_at v1 v2 v13 v24 v25 v40 w1 c1 b1
  have h10 := pay10_at v1 v2 v13 v24 v25 v40 w2 c2 b2
  have hg : ∀ z, Ideal.div (k0_pay9 (k0_pay6 (k0_pay2 v1) v2 v13 v24 (k0_pay3 v25) v40 w1) c1 (k0_pay7 b1) (k0_pay8 c1) 1#32 z) (1 + k0_pay11 (k0_pay6 (k0_pay2 v1) v2 v13 v24 (k0_pay3 v25) v40 w1) c1 (k0_pay7 b1) (k0_pay8 c1) 1#32 z) = geluK (k0_pay9 (k0_pay6 (k0_pay2 v1) v2 v13 v24 (k0_pay3 v25) v40 w1) c1 (k0_pay7 b1) (k0_pay8 c1) 1#32 z) := fun z => pay11_at _ _ _ _ z
  generalize k0_pay9 (k0_pay6 (k0_pay2 v1) v2 v13 v24 (k0_pay3 v25) v40 w1) c1 (k0_pay7 b1) (k0_pay8 c1) 1#32 = A at *
  generalize k0_pay10 (k0_pay4 (k0_pay2 v1) v2 v13 v24 (k0_pay3 v25) v40) w2 c2 b2 = B at *
  generalize k0_pay11 (k0_pay6 (k0_pay2 v1) v2 v13 v24 (k0_pay3 v25) v40 w1) c1 (k0_pay7 b1) (k0_pay8 c1) 1#32 = C at *
  refine (pay1_at v2 v161 A B C v130 v135 v150 v154 v156 k0_pay5
    (fun r => ple (down geluK (fun k => v2 (ix2 r k)) (fun n => A (ix2 r n)) (fun n => B (ix2 r n)) (fun n j => v130 (ix2 n j)))
      (fun k => v154 (ix2 r k)) (fun k => v135 (ix2 0 k)) (fun k j => v150 (ix2 k j)) (fun k j => v156 (ix2 k j)))
    (fun z => pay12_at v2 A B C geluK hg v130 v135 v150 v154 v156 z) y).trans ?_
  exact row_congr (fun _ => rfl) (fun _ => rfl) (fun n => h9 (ix2 (y 0) n)) (fun n => h10 (ix2 (y 0) n)) (fun _ _ => rfl) (fun _ => rfl)
    (fun _ _ => rfl) (fun _ _ => rfl) (fun _ => rfl) (y 1)

theorem first_eq : ∀ i : Fin 128, (Scalar.cmpi .eq (Scalar.select (Scalar.andi (Scalar.xori (Scalar.cmpi .slt (Scalar.remsi (BitVec.ofNat 32 i.val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 i.val) (Scalar.select (Scalar.cmpi .eq 8#32 0#32) 1#32 8#32)) 0#32)) (Scalar.addi (Scalar.remsi (BitVec.ofNat 32 i.val) (Scalar.select (Scalar.cmpi .eq 8#32 0#32) 1#32 8#32)) (Scalar.select (Scalar.cmpi .eq 8#32 0#32) 1#32 8#32)) (Scalar.remsi (BitVec.ofNat 32 i.val) (Scalar.select (Scalar.cmpi .eq 8#32 0#32) 1#32 8#32))) 0#32 = 1#1) ↔ i.val % 8 = 0 := by
  decide +kernel

theorem last_eq : ∀ i : Fin 128, (Scalar.cmpi .eq (Scalar.select (Scalar.andi (Scalar.xori (Scalar.cmpi .slt (Scalar.remsi (BitVec.ofNat 32 i.val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 i.val) (Scalar.select (Scalar.cmpi .eq 8#32 0#32) 1#32 8#32)) 0#32)) (Scalar.addi (Scalar.remsi (BitVec.ofNat 32 i.val) (Scalar.select (Scalar.cmpi .eq 8#32 0#32) 1#32 8#32)) (Scalar.select (Scalar.cmpi .eq 8#32 0#32) 1#32 8#32)) (Scalar.remsi (BitVec.ofNat 32 i.val) (Scalar.select (Scalar.cmpi .eq 8#32 0#32) 1#32 8#32))) 7#32 = 1#1) ↔ i.val % 8 = 7 := by
  decide +kernel

/-- What the body leaves of one entry of the block. -/
theorem out13_at (i : grid0.Coords) (x0 : Vec Ideal S512x1024 .f32) (x1 : Vec Ideal S16x1024 .f32) (x2 : Vec Ideal S16x1024 .f32) (x3 : Vec Ideal S512x256 .f32) (x4 : Vec Ideal S1x1024 .f32) (x5 : Vec Ideal S1024x4096 .bf16) (x6 : Vec Ideal S3x4096 .f32) (x7 : Vec Ideal S1x4096 .f32) (x8 : Vec Ideal S2048x1024 .bf16) (x9 : Vec Ideal S1x1024 .f32) (x10 : Vec Ideal S1024x1024 .bf16) (x11 : Vec Ideal S256x1024 .bf16) (x12 : Vec Ideal S1x1024 .f32) (y : S512x1024.Idx) :
    out0_13 i x0 x1 x2 x3 x4 x5 x6 x7 x8 x9 x10 x11 x12 y
      = row geluK (fun k => x0 (ix2 (y 0) k)) (fun k => x3 (ix2 (y 0) k))
        (fun n => upAt x4 x0 ((i 0).val % 8 = 0) ((i 0).val % 8 = 7) x1 x2 (fun k => x5 (ix2 k ⟨n.val, by omega⟩)) (x7 (ix2 0 ⟨n.val, by omega⟩))
          (x6 (ix2 0 ⟨n.val, by omega⟩)) (x6 (ix2 1 ⟨n.val, by omega⟩)) (x6 (ix2 2 ⟨n.val, by omega⟩)) (y 0))
        (fun n => upAt x4 x0 ((i 0).val % 8 = 0) ((i 0).val % 8 = 7) x1 x2 (fun k => x5 (ix2 k ⟨2048 + n.val, by omega⟩)) (x7 (ix2 0 ⟨2048 + n.val, by omega⟩))
          (x6 (ix2 0 ⟨2048 + n.val, by omega⟩)) (x6 (ix2 1 ⟨2048 + n.val, by omega⟩)) (x6 (ix2 2 ⟨2048 + n.val, by omega⟩)) (y 0))
        (fun n j => x8 (ix2 n j)) (fun k => x9 (ix2 0 k)) (fun k j => x10 (ix2 k j)) (fun k j => x11 (ix2 k j)) (fun k => x12 (ix2 0 k)) (y 1) := by
  unfold_out out0_13
  canon_tiles x h
  refine (rowOf _ _ _ _ _ _ _ _ _ _ _ _ _ _ _ _ _ _ _).trans ?_
  rw [show _ = decide ((i 0).val % 8 = 0) from decide_eq_decide.mpr (first_eq (i 0)), show _ = decide ((i 0).val % 8 = 7) from decide_eq_decide.mpr (last_eq (i 0))]
  obtain rfl : y = x := funext fun a => by fin_cases a <;> exact Fin.ext ‹_›
  have e0 : View.ld x0 r0_1 = x0 := View.ld_unit_zero (by funext a; fin_cases a <;> rfl) _ _
  have e1 : View.ld x3 r0_11 = x3 := View.ld_unit_zero (by funext a; fin_cases a <;> rfl) _ _
  have e2 : View.ld x4 r0_0 = x4 := View.ld_unit_zero (by funext a; fin_cases a <;> rfl) _ _
  have e3 : View.ld x1 r0_2 = x1 := View.ld_unit_zero (by funext a; fin_cases a <;> rfl) _ _
  have e4 : View.ld x2 r0_2 = x2 := View.ld_unit_zero (by funext a; fin_cases a <;> rfl) _ _
  have e5 : View.ld x8 r0_9 = x8 := View.ld_unit_zero (by funext a; fin_cases a <;> rfl) _ _
  have e6 : View.ld x9 r0_0 = x9 := View.ld_unit_zero (by funext a; fin_cases a <;> rfl) _ _
  have e7 : View.ld x10 r0_10 = x10 := View.ld_unit_zero (by funext a; fin_cases a <;> rfl) _ _
  have e8 : View.ld x11 r0_12 = x11 := View.ld_unit_zero (by funext a; fin_cases a <;> rfl) _ _
  have e9 : View.ld x12 r0_0 = x12 := View.ld_unit_zero (by funext a; fin_cases a <;> rfl) _ _
  have p0 (k : Fin 1024) (n : Fin 2048) : View.ld x5 r0_3 (ix2 k n) = x5 (ix2 k ⟨n.val, by omega⟩) := by
    refine View.ld_unit_apply_of _ _ _ _ _ _ fun a => ?_
    fin_cases a <;> simp
  have p1 (k : Fin 1024) (n : Fin 2048) : View.ld x5 r0_6 (ix2 k n) = x5 (ix2 k ⟨2048 + n.val, by omega⟩) := by
    refine View.ld_unit_apply_of _ _ _ _ _ _ fun a => ?_
    fin_cases a <;> simp
  have p2 (k : Fin 1) (n : Fin 2048) : View.ld x7 r0_5 (ix2 k n) = x7 (ix2 k ⟨n.val, by omega⟩) := by
    refine View.ld_unit_apply_of _ _ _ _ _ _ fun a => ?_
    fin_cases a <;> simp
  have p3 (k : Fin 1) (n : Fin 2048) : View.ld x7 r0_8 (ix2 k n) = x7 (ix2 k ⟨2048 + n.val, by omega⟩) := by
    refine View.ld_unit_apply_of _ _ _ _ _ _ fun a => ?_
    fin_cases a <;> simp
  have p4 (k : Fin 3) (n : Fin 2048) : View.ld x6 r0_4 (ix2 k n) = x6 (ix2 k ⟨n.val, by omega⟩) := by
    refine View.ld_unit_apply_of _ _ _ _ _ _ fun a => ?_
    fin_cases a <;> simp
  have p5 (k : Fin 3) (n : Fin 2048) : View.ld x6 r0_7 (ix2 k n) = x6 (ix2 k ⟨2048 + n.val, by omega⟩) := by
    refine View.ld_unit_apply_of _ _ _ _ _ _ fun a => ?_
    fin_cases a <;> simp
  rw [e0, e1, e2, e3, e4, e5, e6, e7, e8, e9]
  simp only [p0, p1, p2, p3, p4, p5]

end Cert.FfnIdeal.Block
end
-- ==== Proof.Ffn.Value.lean ====
/- The kernel's result: every row through the feed-forward step, the embedding and the last norm. -/
module

public import proofs.«01_k».proof.Proof.Ffn.Block
public import Idealize.ShloMosaic.Lib.Claim

@[expose] public section

set_option maxRecDepth 16384

noncomputable section

namespace Cert.FfnIdeal.Result

open Cert.FfnIdeal Cert.FfnIdeal.Gen Cert.FfnIdeal.Block Cert.InProjRows Cert.FfnRows Idealize.ShloMosaic Idealize.ShloMosaic.TcCoe Idealize.SL.Sem

variable (m : (ℓ : Loc nD τ sig) → Buf (Elt Ideal) ℓ)

/-! The arguments as functions of their coordinates. -/

def H (c : Dev nD) (k : Fin 65536) (n : Fin 1024) : EReal := (m ((c : Thread nD τ).loc main_arg0) : S65536x1024.Idx → EReal) (ix2 k n)
def P (c : Dev nD) (k : Fin 65536) (n : Fin 256) : EReal := (m ((c : Thread nD τ).loc main_arg1) : S65536x256.Idx → EReal) (ix2 k n)
def g (c : Dev nD) (k : Fin 1024) : EReal := (m ((c : Thread nD τ).loc main_arg2) : S1024.Idx → EReal) (ix1 k)
def wu (c : Dev nD) (k : Fin 1024) (n : Fin 4096) : EReal := (m ((c : Thread nD τ).loc main_arg3) : S1024x4096.Idx → EReal) (ix2 k n)
def cw (c : Dev nD) (k : Fin 3) (n : Fin 4096) : EReal := (m ((c : Thread nD τ).loc main_arg4) : S3x4096.Idx → EReal) (ix2 k n)
def cb (c : Dev nD) (k : Fin 4096) : EReal := (m ((c : Thread nD τ).loc main_arg5) : S4096.Idx → EReal) (ix1 k)
def wd (c : Dev nD) (k : Fin 2048) (n : Fin 1024) : EReal := (m ((c : Thread nD τ).loc main_arg6) : S2048x1024.Idx → EReal) (ix2 k n)
def gp (c : Dev nD) (k : Fin 1024) : EReal := (m ((c : Thread nD τ).loc main_arg7) : S1024.Idx → EReal) (ix1 k)
def wg (c : Dev nD) (k : Fin 1024) (n : Fin 1024) : EReal := (m ((c : Thread nD τ).loc main_arg8) : S1024x1024.Idx → EReal) (ix2 k n)
def wp (c : Dev nD) (k : Fin 256) (n : Fin 1024) : EReal := (m ((c : Thread nD τ).loc main_arg9) : S256x1024.Idx → EReal) (ix2 k n)
def gf (c : Dev nD) (k : Fin 1024) : EReal := (m ((c : Thread nD τ).loc main_arg10) : S1024.Idx → EReal) (ix1 k)

/-- The result at row `R` and column `j`. -/
def val (gl : EReal → EReal) (c : Dev nD) (R : Fin 65536) (j : Fin 1024) : EReal := result gl (H m c) (P m c) (g m c) (wu m c) (cw m c) (cb m c) (wd m c) (gp m c) (wg m c) (wp m c) (gf m c) R j

def G (c : Dev nD) : S65536x1024.Idx → EReal := fun i => val m geluK c (i 0) (i 1)

theorem idx0 : ∀ t : Fin cfg0.N, win0_0.index t = ![t.val, 0] := (by decide +kernel : ∀ t : Fin grid0.N, _)
theorem idx1 : ∀ t : Fin cfg0.N, win0_1.index t = ![t.val * 32 - 1, 0] := (by decide +kernel : ∀ t : Fin grid0.N, _)
theorem idx2 : ∀ t : Fin cfg0.N, win0_2.index t = ![min (t.val * 32 + 32) 4095, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![t.val, 0] := (by decide +kernel : ∀ t : Fin grid0.N, _)
theorem coord : ∀ t : Fin cfg0.N, (grid0.coords t 0).val = t.val := (by decide +kernel : ∀ t : Fin grid0.N, _)
theorem lt_N (t : Fin cfg0.N) : t.val < 128 := t.isLt

theorem g_at (c : Dev nD) (k : Fin 1024) : (V m c main_v0 : S1x1024.Idx → EReal) (ix2 0 k) = g m c k := by
  unfold g; entry_read; pointwise []; try rfl
theorem wu_at (c : Dev nD) (k : Fin 1024) (n : Fin 4096) : (V m c main_v1 : S1024x4096.Idx → EReal) (ix2 k n) = wu m c k n := by
  unfold wu; entry_read; pointwise []; try rfl
theorem cb_at (c : Dev nD) (k : Fin 4096) : (V m c main_v2 : S1x4096.Idx → EReal) (ix2 0 k) = cb m c k := by
  unfold cb; entry_read; pointwise []; try rfl
theorem wd_at (c : Dev nD) (k : Fin 2048) (n : Fin 1024) : (V m c main_v3 : S2048x1024.Idx → EReal) (ix2 k n) = wd m c k n := by
  unfold wd; entry_read; pointwise []; try rfl
theorem gp_at (c : Dev nD) (k : Fin 1024) : (V m c main_v4 : S1x1024.Idx → EReal) (ix2 0 k) = gp m c k := by
  unfold gp; entry_read; pointwise []; try rfl
theorem wg_at (c : Dev nD) (k : Fin 1024) (n : Fin 1024) : (V m c main_v5 : S1024x1024.Idx → EReal) (ix2 k n) = wg m c k n := by
  unfold wg; entry_read; pointwise []; try rfl
theorem wp_at (c : Dev nD) (k : Fin 256) (n : Fin 1024) : (V m c main_v6 : S256x1024.Idx → EReal) (ix2 k n) = wp m c k n := by
  unfold wp; entry_read; pointwise []; try rfl
theorem gf_at (c : Dev nD) (k : Fin 1024) : (V m c main_v7 : S1x1024.Idx → EReal) (ix2 0 k) = gf m c k := by
  unfold gf; entry_read; pointwise []; try rfl

/-- Row `r` of block `t` of the hidden state is row `512 t + r` of the array. -/
theorem blk0 (c : Dev nD) (t : Fin cfg0.N) (r : Fin 512) (k : Fin 1024) :
    (iblk m c 0 t : S512x1024.Idx → EReal) (ix2 r k) = H m c ⟨t.val * 512 + r.val, by have := lt_N t; omega⟩ k := by
  unfold H
  blk_ext! [iblk, V_main_arg0, idx0 t]
theorem blk1 (c : Dev nD) (t : Fin cfg0.N) (ht : t.val ≠ 0) (k : Fin 1024) :
    (iblk m c 1 t : S16x1024.Idx → EReal) (ix2 15 k) = H m c ⟨t.val * 512 - 1, by have := lt_N t; omega⟩ k := by
  unfold H
  blk_ext! [iblk, V_main_arg0, idx1 t]
theorem blk2 (c : Dev nD) (t : Fin cfg0.N) (ht : t.val < 127) (k : Fin 1024) :
    (iblk m c 2 t : S16x1024.Idx → EReal) (ix2 0 k) = H m c ⟨t.val * 512 + 512, by have := lt_N t; omega⟩ k := by
  unfold H
  blk_ext! [iblk, V_main_arg0, idx2 t]
theorem blk3 (c : Dev nD) (t : Fin cfg0.N) (r : Fin 512) (k : Fin 256) :
    (iblk m c 3 t : S512x256.Idx → EReal) (ix2 r k) = P m c ⟨t.val * 512 + r.val, by have := lt_N t; omega⟩ k := by
  unfold P
  blk_ext! [iblk, V_main_arg1, idx3 t]
theorem blk6 (c : Dev nD) (t : Fin cfg0.N) (k : Fin 3) (n : Fin 4096) : (iblk m c 6 t : S3x4096.Idx → EReal) (ix2 k n) = cw m c k n := by
  unfold cw
  blk_ext! [iblk, V_main_arg4, idx6 t]
theorem blk4 (c : Dev nD) (t : Fin cfg0.N) (k : Fin 1024) : (iblk m c 4 t : S1x1024.Idx → EReal) (ix2 0 k) = g m c k := by
  refine Eq.trans ?_ (g_at m c k)
  show V m c main_v0 _ = V m c main_v0 _
  blk_ext [idx4 t]
theorem blk5 (c : Dev nD) (t : Fin cfg0.N) (k : Fin 1024) (n : Fin 4096) : (iblk m c 5 t : S1024x4096.Idx → EReal) (ix2 k n) = wu m c k n := by
  refine Eq.trans ?_ (wu_at m c k n)
  show V m c main_v1 _ = V m c main_v1 _
  blk_ext [idx5 t]
theorem blk7 (c : Dev nD) (t : Fin cfg0.N) (k : Fin 4096) : (iblk m c 7 t : S1x4096.Idx → EReal) (ix2 0 k) = cb m c k := by
  refine Eq.trans ?_ (cb_at m c k)
  show V m c main_v2 _ = V m c main_v2 _
  blk_ext [idx7 t]
theorem blk8 (c : Dev nD) (t : Fin cfg0.N) (k : Fin 2048) (n : Fin 1024) : (iblk m c 8 t : S2048x1024.Idx → EReal) (ix2 k n) = wd m c k n := by
  refine Eq.trans ?_ (wd_at m c k n)
  show V m c main_v3 _ = V m c main_v3 _
  blk_ext [idx8 t]
theorem blk9 (c : Dev nD) (t : Fin cfg0.N) (k : Fin 1024) : (iblk m c 9 t : S1x1024.Idx → EReal) (ix2 0 k) = gp m c k := by
  refine Eq.trans ?_ (gp_at m c k)
  show V m c main_v4 _ = V m c main_v4 _
  blk_ext [idx9 t]
theorem blk10 (c : Dev nD) (t : Fin cfg0.N) (k : Fin 1024) (n : Fin 1024) : (iblk m c 10 t : S1024x1024.Idx → EReal) (ix2 k n) = wg m c k n := by
  refine Eq.trans ?_ (wg_at m c k n)
  show V m c main_v5 _ = V m c main_v5 _
  blk_ext [idx10 t]
theorem blk11 (c : Dev nD) (t : Fin cfg0.N) (k : Fin 256) (n : Fin 1024) : (iblk m c 11 t : S256x1024.Idx → EReal) (ix2 k n) = wp m c k n := by
  refine Eq.trans ?_ (wp_at m c k n)
  show V m c main_v6 _ = V m c main_v6 _
  blk_ext [idx11 t]
theorem blk12 (c : Dev nD) (t : Fin cfg0.N) (k : Fin 1024) : (iblk m c 12 t : S1x1024.Idx → EReal) (ix2 0 k) = gf m c k := by
  refine Eq.trans ?_ (gf_at m c k)
  show V m c main_v7 _ = V m c main_v7 _
  blk_ext [idx12 t]

theorem G_of (c : Dev nD) (i : S65536x1024.Idx) (r : Fin 65536) (n : Fin 1024) (h0 : (i 0).val = r.val) (h1 : (i 1).val = n.val) :
    val m geluK c r n = G m c i := by
  obtain rfl : i 0 = r := Fin.ext h0
  obtain rfl : i 1 = n := Fin.ext h1
  rfl

/-- What grid point `t` writes. -/
theorem point (c : Dev nD) (t : Fin cfg0.N) (y : S512x1024.Idx) :
    out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = val m geluK c ⟨t.val * 512 + (y 0).val, by have := lt_N t; have : (y 0).val < 512 := (y 0).isLt; omega⟩ (y 1) := by
  refine (out13_at _ _ _ _ _ _ _ _ _ _ _ _ _ _ y).trans ?_
  rw [coord t]
  refine row_congr (fun k => blk0 m c t (y 0) k) (fun k => blk3 m c t (y 0) k) (fun n => ?_) (fun n => ?_) (fun n j => blk8 m c t n j) (fun k => blk9 m c t k)
    (fun k j => blk10 m c t k j) (fun k j => blk11 m c t k j) (fun k => blk12 m c t k) (y 1)
  · exact up_congr (blk7 m c t _) (blk6 m c t 0 _) (blk6 m c t 1 _) (blk6 m c t 2 _)
      (fun k => before_eq (H m c) (g m c) _ _ _ t.val (lt_N t) (fun r k => blk0 m c t r k) (fun h k => blk1 m c t h k) (fun k => blk4 m c t k) (y 0) k)
      (fun k => congrArg₂ (fun a b => normed a b k) (funext fun k => blk0 m c t (y 0) k) (funext fun k => blk4 m c t k))
      (fun k => after_eq (H m c) (g m c) _ _ _ t.val (lt_N t) (fun r k => blk0 m c t r k) (fun h k => blk2 m c t h k) (fun k => blk4 m c t k) (y 0) k)
      (fun k => blk5 m c t k _)
  · exact up_congr (blk7 m c t _) (blk6 m c t 0 _) (blk6 m c t 1 _) (blk6 m c t 2 _)
      (fun k => before_eq (H m c) (g m c) _ _ _ t.val (lt_N t) (fun r k => blk0 m c t r k) (fun h k => blk1 m c t h k) (fun k => blk4 m c t k) (y 0) k)
      (fun k => congrArg₂ (fun a b => normed a b k) (funext fun k => blk0 m c t (y 0) k) (funext fun k => blk4 m c t k))
      (fun k => after_eq (H m c) (g m c) _ _ _ t.val (lt_N t) (fun r k => blk0 m c t r k) (fun h k => blk2 m c t h k) (fun k => blk4 m c t k) (y 0) k)
      (fun k => blk5 m c t k _)

theorem final (c : Dev nD) : (dats m 0 c).arrAt 13 cfg0.N = G m c := by
  refine (dats m 0 c).arrAt_eq_of_covers 13 _ (by decide +kernel) fun t hf y => ?_
  blk_simp
  rw [after0_13]
  refine (point m c t y).trans (G_of m c _ _ _ ?_ ?_) <;> blk_simp [idx13 t] <;> simp

/-- The kernel's run: its result, and its arguments kept. -/
theorem run (ρ : Dev nD → PrngReg) :
    θ_run defs (onTc (τ := τ) (main (F := Ideal))) ⟨m, fun _ => 0, ρ⟩ fun r => ∀ c : Dev nD,
      r.2.mem ((c : Thread nD τ).loc main_v8) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) := by
  refine (θ_run defs _ _).mono (fun r h c => ?_) (Value.run_blocks m ρ)
  obtain ⟨h0, ha⟩ := h c
  exact ⟨h0.trans (final m c), ha⟩

end Cert.FfnIdeal.Result
end
-- ==== Proof.Ffn.Ref.lean ====
/- The reference's result: every row through the feed-forward step, the embedding and the last norm. -/
module

public import proofs.«01_k».proof.Proof.Gen.FfnReferenceIdeal.Run
public import proofs.«01_k».proof.Proof.Ffn.Rows
public import Idealize.ShloMosaic.Lib.Pointwise
public import Idealize.ShloMosaic.Lib.Claim

@[expose] public section

set_option maxRecDepth 16384

noncomputable section

namespace Cert.FfnReferenceIdeal.Result

open Cert.FfnReferenceIdeal Cert.FfnReferenceIdeal.Gen Cert.FfnReferenceIdeal.Value Cert.InProjRows Cert.FfnRows Idealize.ShloMosaic Idealize.ShloMosaic.TcCoe Idealize.SL.Sem Idealize.ShloMosaic.StableHlo

variable (m : (ℓ : Loc nD τ sig) → Buf (Elt Ideal) ℓ)

/-! The arguments as functions of their coordinates. -/

def H (c : Dev nD) (k : Fin 65536) (n : Fin 1024) : EReal := (m ((c : Thread nD τ).loc main_arg0) : S65536x1024.Idx → EReal) (ix2 k n)
def P (c : Dev nD) (k : Fin 65536) (n : Fin 256) : EReal := (m ((c : Thread nD τ).loc main_arg1) : S65536x256.Idx → EReal) (ix2 k n)
def g (c : Dev nD) (k : Fin 1024) : EReal := (m ((c : Thread nD τ).loc main_arg2) : S1024.Idx → EReal) (ix1 k)
def wu (c : Dev nD) (k : Fin 1024) (n : Fin 4096) : EReal := (m ((c : Thread nD τ).loc main_arg3) : S1024x4096.Idx → EReal) (ix2 k n)
def cw (c : Dev nD) (k : Fin 3) (n : Fin 4096) : EReal := (m ((c : Thread nD τ).loc main_arg4) : S3x4096.Idx → EReal) (ix2 k n)
def cb (c : Dev nD) (k : Fin 4096) : EReal := (m ((c : Thread nD τ).loc main_arg5) : S4096.Idx → EReal) (ix1 k)
def wd (c : Dev nD) (k : Fin 2048) (n : Fin 1024) : EReal := (m ((c : Thread nD τ).loc main_arg6) : S2048x1024.Idx → EReal) (ix2 k n)
def gp (c : Dev nD) (k : Fin 1024) : EReal := (m ((c : Thread nD τ).loc main_arg7) : S1024.Idx → EReal) (ix1 k)
def wg (c : Dev nD) (k : Fin 1024) (n : Fin 1024) : EReal := (m ((c : Thread nD τ).loc main_arg8) : S1024x1024.Idx → EReal) (ix2 k n)
def wp (c : Dev nD) (k : Fin 256) (n : Fin 1024) : EReal := (m ((c : Thread nD τ).loc main_arg9) : S256x1024.Idx → EReal) (ix2 k n)
def gf (c : Dev nD) (k : Fin 1024) : EReal := (m ((c : Thread nD τ).loc main_arg10) : S1024.Idx → EReal) (ix1 k)

/-- The result at row `R` and column `j`. -/
def val (gl : EReal → EReal) (c : Dev nD) (R : Fin 65536) (j : Fin 1024) : EReal := result gl (H m c) (P m c) (g m c) (wu m c) (cw m c) (cb m c) (wd m c) (gp m c) (wg m c) (wp m c) (gf m c) R j

def G (c : Dev nD) : S65536x1024.Idx → EReal := fun i => val m geluR c (i 0) (i 1)

/-- The convolved up-projection at row `r` and column `n`. -/
def convV (c : Dev nD) (r : Fin 65536) (n : Fin 4096) : EReal :=
  up (cb m c n) (cw m c 0 n) (cw m c 1 n) (cw m c 2 n) (prevG (H m c) (g m c) r) (normed (H m c r) (g m c)) (nextG (H m c) (g m c) r)
    (fun k => wu m c k n)

/-! The float literals the activation is printed with. -/

theorem lit_half : Ideal.ofBits FTy.f32 1056964608#32 = ((1 / 2 : ℝ) : EReal) := by
  simp [Ideal.ofBits, Ideal.ieee]
  rw [← EReal.coe_mul]; norm_num
theorem lit_a : Ideal.ofBits FTy.f32 1061962282#32 = ((6693141 / 8388608 : ℝ) : EReal) := by
  simp [Ideal.ofBits, Ideal.ieee]
  rw [← EReal.coe_mul]; norm_num
theorem lit_b : Ideal.ofBits FTy.f32 1027024659#32 = ((12003091 / 268435456 : ℝ) : EReal) := by
  simp [Ideal.ofBits, Ideal.ieee]
  rw [← EReal.coe_mul]; norm_num
theorem pad_zero : (FloatOps.sitofp (F := Ideal) FTy.f32 (0#32 : BitVec 32) : EReal) = 0 := by
  show (((0#32 : BitVec 32).toInt : ℝ) : EReal) = 0
  simp

theorem conv_at (c : Dev nD) (r : Fin 65536) (n : Fin 4096) :
    (res_main_v39 (launchContents m c) : S65536x4096.Idx → EReal) (ix2 r n) = convV m c r n := by
  unfold convV up conv
  pointwise [res_main_v39, res_main_v15]
  refine congrArg₂ (· + ·) (congrArg₂ (· + ·) (congrArg₂ (· + ·) rfl (congrArg₂ (· * ·) rfl ?_)) (congrArg₂ (· * ·) rfl ?_)) (congrArg₂ (· * ·) rfl ?_)
  · by_cases h : r.val % 4096 = 0
    · refine (dif_neg (by omega)).trans (pad_zero.trans (Finset.sum_eq_zero fun k _ => ?_).symm)
      exact (congrArg (· * wu m c k n) (prevG_zero (H m c) (g m c) r k h)).trans (zero_mul _)
    · refine (dif_pos (by omega)).trans (Finset.sum_congr rfl fun k _ => ?_)
      exact (congrArg (· * wu m c k n) (prevG_of (H m c) (g m c) r ⟨r.val / 4096 * 4096 + (r.val % 4096 - 1), by omega⟩ k h
        (by simp only []; omega))).symm
  · exact dif_pos (by omega)
  · by_cases h : r.val % 4096 < 4095
    · refine (dif_pos (by omega)).trans (Finset.sum_congr rfl fun k _ => ?_)
      exact (congrArg (· * wu m c k n) (nextG_of (H m c) (g m c) r ⟨r.val / 4096 * 4096 + (2 + r.val % 4096 - 1), by omega⟩ k h
        (by simp only []; omega))).symm
    · refine (dif_neg (by omega)).trans (pad_zero.trans (Finset.sum_eq_zero fun k _ => ?_).symm)
      exact (congrArg (· * wu m c k n) (nextG_zero (H m c) (g m c) r k h)).trans (zero_mul _)

/-- The row after the gated activation. -/
def downV (c : Dev nD) (r : Fin 65536) : Fin 1024 → EReal :=
  down geluR (H m c r) (fun n => convV m c r ⟨n.val, by omega⟩) (fun n => convV m c r ⟨2048 + n.val, by omega⟩) (wd m c)

theorem down_at (c : Dev nD) (r : Fin 65536) (j : Fin 1024) :
    (res_main_v57 (launchContents m c) : S65536x1024.Idx → EReal) (ix2 r j) = downV m c r j := by
  unfold downV down
  pointwise [res_main_v57, res_main_v40]
  refine congrArg₂ (· + ·) rfl (Finset.sum_congr rfl fun n _ => ?_)
  refine congrArg₂ (· * ·) (congrArg₂ (· * ·) ?_ (conv_at m c r _)) rfl
  rw [lit_half, lit_a, lit_b]
  unfold geluR
  rw [← conv_at m c r ⟨n.val, by omega⟩]

theorem ple_at (c : Dev nD) (r : Fin 65536) (j : Fin 1024) :
    (res_main_v80 (launchContents m c) : S65536x1024.Idx → EReal) (ix2 r j) = ple (downV m c r) (P m c r) (gp m c) (wg m c) (wp m c) j := by
  rw [show downV m c r = fun j => (res_main_v57 (launchContents m c) : S65536x1024.Idx → EReal) (ix2 r j) from funext fun j => (down_at m c r j).symm]
  unfold ple
  pointwise [res_main_v80, normed]
  rfl

/-- The reference's run: its result, and its arguments kept. -/
theorem run (ρ : Dev nD → PrngReg) :
    θ_run defs (onTc (τ := τ) (main (F := Ideal))) ⟨m, fun _ => 0, ρ⟩ fun r => ∀ c : Dev nD,
      r.2.mem ((c.tc : Thread nD τ).loc main_v93) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r h c => ?_) (Value.run m ρ)
  obtain ⟨h0, ha⟩ := h c
  refine ⟨h0.trans ?_, ha⟩
  funext i
  unfold G val result row
  refine Eq.trans ?_ (congrArg (fun f => normed f (gf m c) (i 1)) (funext fun j => ple_at m c (i 0) j))
  pointwise [normed]
  rfl

/-- The reference's frame: it ends with its arguments kept and every counter at zero. -/
theorem frame (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0 :=
  (θ_run defs _ _).mono (fun r h => ⟨fun c => (h c).2, Idealize.ShloMosaic.sem_eq_zero_of_no_sems (by decide) r.2⟩) (Value.run m ρ)

end Cert.FfnReferenceIdeal.Result
end
-- ==== Proof.FfnSample.Block.lean ====
/- What one grid point of the feed-forward step over the sample batch writes: a block of 512 rows, with the sequences' ends
   every 16 blocks. -/
module

public import proofs.«01_k».proof.Proof.Gen.FfnSampleIdeal.Value
public import proofs.«01_k».proof.Proof.Ffn.Block

@[expose] public section

set_option maxRecDepth 16384

noncomputable section

namespace Cert.FfnSampleIdeal.Block

open Cert.FfnSampleIdeal Cert.FfnSampleIdeal.Gen Cert.InProjRows Cert.FfnRows Idealize.ShloMosaic Idealize.ShloMosaic.TcCoe Idealize.SL.Sem
open Cert.FfnIdeal.Block (upAt rowOf)

theorem first_eq : ∀ i : Fin 32, (Scalar.cmpi .eq (Scalar.select (Scalar.andi (Scalar.xori (Scalar.cmpi .slt (Scalar.remsi (BitVec.ofNat 32 i.val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 i.val) (Scalar.select (Scalar.cmpi .eq 16#32 0#32) 1#32 16#32)) 0#32)) (Scalar.addi (Scalar.remsi (BitVec.ofNat 32 i.val) (Scalar.select (Scalar.cmpi .eq 16#32 0#32) 1#32 16#32)) (Scalar.select (Scalar.cmpi .eq 16#32 0#32) 1#32 16#32)) (Scalar.remsi (BitVec.ofNat 32 i.val) (Scalar.select (Scalar.cmpi .eq 16#32 0#32) 1#32 16#32))) 0#32 = 1#1) ↔ i.val % 16 = 0 := by
  decide +kernel

theorem last_eq : ∀ i : Fin 32, (Scalar.cmpi .eq (Scalar.select (Scalar.andi (Scalar.xori (Scalar.cmpi .slt (Scalar.remsi (BitVec.ofNat 32 i.val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 i.val) (Scalar.select (Scalar.cmpi .eq 16#32 0#32) 1#32 16#32)) 0#32)) (Scalar.addi (Scalar.remsi (BitVec.ofNat 32 i.val) (Scalar.select (Scalar.cmpi .eq 16#32 0#32) 1#32 16#32)) (Scalar.select (Scalar.cmpi .eq 16#32 0#32) 1#32 16#32)) (Scalar.remsi (BitVec.ofNat 32 i.val) (Scalar.select (Scalar.cmpi .eq 16#32 0#32) 1#32 16#32))) 15#32 = 1#1) ↔ i.val % 16 = 15 := by
  decide +kernel

/-- What the body leaves of one entry of the block. -/
theorem out13_at (i : grid0.Coords) (x0 : Vec Ideal S512x1024 .f32) (x1 : Vec Ideal S16x1024 .f32) (x2 : Vec Ideal S16x1024 .f32) (x3 : Vec Ideal S512x256 .f32) (x4 : Vec Ideal S1x1024 .f32) (x5 : Vec Ideal S1024x4096 .bf16) (x6 : Vec Ideal S3x4096 .f32) (x7 : Vec Ideal S1x4096 .f32) (x8 : Vec Ideal S2048x1024 .bf16) (x9 : Vec Ideal S1x1024 .f32) (x10 : Vec Ideal S1024x1024 .bf16) (x11 : Vec Ideal S256x1024 .bf16) (x12 : Vec Ideal S1x1024 .f32) (y : S512x1024.Idx) :
    out0_13 i x0 x1 x2 x3 x4 x5 x6 x7 x8 x9 x10 x11 x12 y
      = row geluK (fun k => x0 (ix2 (y 0) k)) (fun k => x3 (ix2 (y 0) k))
        (fun n => upAt x4 x0 ((i 0).val % 16 = 0) ((i 0).val % 16 = 15) x1 x2 (fun k => x5 (ix2 k ⟨n.val, by omega⟩)) (x7 (ix2 0 ⟨n.val, by omega⟩))
          (x6 (ix2 0 ⟨n.val, by omega⟩)) (x6 (ix2 1 ⟨n.val, by omega⟩)) (x6 (ix2 2 ⟨n.val, by omega⟩)) (y 0))
        (fun n => upAt x4 x0 ((i 0).val % 16 = 0) ((i 0).val % 16 = 15) x1 x2 (fun k => x5 (ix2 k ⟨2048 + n.val, by omega⟩)) (x7 (ix2 0 ⟨2048 + n.val, by omega⟩))
          (x6 (ix2 0 ⟨2048 + n.val, by omega⟩)) (x6 (ix2 1 ⟨2048 + n.val, by omega⟩)) (x6 (ix2 2 ⟨2048 + n.val, by omega⟩)) (y 0))
        (fun n j => x8 (ix2 n j)) (fun k => x9 (ix2 0 k)) (fun k j => x10 (ix2 k j)) (fun k j => x11 (ix2 k j)) (fun k => x12 (ix2 0 k)) (y 1) := by
  unfold_out out0_13
  canon_tiles x h
  refine (rowOf _ _ _ _ _ _ _ _ _ _ _ _ _ _ _ _ _ _ _).trans ?_
  rw [show _ = decide ((i 0).val % 16 = 0) from decide_eq_decide.mpr (first_eq (i 0)), show _ = decide ((i 0).val % 16 = 15) from decide_eq_decide.mpr (last_eq (i 0))]
  obtain rfl : y = x := funext fun a => by fin_cases a <;> exact Fin.ext ‹_›
  have e0 : View.ld x0 r0_1 = x0 := View.ld_unit_zero (by funext a; fin_cases a <;> rfl) _ _
  have e1 : View.ld x3 r0_11 = x3 := View.ld_unit_zero (by funext a; fin_cases a <;> rfl) _ _
  have e2 : View.ld x4 r0_0 = x4 := View.ld_unit_zero (by funext a; fin_cases a <;> rfl) _ _
  have e3 : View.ld x1 r0_2 = x1 := View.ld_unit_zero (by funext a; fin_cases a <;> rfl) _ _
  have e4 : View.ld x2 r0_2 = x2 := View.ld_unit_zero (by funext a; fin_cases a <;> rfl) _ _
  have e5 : View.ld x8 r0_9 = x8 := View.ld_unit_zero (by funext a; fin_cases a <;> rfl) _ _
  have e6 : View.ld x9 r0_0 = x9 := View.ld_unit_zero (by funext a; fin_cases a <;> rfl) _ _
  have e7 : View.ld x10 r0_10 = x10 := View.ld_unit_zero (by funext a; fin_cases a <;> rfl) _ _
  have e8 : View.ld x11 r0_12 = x11 := View.ld_unit_zero (by funext a; fin_cases a <;> rfl) _ _
  have e9 : View.ld x12 r0_0 = x12 := View.ld_unit_zero (by funext a; fin_cases a <;> rfl) _ _
  have p0 (k : Fin 1024) (n : Fin 2048) : View.ld x5 r0_3 (ix2 k n) = x5 (ix2 k ⟨n.val, by omega⟩) := by
    refine View.ld_unit_apply_of _ _ _ _ _ _ fun a => ?_
    fin_cases a <;> simp
  have p1 (k : Fin 1024) (n : Fin 2048) : View.ld x5 r0_6 (ix2 k n) = x5 (ix2 k ⟨2048 + n.val, by omega⟩) := by
    refine View.ld_unit_apply_of _ _ _ _ _ _ fun a => ?_
    fin_cases a <;> simp
  have p2 (k : Fin 1) (n : Fin 2048) : View.ld x7 r0_5 (ix2 k n) = x7 (ix2 k ⟨n.val, by omega⟩) := by
    refine View.ld_unit_apply_of _ _ _ _ _ _ fun a => ?_
    fin_cases a <;> simp
  have p3 (k : Fin 1) (n : Fin 2048) : View.ld x7 r0_8 (ix2 k n) = x7 (ix2 k ⟨2048 + n.val, by omega⟩) := by
    refine View.ld_unit_apply_of _ _ _ _ _ _ fun a => ?_
    fin_cases a <;> simp
  have p4 (k : Fin 3) (n : Fin 2048) : View.ld x6 r0_4 (ix2 k n) = x6 (ix2 k ⟨n.val, by omega⟩) := by
    refine View.ld_unit_apply_of _ _ _ _ _ _ fun a => ?_
    fin_cases a <;> simp
  have p5 (k : Fin 3) (n : Fin 2048) : View.ld x6 r0_7 (ix2 k n) = x6 (ix2 k ⟨2048 + n.val, by omega⟩) := by
    refine View.ld_unit_apply_of _ _ _ _ _ _ fun a => ?_
    fin_cases a <;> simp
  rw [e0, e1, e2, e3, e4, e5, e6, e7, e8, e9]
  simp only [p0, p1, p2, p3, p4, p5]

end Cert.FfnSampleIdeal.Block
end
-- ==== Proof.FfnSample.Rows.lean ====
/- The feed-forward step over the sample batch: the neighbours of a row in sequences of 8192 rows, and the result's rows. -/
module

public import proofs.«01_k».proof.Proof.Ffn.Rows

@[expose] public section

noncomputable section

namespace Cert.FfnSampleRows

open Idealize.ShloMosaic Idealize.ShloMosaic.ValueIdx Cert.InProjRows Cert.FfnRows

/-- The normed row before row `R` of the array, zero at a sequence's first row. -/
def prevG (H : Fin 16384 → Fin 1024 → EReal) (g : Fin 1024 → EReal) (R : Fin 16384) (k : Fin 1024) : EReal :=
  if R.val % 8192 = 0 then 0 else normed (H ⟨R.val - 1, by omega⟩) g k

/-- The normed row after row `R` of the array, zero at a sequence's last row. -/
def nextG (H : Fin 16384 → Fin 1024 → EReal) (g : Fin 1024 → EReal) (R : Fin 16384) (k : Fin 1024) : EReal :=
  if h : R.val % 8192 < 8191 then normed (H ⟨R.val + 1, by omega⟩) g k else 0

theorem prevG_zero (H : Fin 16384 → Fin 1024 → EReal) (g : Fin 1024 → EReal) (R : Fin 16384) (k : Fin 1024) (h : R.val % 8192 = 0) :
    prevG H g R k = 0 := if_pos h

theorem prevG_of (H : Fin 16384 → Fin 1024 → EReal) (g : Fin 1024 → EReal) (R q : Fin 16384) (k : Fin 1024) (h : ¬ R.val % 8192 = 0)
    (hq : q.val = R.val - 1) : prevG H g R k = normed (H q) g k := by
  rw [show q = ⟨R.val - 1, by omega⟩ from Fin.ext hq]
  exact if_neg h

theorem nextG_zero (H : Fin 16384 → Fin 1024 → EReal) (g : Fin 1024 → EReal) (R : Fin 16384) (k : Fin 1024) (h : ¬ R.val % 8192 < 8191) :
    nextG H g R k = 0 := dif_neg h

theorem nextG_of (H : Fin 16384 → Fin 1024 → EReal) (g : Fin 1024 → EReal) (R q : Fin 16384) (k : Fin 1024) (h : R.val % 8192 < 8191)
    (hq : q.val = R.val + 1) : nextG H g R k = normed (H q) g k := by
  rw [show q = ⟨R.val + 1, by omega⟩ from Fin.ext hq]
  exact dif_pos h

/-- Row `R` of the result. -/
def result (gl : EReal → EReal) (H : Fin 16384 → Fin 1024 → EReal) (P : Fin 16384 → Fin 256 → EReal) (g : Fin 1024 → EReal)
    (wu : Fin 1024 → Fin 4096 → EReal) (cw : Fin 3 → Fin 4096 → EReal) (cb : Fin 4096 → EReal) (wd : Fin 2048 → Fin 1024 → EReal)
    (gp : Fin 1024 → EReal) (wg : Fin 1024 → Fin 1024 → EReal) (wp : Fin 256 → Fin 1024 → EReal) (gf : Fin 1024 → EReal)
    (R : Fin 16384) : Fin 1024 → EReal :=
  row gl (H R) (P R)
    (fun n => up (cb ⟨n.val, by omega⟩) (cw 0 ⟨n.val, by omega⟩) (cw 1 ⟨n.val, by omega⟩) (cw 2 ⟨n.val, by omega⟩)
      (prevG H g R) (normed (H R) g) (nextG H g R) (fun k => wu k ⟨n.val, by omega⟩))
    (fun n => up (cb ⟨2048 + n.val, by omega⟩) (cw 0 ⟨2048 + n.val, by omega⟩) (cw 1 ⟨2048 + n.val, by omega⟩) (cw 2 ⟨2048 + n.val, by omega⟩)
      (prevG H g R) (normed (H R) g) (nextG H g R) (fun k => wu k ⟨2048 + n.val, by omega⟩))
    wd gp wg wp gf

/-- The row before a block's row is the array's row before it. -/
theorem before_eq (H : Fin 16384 → Fin 1024 → EReal) (g xp g' : Fin 1024 → EReal) (x0 : Fin 512 → Fin 1024 → EReal) (t : ℕ) (ht : t < 32)
    (h0 : ∀ r k, x0 r k = H ⟨t * 512 + r.val, by omega⟩ k) (hp : t ≠ 0 → ∀ k, xp k = H ⟨t * 512 - 1, by omega⟩ k) (hg : ∀ k, g' k = g k)
    (r : Fin 512) (k : Fin 1024) : before x0 xp g' (t % 16 = 0) r k = prevG H g ⟨t * 512 + r.val, by omega⟩ k := by
  obtain rfl := funext hg
  obtain rfl := funext fun r => funext (h0 r)
  unfold before prevG
  by_cases hr : r.val = 0
  · rw [if_pos hr]
    by_cases hs : t % 16 = 0
    · rw [if_pos (by simpa using hs), if_pos (by simp only []; omega)]
    · rw [if_neg (by simpa using hs), if_neg (by simp only []; omega)]
      rw [funext (hp (by omega))]
      simp only [hr, Nat.add_zero]
  · rw [if_neg hr, if_neg (by simp only []; omega)]
    have e : t * 512 + (r.val - 1) = t * 512 + r.val - 1 := by omega
    simp only [e]

/-- The row after a block's row is the array's row after it. -/
theorem after_eq (H : Fin 16384 → Fin 1024 → EReal) (g xn g' : Fin 1024 → EReal) (x0 : Fin 512 → Fin 1024 → EReal) (t : ℕ) (ht : t < 32)
    (h0 : ∀ r k, x0 r k = H ⟨t * 512 + r.val, by omega⟩ k) (hn : ∀ h : t < 31, ∀ k, xn k = H ⟨t * 512 + 512, by omega⟩ k) (hg : ∀ k, g' k = g k)
    (r : Fin 512) (k : Fin 1024) : after x0 xn g' (t % 16 = 15) r k = nextG H g ⟨t * 512 + r.val, by omega⟩ k := by
  obtain rfl := funext hg
  obtain rfl := funext fun r => funext (h0 r)
  unfold after nextG
  by_cases hr : r.val + 1 < 512
  · rw [dif_pos hr, dif_pos (by simp only []; omega)]
    rfl
  · rw [dif_neg hr]
    by_cases hs : t % 16 = 15
    · rw [if_pos (by simpa using hs), dif_neg (by simp only []; omega)]
    · rw [if_neg (by simpa using hs), dif_pos (by simp only []; omega)]
      rw [funext (hn (by omega))]
      have e : t * 512 + 512 = t * 512 + r.val + 1 := by omega
      simp only [e]

end Cert.FfnSampleRows

end
-- ==== Proof.FfnSample.Value.lean ====
/- The kernel's result over the sample batch: every row through the feed-forward step, the embedding and the last norm. -/
module

public import proofs.«01_k».proof.Proof.FfnSample.Block
public import proofs.«01_k».proof.Proof.FfnSample.Rows
public import Idealize.ShloMosaic.Lib.Claim

@[expose] public section

set_option maxRecDepth 16384

noncomputable section

namespace Cert.FfnSampleIdeal.Result

open Cert.FfnSampleIdeal Cert.FfnSampleIdeal.Gen Cert.FfnSampleIdeal.Block Cert.InProjRows Cert.FfnRows Cert.FfnSampleRows Idealize.ShloMosaic Idealize.ShloMosaic.TcCoe Idealize.SL.Sem

variable (m : (ℓ : Loc nD τ sig) → Buf (Elt Ideal) ℓ)

/-! The arguments as functions of their coordinates. -/

def H (c : Dev nD) (k : Fin 16384) (n : Fin 1024) : EReal := (m ((c : Thread nD τ).loc main_arg0) : S16384x1024.Idx → EReal) (ix2 k n)
def P (c : Dev nD) (k : Fin 16384) (n : Fin 256) : EReal := (m ((c : Thread nD τ).loc main_arg1) : S16384x256.Idx → EReal) (ix2 k n)
def g (c : Dev nD) (k : Fin 1024) : EReal := (m ((c : Thread nD τ).loc main_arg2) : S1024.Idx → EReal) (ix1 k)
def wu (c : Dev nD) (k : Fin 1024) (n : Fin 4096) : EReal := (m ((c : Thread nD τ).loc main_arg3) : S1024x4096.Idx → EReal) (ix2 k n)
def cw (c : Dev nD) (k : Fin 3) (n : Fin 4096) : EReal := (m ((c : Thread nD τ).loc main_arg4) : S3x4096.Idx → EReal) (ix2 k n)
def cb (c : Dev nD) (k : Fin 4096) : EReal := (m ((c : Thread nD τ).loc main_arg5) : S4096.Idx → EReal) (ix1 k)
def wd (c : Dev nD) (k : Fin 2048) (n : Fin 1024) : EReal := (m ((c : Thread nD τ).loc main_arg6) : S2048x1024.Idx → EReal) (ix2 k n)
def gp (c : Dev nD) (k : Fin 1024) : EReal := (m ((c : Thread nD τ).loc main_arg7) : S1024.Idx → EReal) (ix1 k)
def wg (c : Dev nD) (k : Fin 1024) (n : Fin 1024) : EReal := (m ((c : Thread nD τ).loc main_arg8) : S1024x1024.Idx → EReal) (ix2 k n)
def wp (c : Dev nD) (k : Fin 256) (n : Fin 1024) : EReal := (m ((c : Thread nD τ).loc main_arg9) : S256x1024.Idx → EReal) (ix2 k n)
def gf (c : Dev nD) (k : Fin 1024) : EReal := (m ((c : Thread nD τ).loc main_arg10) : S1024.Idx → EReal) (ix1 k)

/-- The result at row `R` and column `j`. -/
def val (gl : EReal → EReal) (c : Dev nD) (R : Fin 16384) (j : Fin 1024) : EReal := Cert.FfnSampleRows.result gl (H m c) (P m c) (g m c) (wu m c) (cw m c) (cb m c) (wd m c) (gp m c) (wg m c) (wp m c) (gf m c) R j

def G (c : Dev nD) : S16384x1024.Idx → EReal := fun i => val m geluK c (i 0) (i 1)

theorem idx0 : ∀ t : Fin cfg0.N, win0_0.index t = ![t.val, 0] := (by decide +kernel : ∀ t : Fin grid0.N, _)
theorem idx1 : ∀ t : Fin cfg0.N, win0_1.index t = ![t.val * 32 - 1, 0] := (by decide +kernel : ∀ t : Fin grid0.N, _)
theorem idx2 : ∀ t : Fin cfg0.N, win0_2.index t = ![min (t.val * 32 + 32) 1023, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![t.val, 0] := (by decide +kernel : ∀ t : Fin grid0.N, _)
theorem coord : ∀ t : Fin cfg0.N, (grid0.coords t 0).val = t.val := (by decide +kernel : ∀ t : Fin grid0.N, _)
theorem lt_N (t : Fin cfg0.N) : t.val < 32 := t.isLt

theorem g_at (c : Dev nD) (k : Fin 1024) : (V m c main_v0 : S1x1024.Idx → EReal) (ix2 0 k) = g m c k := by
  unfold g; entry_read; pointwise []; try rfl
theorem wu_at (c : Dev nD) (k : Fin 1024) (n : Fin 4096) : (V m c main_v1 : S1024x4096.Idx → EReal) (ix2 k n) = wu m c k n := by
  unfold wu; entry_read; pointwise []; try rfl
theorem cb_at (c : Dev nD) (k : Fin 4096) : (V m c main_v2 : S1x4096.Idx → EReal) (ix2 0 k) = cb m c k := by
  unfold cb; entry_read; pointwise []; try rfl
theorem wd_at (c : Dev nD) (k : Fin 2048) (n : Fin 1024) : (V m c main_v3 : S2048x1024.Idx → EReal) (ix2 k n) = wd m c k n := by
  unfold wd; entry_read; pointwise []; try rfl
theorem gp_at (c : Dev nD) (k : Fin 1024) : (V m c main_v4 : S1x1024.Idx → EReal) (ix2 0 k) = gp m c k := by
  unfold gp; entry_read; pointwise []; try rfl
theorem wg_at (c : Dev nD) (k : Fin 1024) (n : Fin 1024) : (V m c main_v5 : S1024x1024.Idx → EReal) (ix2 k n) = wg m c k n := by
  unfold wg; entry_read; pointwise []; try rfl
theorem wp_at (c : Dev nD) (k : Fin 256) (n : Fin 1024) : (V m c main_v6 : S256x1024.Idx → EReal) (ix2 k n) = wp m c k n := by
  unfold wp; entry_read; pointwise []; try rfl
theorem gf_at (c : Dev nD) (k : Fin 1024) : (V m c main_v7 : S1x1024.Idx → EReal) (ix2 0 k) = gf m c k := by
  unfold gf; entry_read; pointwise []; try rfl

/-- Row `r` of block `t` of the hidden state is row `512 t + r` of the array. -/
theorem blk0 (c : Dev nD) (t : Fin cfg0.N) (r : Fin 512) (k : Fin 1024) :
    (iblk m c 0 t : S512x1024.Idx → EReal) (ix2 r k) = H m c ⟨t.val * 512 + r.val, by have := lt_N t; omega⟩ k := by
  unfold H
  blk_ext! [iblk, V_main_arg0, idx0 t]
theorem blk1 (c : Dev nD) (t : Fin cfg0.N) (ht : t.val ≠ 0) (k : Fin 1024) :
    (iblk m c 1 t : S16x1024.Idx → EReal) (ix2 15 k) = H m c ⟨t.val * 512 - 1, by have := lt_N t; omega⟩ k := by
  unfold H
  blk_ext! [iblk, V_main_arg0, idx1 t]
theorem blk2 (c : Dev nD) (t : Fin cfg0.N) (ht : t.val < 31) (k : Fin 1024) :
    (iblk m c 2 t : S16x1024.Idx → EReal) (ix2 0 k) = H m c ⟨t.val * 512 + 512, by have := lt_N t; omega⟩ k := by
  unfold H
  blk_ext! [iblk, V_main_arg0, idx2 t]
theorem blk3 (c : Dev nD) (t : Fin cfg0.N) (r : Fin 512) (k : Fin 256) :
    (iblk m c 3 t : S512x256.Idx → EReal) (ix2 r k) = P m c ⟨t.val * 512 + r.val, by have := lt_N t; omega⟩ k := by
  unfold P
  blk_ext! [iblk, V_main_arg1, idx3 t]
theorem blk6 (c : Dev nD) (t : Fin cfg0.N) (k : Fin 3) (n : Fin 4096) : (iblk m c 6 t : S3x4096.Idx → EReal) (ix2 k n) = cw m c k n := by
  unfold cw
  blk_ext! [iblk, V_main_arg4, idx6 t]
theorem blk4 (c : Dev nD) (t : Fin cfg0.N) (k : Fin 1024) : (iblk m c 4 t : S1x1024.Idx → EReal) (ix2 0 k) = g m c k := by
  refine Eq.trans ?_ (g_at m c k)
  show V m c main_v0 _ = V m c main_v0 _
  blk_ext [idx4 t]
theorem blk5 (c : Dev nD) (t : Fin cfg0.N) (k : Fin 1024) (n : Fin 4096) : (iblk m c 5 t : S1024x4096.Idx → EReal) (ix2 k n) = wu m c k n := by
  refine Eq.trans ?_ (wu_at m c k n)
  show V m c main_v1 _ = V m c main_v1 _
  blk_ext [idx5 t]
theorem blk7 (c : Dev nD) (t : Fin cfg0.N) (k : Fin 4096) : (iblk m c 7 t : S1x4096.Idx → EReal) (ix2 0 k) = cb m c k := by
  refine Eq.trans ?_ (cb_at m c k)
  show V m c main_v2 _ = V m c main_v2 _
  blk_ext [idx7 t]
theorem blk8 (c : Dev nD) (t : Fin cfg0.N) (k : Fin 2048) (n : Fin 1024) : (iblk m c 8 t : S2048x1024.Idx → EReal) (ix2 k n) = wd m c k n := by
  refine Eq.trans ?_ (wd_at m c k n)
  show V m c main_v3 _ = V m c main_v3 _
  blk_ext [idx8 t]
theorem blk9 (c : Dev nD) (t : Fin cfg0.N) (k : Fin 1024) : (iblk m c 9 t : S1x1024.Idx → EReal) (ix2 0 k) = gp m c k := by
  refine Eq.trans ?_ (gp_at m c k)
  show V m c main_v4 _ = V m c main_v4 _
  blk_ext [idx9 t]
theorem blk10 (c : Dev nD) (t : Fin cfg0.N) (k : Fin 1024) (n : Fin 1024) : (iblk m c 10 t : S1024x1024.Idx → EReal) (ix2 k n) = wg m c k n := by
  refine Eq.trans ?_ (wg_at m c k n)
  show V m c main_v5 _ = V m c main_v5 _
  blk_ext [idx10 t]
theorem blk11 (c : Dev nD) (t : Fin cfg0.N) (k : Fin 256) (n : Fin 1024) : (iblk m c 11 t : S256x1024.Idx → EReal) (ix2 k n) = wp m c k n := by
  refine Eq.trans ?_ (wp_at m c k n)
  show V m c main_v6 _ = V m c main_v6 _
  blk_ext [idx11 t]
theorem blk12 (c : Dev nD) (t : Fin cfg0.N) (k : Fin 1024) : (iblk m c 12 t : S1x1024.Idx → EReal) (ix2 0 k) = gf m c k := by
  refine Eq.trans ?_ (gf_at m c k)
  show V m c main_v7 _ = V m c main_v7 _
  blk_ext [idx12 t]

theorem G_of (c : Dev nD) (i : S16384x1024.Idx) (r : Fin 16384) (n : Fin 1024) (h0 : (i 0).val = r.val) (h1 : (i 1).val = n.val) :
    val m geluK c r n = G m c i := by
  obtain rfl : i 0 = r := Fin.ext h0
  obtain rfl : i 1 = n := Fin.ext h1
  rfl

/-- What grid point `t` writes. -/
theorem point (c : Dev nD) (t : Fin cfg0.N) (y : S512x1024.Idx) :
    out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = val m geluK c ⟨t.val * 512 + (y 0).val, by have := lt_N t; have : (y 0).val < 512 := (y 0).isLt; omega⟩ (y 1) := by
  refine (out13_at _ _ _ _ _ _ _ _ _ _ _ _ _ _ y).trans ?_
  rw [coord t]
  refine row_congr (fun k => blk0 m c t (y 0) k) (fun k => blk3 m c t (y 0) k) (fun n => ?_) (fun n => ?_) (fun n j => blk8 m c t n j) (fun k => blk9 m c t k)
    (fun k j => blk10 m c t k j) (fun k j => blk11 m c t k j) (fun k => blk12 m c t k) (y 1)
  · exact up_congr (blk7 m c t _) (blk6 m c t 0 _) (blk6 m c t 1 _) (blk6 m c t 2 _)
      (fun k => before_eq (H m c) (g m c) _ _ _ t.val (lt_N t) (fun r k => blk0 m c t r k) (fun h k => blk1 m c t h k) (fun k => blk4 m c t k) (y 0) k)
      (fun k => congrArg₂ (fun a b => normed a b k) (funext fun k => blk0 m c t (y 0) k) (funext fun k => blk4 m c t k))
      (fun k => after_eq (H m c) (g m c) _ _ _ t.val (lt_N t) (fun r k => blk0 m c t r k) (fun h k => blk2 m c t h k) (fun k => blk4 m c t k) (y 0) k)
      (fun k => blk5 m c t k _)
  · exact up_congr (blk7 m c t _) (blk6 m c t 0 _) (blk6 m c t 1 _) (blk6 m c t 2 _)
      (fun k => before_eq (H m c) (g m c) _ _ _ t.val (lt_N t) (fun r k => blk0 m c t r k) (fun h k => blk1 m c t h k) (fun k => blk4 m c t k) (y 0) k)
      (fun k => congrArg₂ (fun a b => normed a b k) (funext fun k => blk0 m c t (y 0) k) (funext fun k => blk4 m c t k))
      (fun k => after_eq (H m c) (g m c) _ _ _ t.val (lt_N t) (fun r k => blk0 m c t r k) (fun h k => blk2 m c t h k) (fun k => blk4 m c t k) (y 0) k)
      (fun k => blk5 m c t k _)

theorem final (c : Dev nD) : (dats m 0 c).arrAt 13 cfg0.N = G m c := by
  refine (dats m 0 c).arrAt_eq_of_covers 13 _ (by decide +kernel) fun t hf y => ?_
  blk_simp
  rw [after0_13]
  refine (point m c t y).trans (G_of m c _ _ _ ?_ ?_) <;> blk_simp [idx13 t] <;> simp

/-- The kernel's run: its result, and its arguments kept. -/
theorem run (ρ : Dev nD → PrngReg) :
    θ_run defs (onTc (τ := τ) (main (F := Ideal))) ⟨m, fun _ => 0, ρ⟩ fun r => ∀ c : Dev nD,
      r.2.mem ((c : Thread nD τ).loc main_v8) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) := by
  refine (θ_run defs _ _).mono (fun r h c => ?_) (Value.run_blocks m ρ)
  obtain ⟨h0, ha⟩ := h c
  exact ⟨h0.trans (final m c), ha⟩

end Cert.FfnSampleIdeal.Result
end
-- ==== Proof.FfnSample.Ref.lean ====
/- The reference's result over the sample batch: every row through the feed-forward step, the embedding and the last norm. -/
module

public import proofs.«01_k».proof.Proof.Gen.FfnSampleReferenceIdeal.Run
public import proofs.«01_k».proof.Proof.Ffn.Ref
public import proofs.«01_k».proof.Proof.FfnSample.Rows
public import Idealize.ShloMosaic.Lib.Pointwise
public import Idealize.ShloMosaic.Lib.Claim

@[expose] public section

set_option maxRecDepth 16384

noncomputable section

namespace Cert.FfnSampleReferenceIdeal.Result

open Cert.FfnSampleReferenceIdeal Cert.FfnSampleReferenceIdeal.Gen Cert.FfnSampleReferenceIdeal.Value Cert.InProjRows Cert.FfnRows Cert.FfnSampleRows Idealize.ShloMosaic Idealize.ShloMosaic.TcCoe Idealize.SL.Sem Idealize.ShloMosaic.StableHlo

open Cert.FfnReferenceIdeal.Result (lit_half lit_a lit_b pad_zero)

variable (m : (ℓ : Loc nD τ sig) → Buf (Elt Ideal) ℓ)

/-! The arguments as functions of their coordinates. -/

def H (c : Dev nD) (k : Fin 16384) (n : Fin 1024) : EReal := (m ((c : Thread nD τ).loc main_arg0) : S16384x1024.Idx → EReal) (ix2 k n)
def P (c : Dev nD) (k : Fin 16384) (n : Fin 256) : EReal := (m ((c : Thread nD τ).loc main_arg1) : S16384x256.Idx → EReal) (ix2 k n)
def g (c : Dev nD) (k : Fin 1024) : EReal := (m ((c : Thread nD τ).loc main_arg2) : S1024.Idx → EReal) (ix1 k)
def wu (c : Dev nD) (k : Fin 1024) (n : Fin 4096) : EReal := (m ((c : Thread nD τ).loc main_arg3) : S1024x4096.Idx → EReal) (ix2 k n)
def cw (c : Dev nD) (k : Fin 3) (n : Fin 4096) : EReal := (m ((c : Thread nD τ).loc main_arg4) : S3x4096.Idx → EReal) (ix2 k n)
def cb (c : Dev nD) (k : Fin 4096) : EReal := (m ((c : Thread nD τ).loc main_arg5) : S4096.Idx → EReal) (ix1 k)
def wd (c : Dev nD) (k : Fin 2048) (n : Fin 1024) : EReal := (m ((c : Thread nD τ).loc main_arg6) : S2048x1024.Idx → EReal) (ix2 k n)
def gp (c : Dev nD) (k : Fin 1024) : EReal := (m ((c : Thread nD τ).loc main_arg7) : S1024.Idx → EReal) (ix1 k)
def wg (c : Dev nD) (k : Fin 1024) (n : Fin 1024) : EReal := (m ((c : Thread nD τ).loc main_arg8) : S1024x1024.Idx → EReal) (ix2 k n)
def wp (c : Dev nD) (k : Fin 256) (n : Fin 1024) : EReal := (m ((c : Thread nD τ).loc main_arg9) : S256x1024.Idx → EReal) (ix2 k n)
def gf (c : Dev nD) (k : Fin 1024) : EReal := (m ((c : Thread nD τ).loc main_arg10) : S1024.Idx → EReal) (ix1 k)

/-- The result at row `R` and column `j`. -/
def val (gl : EReal → EReal) (c : Dev nD) (R : Fin 16384) (j : Fin 1024) : EReal := Cert.FfnSampleRows.result gl (H m c) (P m c) (g m c) (wu m c) (cw m c) (cb m c) (wd m c) (gp m c) (wg m c) (wp m c) (gf m c) R j

def G (c : Dev nD) : S16384x1024.Idx → EReal := fun i => val m geluR c (i 0) (i 1)

/-- The convolved up-projection at row `r` and column `n`. -/
def convV (c : Dev nD) (r : Fin 16384) (n : Fin 4096) : EReal :=
  up (cb m c n) (cw m c 0 n) (cw m c 1 n) (cw m c 2 n) (prevG (H m c) (g m c) r) (normed (H m c r) (g m c)) (nextG (H m c) (g m c) r)
    (fun k => wu m c k n)

theorem conv_at (c : Dev nD) (r : Fin 16384) (n : Fin 4096) :
    (res_main_v39 (launchContents m c) : S16384x4096.Idx → EReal) (ix2 r n) = convV m c r n := by
  unfold convV up conv
  pointwise [res_main_v39, res_main_v15]
  refine congrArg₂ (· + ·) (congrArg₂ (· + ·) (congrArg₂ (· + ·) rfl (congrArg₂ (· * ·) rfl ?_)) (congrArg₂ (· * ·) rfl ?_)) (congrArg₂ (· * ·) rfl ?_)
  · by_cases h : r.val % 8192 = 0
    · refine (dif_neg (by omega)).trans (pad_zero.trans (Finset.sum_eq_zero fun k _ => ?_).symm)
      exact (congrArg (· * wu m c k n) (prevG_zero (H m c) (g m c) r k h)).trans (zero_mul _)
    · refine (dif_pos (by omega)).trans (Finset.sum_congr rfl fun k _ => ?_)
      exact (congrArg (· * wu m c k n) (prevG_of (H m c) (g m c) r ⟨r.val / 8192 * 8192 + (r.val % 8192 - 1), by omega⟩ k h
        (by simp only []; omega))).symm
  · exact dif_pos (by omega)
  · by_cases h : r.val % 8192 < 8191
    · refine (dif_pos (by omega)).trans (Finset.sum_congr rfl fun k _ => ?_)
      exact (congrArg (· * wu m c k n) (nextG_of (H m c) (g m c) r ⟨r.val / 8192 * 8192 + (2 + r.val % 8192 - 1), by omega⟩ k h
        (by simp only []; omega))).symm
    · refine (dif_neg (by omega)).trans (pad_zero.trans (Finset.sum_eq_zero fun k _ => ?_).symm)
      exact (congrArg (· * wu m c k n) (nextG_zero (H m c) (g m c) r k h)).trans (zero_mul _)

/-- The row after the gated activation. -/
def downV (c : Dev nD) (r : Fin 16384) : Fin 1024 → EReal :=
  down geluR (H m c r) (fun n => convV m c r ⟨n.val, by omega⟩) (fun n => convV m c r ⟨2048 + n.val, by omega⟩) (wd m c)

theorem down_at (c : Dev nD) (r : Fin 16384) (j : Fin 1024) :
    (res_main_v57 (launchContents m c) : S16384x1024.Idx → EReal) (ix2 r j) = downV m c r j := by
  unfold downV down
  pointwise [res_main_v57, res_main_v40]
  refine congrArg₂ (· + ·) rfl (Finset.sum_congr rfl fun n _ => ?_)
  refine congrArg₂ (· * ·) (congrArg₂ (· * ·) ?_ (conv_at m c r _)) rfl
  rw [lit_half, lit_a, lit_b]
  unfold geluR
  rw [← conv_at m c r ⟨n.val, by omega⟩]

theorem ple_at (c : Dev nD) (r : Fin 16384) (j : Fin 1024) :
    (res_main_v80 (launchContents m c) : S16384x1024.Idx → EReal) (ix2 r j) = ple (downV m c r) (P m c r) (gp m c) (wg m c) (wp m c) j := by
  rw [show downV m c r = fun j => (res_main_v57 (launchContents m c) : S16384x1024.Idx → EReal) (ix2 r j) from funext fun j => (down_at m c r j).symm]
  unfold ple
  pointwise [res_main_v80, normed]
  rfl

/-- The reference's run: its result, and its arguments kept. -/
theorem run (ρ : Dev nD → PrngReg) :
    θ_run defs (onTc (τ := τ) (main (F := Ideal))) ⟨m, fun _ => 0, ρ⟩ fun r => ∀ c : Dev nD,
      r.2.mem ((c.tc : Thread nD τ).loc main_v93) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r h c => ?_) (Value.run m ρ)
  obtain ⟨h0, ha⟩ := h c
  refine ⟨h0.trans ?_, ha⟩
  funext i
  unfold G val Cert.FfnSampleRows.result row
  refine Eq.trans ?_ (congrArg (fun f => normed f (gf m c) (i 1)) (funext fun j => ple_at m c (i 0) j))
  pointwise [normed]
  rfl

/-- The reference's frame: it ends with its arguments kept and every counter at zero. -/
theorem frame (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0 :=
  (θ_run defs _ _).mono (fun r h => ⟨fun c => (h c).2, Idealize.ShloMosaic.sem_eq_zero_of_no_sems (by decide) r.2⟩) (Value.run m ρ)

end Cert.FfnSampleReferenceIdeal.Result
end
-- ==== Proof.Merge.Rows.lean ====
/- The rows of the gated merge: four branch projections behind their gates, then the output projection. -/
module

public import Idealize.ShloMosaic.Lib.Pointwise

@[expose] public section

noncomputable section

namespace Cert.MergeRows

open Idealize.ShloMosaic

/-- One gated branch: the gate's logistic times the branch's projection. -/
def gated (g : EReal) (b w : Fin 512 → EReal) : EReal := Ideal.logistic g * ∑ k, b k * w k

/-- One entry of the result: the row's own value and the projection of the four gated branches' sum. -/
def entry (h : EReal) (g : Fin 4 → Fin 1024 → EReal) (b : Fin 4 → Fin 512 → EReal) (w : Fin 4 → Fin 512 → Fin 1024 → EReal)
    (wo : Fin 1024 → EReal) : EReal :=
  h + ∑ n, (gated (g 0 n) (b 0) (fun k => w 0 k n) + gated (g 1 n) (b 1) (fun k => w 1 k n) + gated (g 2 n) (b 2) (fun k => w 2 k n)
    + gated (g 3 n) (b 3) (fun k => w 3 k n)) * wo n

theorem entry_congr {h h' : EReal} {g g' : Fin 4 → Fin 1024 → EReal} {b b' : Fin 4 → Fin 512 → EReal} {w w' : Fin 4 → Fin 512 → Fin 1024 → EReal}
    {wo wo' : Fin 1024 → EReal} (eh : h = h') (eg : ∀ a n, g a n = g' a n) (eb : ∀ a k, b a k = b' a k) (ew : ∀ a k n, w a k n = w' a k n)
    (eo : ∀ n, wo n = wo' n) : entry h g b w wo = entry h' g' b' w' wo' := by
  obtain rfl := eh
  obtain rfl : g = g' := funext fun a => funext (eg a)
  obtain rfl : b = b' := funext fun a => funext (eb a)
  obtain rfl : w = w' := funext fun a => funext fun k => funext (ew a k)
  obtain rfl : wo = wo' := funext eo
  rfl

end Cert.MergeRows
end
-- ==== Proof.Merge.Block.lean ====
/- What one grid point of the merge writes: a block of 512 rows. -/
module

public import proofs.«01_k».proof.Proof.Gen.MergeIdeal.Value
public import proofs.«01_k».proof.Proof.Merge.Rows
public import Idealize.ShloMosaic.Lib.Pipeline.ValueKit.Point
public import Idealize.ShloMosaic.Lib.Pipeline.ValueKit.Tiles
public import Idealize.ShloMosaic.Lib.Pointwise

@[expose] public section

set_option maxRecDepth 16384

noncomputable section

namespace Cert.MergeIdeal.Block

open Cert.MergeIdeal Cert.MergeIdeal.Gen Cert.MergeRows Idealize.ShloMosaic Idealize.ShloMosaic.TcCoe Idealize.SL.Sem

theorem hz : (![0, 0] : Fin 2 → ℕ) = fun _ => 0 := by funext a; fin_cases a <;> rfl

/-- The run's one piece is the whole block. -/
theorem out_eq (c : Dev nD) (i : grid0.Coords) (a0 : Memref sig .tc .vmem S512x1024 .f32) (h0 : a0.IsWhole) (a1 : Memref sig .tc .vmem S512x1024 .bf16) (h1 : a1.IsWhole) (a2 : Memref sig .tc .vmem S512x1024 .bf16) (h2 : a2.IsWhole) (a3 : Memref sig .tc .vmem S512x1024 .bf16) (h3 : a3.IsWhole) (a4 : Memref sig .tc .vmem S512x1024 .bf16) (h4 : a4.IsWhole) (a5 : Memref sig .tc .vmem S512x512 .bf16) (h5 : a5.IsWhole) (a6 : Memref sig .tc .vmem S512x512 .bf16) (h6 : a6.IsWhole) (a7 : Memref sig .tc .vmem S512x512 .bf16) (h7 : a7.IsWhole) (a8 : Memref sig .tc .vmem S512x512 .bf16) (h8 : a8.IsWhole) (a9 : Memref sig .tc .vmem S4x512x1024 .bf16) (h9 : a9.IsWhole) (a10 : Memref sig .tc .vmem S1024x1024 .bf16) (h10 : a10.IsWhole) (a11 : Memref sig .tc .vmem S512x1024 .f32) (h11 : a11.IsWhole)
    (x0 : Vec Ideal S512x1024 .f32) (x1 : Vec Ideal S512x1024 .bf16) (x2 : Vec Ideal S512x1024 .bf16) (x3 : Vec Ideal S512x1024 .bf16) (x4 : Vec Ideal S512x1024 .bf16) (x5 : Vec Ideal S512x512 .bf16) (x6 : Vec Ideal S512x512 .bf16) (x7 : Vec Ideal S512x512 .bf16) (x8 : Vec Ideal S512x512 .bf16) (x9 : Vec Ideal S4x512x1024 .bf16) (x10 : Vec Ideal S1024x1024 .bf16) :
    out0_A_11 c i a0 h0 a1 h1 a2 h2 a3 h3 a4 h4 a5 h5 a6 h6 a7 h7 a8 h8 a9 h9 a10 h10 a11 h11 x0 x1 x2 x3 x4 x5 x6 x7 x8 x9 x10
      = k0_pay1 (k0_pay2 x1 x5 (View.ld x9 (Rect.unit (s := S4x512x1024) ![0, 0, 0] S1x512x1024.size inb_S4x512x1024_S1x512x1024_0_0_0))
          x2 x6 (View.ld x9 (Rect.unit (s := S4x512x1024) ![1, 0, 0] S1x512x1024.size inb_S4x512x1024_S1x512x1024_1_0_0))
          x3 x7 (View.ld x9 (Rect.unit (s := S4x512x1024) ![2, 0, 0] S1x512x1024.size inb_S4x512x1024_S1x512x1024_2_0_0)))
          (k0_pay3 x4) x8 (View.ld x9 (Rect.unit (s := S4x512x1024) ![3, 0, 0] S1x512x1024.size inb_S4x512x1024_S1x512x1024_3_0_0)) x0 x10 := by
  unfold out0_A_11
  rw [View.read_writes_junk_eq_canon]
  unfold kernelRun0_A
  refine (View.canon_unit_zero hz _ _).trans ?_
  simp only [View.readAt_eq_ld, h0.read_unread, h1.read_unread, h2.read_unread, h3.read_unread, h4.read_unread, h5.read_unread, h6.read_unread, h7.read_unread, h8.read_unread, h9.read_unread, h10.read_unread, View.ld_unit_zero (S := S512x1024) hz,
    View.ld_unit_zero (S := S512x512) hz, View.ld_unit_zero (S := S1024x1024) hz, kernelRun0_A.sl.r, kernelRun0_A.sl.r_1, kernelRun0_A.sl.r_2]

theorem slab (x9 : Vec Ideal S4x512x1024 .bf16) (a : Fin 4) (inb) (k : Fin 512) (n : Fin 1024) :
    (View.ld x9 (Rect.unit (s := S4x512x1024) ![a.val, 0, 0] S1x512x1024.size inb) : S1x512x1024.Idx → EReal) (ix3 0 k n) = (x9 : S4x512x1024.Idx → EReal) (ix3 a k n) := by
  refine View.ld_unit_apply_of _ _ _ _ _ _ fun b => ?_
  fin_cases b <;> simp

/-- The block's entry at row `y 0` and column `y 1`. -/
theorem pay_at (x0 : Vec Ideal S512x1024 .f32) (x1 x2 x3 x4 : Vec Ideal S512x1024 .bf16) (x5 x6 x7 x8 : Vec Ideal S512x512 .bf16)
    (w0 w1 w2 w3 : Vec Ideal S1x512x1024 .bf16) (x10 : Vec Ideal S1024x1024 .bf16) (y : S512x1024.Idx) :
    k0_pay1 (k0_pay2 x1 x5 w0 x2 x6 w1 x3 x7 w2) (k0_pay3 x4) x8 w3 x0 x10 y
      = entry (x0 y) ![fun n => x1 (ix2 (y 0) n), fun n => x2 (ix2 (y 0) n), fun n => x3 (ix2 (y 0) n), fun n => x4 (ix2 (y 0) n)]
          ![fun k => x5 (ix2 (y 0) k), fun k => x6 (ix2 (y 0) k), fun k => x7 (ix2 (y 0) k), fun k => x8 (ix2 (y 0) k)]
          ![fun k n => w0 (ix3 0 k n), fun k n => w1 (ix3 0 k n), fun k n => w2 (ix3 0 k n), fun k n => w3 (ix3 0 k n)]
          (fun n => x10 (ix2 n (y 1))) := by
  unfold entry gated
  pointwise [k0_pay1, k0_pay2, k0_pay3]
  try rfl

end Cert.MergeIdeal.Block
end
-- ==== Proof.Merge.Value.lean ====
/- The merge kernel's result: every row behind its four gates. -/
module

public import proofs.«01_k».proof.Proof.Merge.Block
public import Idealize.ShloMosaic.Lib.Claim

@[expose] public section

set_option maxRecDepth 16384

noncomputable section

namespace Cert.MergeIdeal.Result

open Cert.MergeIdeal Cert.MergeIdeal.Gen Cert.MergeIdeal.Block Cert.MergeRows Idealize.ShloMosaic Idealize.ShloMosaic.TcCoe Idealize.SL.Sem

variable (m : (ℓ : Loc nD τ sig) → Buf (Elt Ideal) ℓ)

/-- The gates: four groups of 1024 columns of the projected array. -/
def gate (c : Dev nD) (R : Fin 65536) (a : Fin 4) (n : Fin 1024) : EReal :=
  (m ((c : Thread nD τ).loc main_arg1) : S65536x8704.Idx → EReal) (ix2 R ⟨a.val * 1024 + n.val, by omega⟩)
/-- The four branches. -/
def branch (c : Dev nD) (R : Fin 65536) : Fin 4 → Fin 512 → EReal :=
  ![fun k => (m ((c : Thread nD τ).loc main_arg2) : S65536x512.Idx → EReal) (ix2 R k), fun k => (m ((c : Thread nD τ).loc main_arg3) : S65536x512.Idx → EReal) (ix2 R k),
    fun k => (m ((c : Thread nD τ).loc main_arg4) : S65536x512.Idx → EReal) (ix2 R k), fun k => (m ((c : Thread nD τ).loc main_arg5) : S65536x512.Idx → EReal) (ix2 R k)]
/-- The result at row `R` and column `j`. -/
def val (c : Dev nD) (R : Fin 65536) (j : Fin 1024) : EReal :=
  entry ((m ((c : Thread nD τ).loc main_arg0) : S65536x1024.Idx → EReal) (ix2 R j)) (gate m c R) (branch m c R)
    (fun a k n => (m ((c : Thread nD τ).loc main_arg6) : S4x512x1024.Idx → EReal) (ix3 a k n)) (fun n => (m ((c : Thread nD τ).loc main_arg7) : S1024x1024.Idx → EReal) (ix2 n j))

def G (c : Dev nD) : S65536x1024.Idx → EReal := fun i => val m c (i 0) (i 1)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 1] := (by decide +kernel : ∀ t : Fin grid0.N, _)
theorem idx3 : ∀ t : Fin cfg0.N, win0_3.index t = ![t.val, 2] := (by decide +kernel : ∀ t : Fin grid0.N, _)
theorem idx4 : ∀ t : Fin cfg0.N, win0_4.index t = ![t.val, 3] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![0, 0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![t.val, 0] := (by decide +kernel : ∀ t : Fin grid0.N, _)
theorem lt_N (t : Fin cfg0.N) : t.val < 128 := t.isLt

theorem wb_at (c : Dev nD) (a : Fin 4) (k : Fin 512) (n : Fin 1024) :
    (V m c main_v0 : S4x512x1024.Idx → EReal) (ix3 a k n) = (m ((c : Thread nD τ).loc main_arg6) : S4x512x1024.Idx → EReal) (ix3 a k n) := by
  entry_read; pointwise []; try rfl
theorem wo_at (c : Dev nD) (k : Fin 1024) (n : Fin 1024) :
    (V m c main_v1 : S1024x1024.Idx → EReal) (ix2 k n) = (m ((c : Thread nD τ).loc main_arg7) : S1024x1024.Idx → EReal) (ix2 k n) := by
  entry_read; pointwise []; try rfl

theorem blk0 (c : Dev nD) (t : Fin cfg0.N) (r : Fin 512) (k : Fin 1024) :
    (iblk m c 0 t : S512x1024.Idx → EReal) (ix2 r k)
      = (m ((c : Thread nD τ).loc main_arg0) : S65536x1024.Idx → EReal) (ix2 ⟨t.val * 512 + r.val, by have := lt_N t; omega⟩ k) := by
  blk_ext! [iblk, V_main_arg0, idx0 t]
theorem blk1 (c : Dev nD) (t : Fin cfg0.N) (r : Fin 512) (n : Fin 1024) :
    (X0_1 m c t : S512x1024.Idx → EReal) (ix2 r n) = gate m c ⟨t.val * 512 + r.val, by have := lt_N t; omega⟩ 0 n := by
  unfold X0_1 Pipeline.Window.fill gate
  rw [dif_pos (moved0_1 t _)]
  blk_ext! [iblk, V_main_arg1, idx1 t]
theorem blk2 (c : Dev nD) (t : Fin cfg0.N) (r : Fin 512) (n : Fin 1024) :
    (X0_2 m c t : S512x1024.Idx → EReal) (ix2 r n) = gate m c ⟨t.val * 512 + r.val, by have := lt_N t; omega⟩ 1 n := by
  unfold X0_2 Pipeline.Window.fill gate
  rw [dif_pos (moved0_2 t _)]
  blk_ext! [iblk, V_main_arg1, idx2 t]
theorem blk3 (c : Dev nD) (t : Fin cfg0.N) (r : Fin 512) (n : Fin 1024) :
    (X0_3 m c t : S512x1024.Idx → EReal) (ix2 r n) = gate m c ⟨t.val * 512 + r.val, by have := lt_N t; omega⟩ 2 n := by
  unfold X0_3 Pipeline.Window.fill gate
  rw [dif_pos (moved0_3 t _)]
  blk_ext! [iblk, V_main_arg1, idx3 t]
theorem blk4 (c : Dev nD) (t : Fin cfg0.N) (r : Fin 512) (n : Fin 1024) :
    (X0_4 m c t : S512x1024.Idx → EReal) (ix2 r n) = gate m c ⟨t.val * 512 + r.val, by have := lt_N t; omega⟩ 3 n := by
  unfold X0_4 Pipeline.Window.fill gate
  rw [dif_pos (moved0_4 t _)]
  blk_ext! [iblk, V_main_arg1, idx4 t]
theorem blk5 (c : Dev nD) (t : Fin cfg0.N) (r : Fin 512) (k : Fin 512) :
    (iblk m c 5 t : S512x512.Idx → EReal) (ix2 r k)
      = (m ((c : Thread nD τ).loc main_arg2) : S65536x512.Idx → EReal) (ix2 ⟨t.val * 512 + r.val, by have := lt_N t; omega⟩ k) := by
  blk_ext! [iblk, V_main_arg2, idx5 t]
theorem blk6 (c : Dev nD) (t : Fin cfg0.N) (r : Fin 512) (k : Fin 512) :
    (iblk m c 6 t : S512x512.Idx → EReal) (ix2 r k)
      = (m ((c : Thread nD τ).loc main_arg3) : S65536x512.Idx → EReal) (ix2 ⟨t.val * 512 + r.val, by have := lt_N t; omega⟩ k) := by
  blk_ext! [iblk, V_main_arg3, idx6 t]
theorem blk7 (c : Dev nD) (t : Fin cfg0.N) (r : Fin 512) (k : Fin 512) :
    (iblk m c 7 t : S512x512.Idx → EReal) (ix2 r k)
      = (m ((c : Thread nD τ).loc main_arg4) : S65536x512.Idx → EReal) (ix2 ⟨t.val * 512 + r.val, by have := lt_N t; omega⟩ k) := by
  blk_ext! [iblk, V_main_arg4, idx7 t]
theorem blk8 (c : Dev nD) (t : Fin cfg0.N) (r : Fin 512) (k : Fin 512) :
    (iblk m c 8 t : S512x512.Idx → EReal) (ix2 r k)
      = (m ((c : Thread nD τ).loc main_arg5) : S65536x512.Idx → EReal) (ix2 ⟨t.val * 512 + r.val, by have := lt_N t; omega⟩ k) := by
  blk_ext! [iblk, V_main_arg5, idx8 t]
theorem blk9 (c : Dev nD) (t : Fin cfg0.N) (a : Fin 4) (k : Fin 512) (n : Fin 1024) :
    (iblk m c 9 t : S4x512x1024.Idx → EReal) (ix3 a k n) = (m ((c : Thread nD τ).loc main_arg6) : S4x512x1024.Idx → EReal) (ix3 a k n) := by
  refine Eq.trans ?_ (wb_at m c a k n)
  show V m c main_v0 _ = V m c main_v0 _
  blk_ext [idx9 t]
theorem blk10 (c : Dev nD) (t : Fin cfg0.N) (k : Fin 1024) (n : Fin 1024) :
    (iblk m c 10 t : S1024x1024.Idx → EReal) (ix2 k n) = (m ((c : Thread nD τ).loc main_arg7) : S1024x1024.Idx → EReal) (ix2 k n) := by
  refine Eq.trans ?_ (wo_at m c k n)
  show V m c main_v1 _ = V m c main_v1 _
  blk_ext [idx10 t]

theorem G_of (c : Dev nD) (i : S65536x1024.Idx) (r : Fin 65536) (n : Fin 1024) (h0 : (i 0).val = r.val) (h1 : (i 1).val = n.val) :
    val m c r n = G m c i := by
  obtain rfl : i 0 = r := Fin.ext h0
  obtain rfl : i 1 = n := Fin.ext h1
  rfl

/-- What grid point `t` writes. -/
theorem point (c : Dev nD) (t : Fin cfg0.N) (y : S512x1024.Idx) :
    outsAt0 m c t y = val m c ⟨t.val * 512 + (y 0).val, by have := lt_N t; have : (y 0).val < 512 := (y 0).isLt; omega⟩ (y 1) := by
  unfold outsAt0
  rw [out_eq]
  refine (pay_at _ _ _ _ _ _ _ _ _ _ _ _ _ _ y).trans ?_
  refine entry_congr ?_ (fun a n => ?_) (fun a k => ?_) (fun a k n => ?_) (fun n => blk10 m c t n (y 1))
  · exact (congrArg (iblk m c 0 t : S512x1024.Idx → EReal) (funext fun a => by fin_cases a <;> rfl : y = ix2 (y 0) (y 1))).trans (blk0 m c t (y 0) (y 1))
  · fin_cases a
    · exact blk1 m c t (y 0) n
    · exact blk2 m c t (y 0) n
    · exact blk3 m c t (y 0) n
    · exact blk4 m c t (y 0) n
  · fin_cases a
    · exact blk5 m c t (y 0) k
    · exact blk6 m c t (y 0) k
    · exact blk7 m c t (y 0) k
    · exact blk8 m c t (y 0) k
  · fin_cases a
    · exact (slab _ 0 _ k n).trans (blk9 m c t 0 k n)
    · exact (slab _ 1 _ k n).trans (blk9 m c t 1 k n)
    · exact (slab _ 2 _ k n).trans (blk9 m c t 2 k n)
    · exact (slab _ 3 _ k n).trans (blk9 m c t 3 k n)

theorem final (c : Dev nD) : (dats m 0 c).arrAt 11 cfg0.N = G m c := by
  refine (dats m 0 c).arrAt_eq_of_covers 11 _ (by decide +kernel) fun t hf y => ?_
  blk_simp
  rw [after0_11]
  refine (point m c t y).trans (G_of m c _ _ _ ?_ ?_) <;> blk_simp [idx11 t] <;> simp

/-- The kernel's run: its result, and its arguments kept. -/
theorem run (ρ : Dev nD → PrngReg) :
    θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ?_) (Value.run_blocks m ρ)
  obtain ⟨h0, ha⟩ := h c
  exact ⟨h0.trans (final m c), ha⟩

end Cert.MergeIdeal.Result
end
-- ==== Proof.Merge.Ref.lean ====
/- The merge reference's result, read at an index. -/
module

public import proofs.«01_k».proof.Proof.Gen.MergeReferenceIdeal.Run
public import proofs.«01_k».proof.Proof.Merge.Rows
public import Idealize.ShloMosaic.Lib.Pointwise
public import Idealize.ShloMosaic.Lib.Claim

@[expose] public section

set_option maxRecDepth 16384

noncomputable section

namespace Cert.MergeReferenceIdeal.Result

open Cert.MergeReferenceIdeal Cert.MergeReferenceIdeal.Gen Cert.MergeReferenceIdeal.Value Cert.MergeRows Idealize.ShloMosaic Idealize.ShloMosaic.TcCoe Idealize.SL.Sem

variable (m : (ℓ : Loc nD τ sig) → Buf (Elt Ideal) ℓ)

/-- The gates: four groups of 1024 columns of the projected array. -/
def gate (c : Dev nD) (R : Fin 65536) (a : Fin 4) (n : Fin 1024) : EReal :=
  (m ((c : Thread nD τ).loc main_arg1) : S65536x8704.Idx → EReal) (ix2 R ⟨a.val * 1024 + n.val, by omega⟩)
/-- The four branches. -/
def branch (c : Dev nD) (R : Fin 65536) : Fin 4 → Fin 512 → EReal :=
  ![fun k => (m ((c : Thread nD τ).loc main_arg2) : S65536x512.Idx → EReal) (ix2 R k), fun k => (m ((c : Thread nD τ).loc main_arg3) : S65536x512.Idx → EReal) (ix2 R k),
    fun k => (m ((c : Thread nD τ).loc main_arg4) : S65536x512.Idx → EReal) (ix2 R k), fun k => (m ((c : Thread nD τ).loc main_arg5) : S65536x512.Idx → EReal) (ix2 R k)]
/-- The result at row `R` and column `j`. -/
def val (c : Dev nD) (R : Fin 65536) (j : Fin 1024) : EReal :=
  entry ((m ((c : Thread nD τ).loc main_arg0) : S65536x1024.Idx → EReal) (ix2 R j)) (gate m c R) (branch m c R)
    (fun a k n => (m ((c : Thread nD τ).loc main_arg6) : S4x512x1024.Idx → EReal) (ix3 a k n)) (fun n => (m ((c : Thread nD τ).loc main_arg7) : S1024x1024.Idx → EReal) (ix2 n j))

def G (c : Dev nD) : S65536x1024.Idx → EReal := fun i => val m c (i 0) (i 1)

/-- The reference's run: its result, and its arguments kept. -/
theorem run (ρ : Dev nD → PrngReg) :
    θ_run defs (onTc (τ := τ) (main (F := Ideal))) ⟨m, fun _ => 0, ρ⟩ fun r => ∀ c : Dev nD,
      r.2.mem ((c.tc : Thread nD τ).loc main_v56) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (Value.run m ρ)
  obtain ⟨h0, ha⟩ := h c
  refine ⟨h0.trans ?_, ha⟩
  funext i
  unfold G val entry gated gate branch
  pointwise []
  rfl

/-- The reference's frame: it ends with its arguments kept and every counter at zero. -/
theorem frame (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0 :=
  (θ_run defs _ _).mono (fun r h => ⟨fun c => (h c).2, Idealize.ShloMosaic.sem_eq_zero_of_no_sems (by decide) r.2⟩) (Value.run m ρ)

end Cert.MergeReferenceIdeal.Result
end
-- ==== Proof.RgLru.BitsRun.lean ====
/- The body of the recurrent unit's kernel run once through its three loops, on any staging buffers: what it reads stays, and nothing is said of what it writes. -/
module

public import proofs.«01_k».proof.Proof.Gen.Kernel.Frame.Runs

@[expose] public section

set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body runs to its end from any contents of its buffers; the seven it only reads are as they were. -/
theorem body_run (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4x128 .f32) (harg4 : arg4.IsWhole) (arg5 : Memref sig .tc .vmem S1x128 .f32) (harg5 : arg5.IsWhole) (arg6 : Memref sig .tc .vmem S1x128x512 .bf16) (harg6 : arg6.IsWhole) (arg7 : Memref sig .tc .vmem S1x1x512 .f32) (harg7 : arg7.IsWhole) (arg8 : Memref sig .tc .vmem S2x128 .f32) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole)
    (x0 : Vec F S4096x128 .bf16) (x1 : Vec F S4096x128 .bf16) (x2 : Vec F S4x128 .f32) (x3 : Vec F S1x128 .f32) (x4 : Vec F S1x128x512 .bf16) (x5 : Vec F S1x1x512 .f32) (x6 : Vec F S2x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_rglru i arg2 harg2 arg3 harg3 arg4 harg4 arg5 harg5 arg6 harg6 arg7 harg7 arg8 harg8 arg9 harg9 arg10 harg10 arg11 harg11 arg12 harg12) K := by
    intro E K
    simp only [cc0_rglru_eq_skeleton]; unfold cc0_rglru_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Own

end
-- ==== Proof.RgLru.BitsFrame.lean ====
/- The frame of the recurrent unit's kernel: it ends, its arguments unchanged and every counter at zero, whatever it writes. -/
module

public import proofs.«01_k».proof.Proof.RgLru.BitsRun
public import Idealize.ShloMosaic.Lib.Claim

@[expose] public section

set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame from a run in which every input array of the pipeline is unchanged. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 1 rfl).trans ((hA c 1).trans (V_main_arg0 m c)),
      (Pipeline.RDat.FramePost.arr_in h c 2 rfl).trans ((hA c 2).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 6 rfl).trans ((hA c 6).trans (V_main_arg5 m c))⟩) h

/-- The output window: nothing is stated of what it holds. -/
def forgets0 : Fin 8 → Bool := fun w => w.val == 7

/-- What the pipeline holds: each input at its block, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d))

set_option maxHeartbeats 800000 in
/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((body_run c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  iintro ⟨H0, H1, H2, H3, H4, H5, H6, H7, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

/-- The body as the pipeline asks for it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: every run ends, the inputs unchanged and every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- The frame of the program. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Own

end
-- ==== Proof.RgLru.Rows.lean ====
/- The recurrence in plain words: a state multiplied by a decay and given an input, position by position; and that the doubling
   scan inside groups of eight positions, followed by a chain through the groups, gives the same states. -/
module

public import Idealize.ShloMosaic.Lib.ValueIdx
public import Idealize.ShloMosaic.PureOps.Ideal.Laws

@[expose] public section

noncomputable section

namespace Cert.RgLruRows

open Idealize.ShloMosaic Idealize.ShloMosaic.ValueIdx

/-- The state after `w` positions from position `s` on, `h` being the state before them. -/
def run (a u : ℕ → EReal) (s : ℕ) : ℕ → EReal → EReal
  | 0, h => h
  | w + 1, h => a (s + w) * run a u s w h + u (s + w)

theorem run_add (a u : ℕ → EReal) (s w w' : ℕ) (h : EReal) : run a u s (w + w') h = run a u (s + w) w' (run a u s w h) := by
  induction w' with
  | zero => rfl
  | succ n ih =>
    show a (s + (w + n)) * run a u s (w + n) h + u (s + (w + n)) = a (s + w + n) * run a u (s + w) n (run a u s w h) + u (s + w + n)
    rw [ih, Nat.add_assoc]

theorem run_congr {a u a' u' : ℕ → EReal} {s w : ℕ} (h : EReal) (ha : ∀ t, s ≤ t → t < s + w → a t = a' t) (hu : ∀ t, s ≤ t → t < s + w → u t = u' t) :
    run a u s w h = run a' u' s w h := by
  induction w with
  | zero => rfl
  | succ n ih =>
    show a (s + n) * run a u s n h + u (s + n) = a' (s + n) * run a' u' s n h + u' (s + n)
    rw [ih (fun t h1 h2 => ha t h1 (by omega)) (fun t h1 h2 => hu t h1 (by omega)), ha _ (by omega) (by omega), hu _ (by omega) (by omega)]

/-- The same run counted from another place. -/
theorem run_shift (a u : ℕ → EReal) (b s w : ℕ) (h : EReal) : run (fun t => a (b + t)) (fun t => u (b + t)) s w h = run a u (b + s) w h := by
  induction w with
  | zero => rfl
  | succ n ih =>
    show a (b + (s + n)) * run (fun t => a (b + t)) (fun t => u (b + t)) s n h + u (b + (s + n)) = a (b + s + n) * run a u (b + s) n h + u (b + s + n)
    rw [ih, Nat.add_assoc]

/-- One doubling of the decays by `d` positions, inside groups of eight. -/
def dbA (d : ℕ) (A : ℕ → EReal) (t : ℕ) : EReal := A t * (if d ≤ t % 8 then A (t - d) else 1)
/-- One doubling of the inputs by `d` positions, inside groups of eight. -/
def dbU (d : ℕ) (A U : ℕ → EReal) (t : ℕ) : EReal := A t * (if d ≤ t % 8 then U (t - d) else 0) + U t

/-- `A` and `U` at a position say what the last `d` positions, or those since the group's begin, do to a state. -/
def Covers (a u : ℕ → EReal) (d : ℕ) (A U : ℕ → EReal) : Prop :=
  ∀ t, 0 ≤ A t ∧ A t ≤ 1 ∧ ∀ h, U t + A t * h = run a u (t + 1 - min (t % 8 + 1) d) (min (t % 8 + 1) d) h

theorem covers_one {a u : ℕ → EReal} (ha : ∀ t, 0 ≤ a t ∧ a t ≤ 1) : Covers a u 1 a u := fun t => by
  refine ⟨(ha t).1, (ha t).2, fun h => ?_⟩
  rw [show min (t % 8 + 1) 1 = 1 by omega, show t + 1 - 1 = t by omega]
  exact add_comm _ _

theorem covers_double {a u A U : ℕ → EReal} {d : ℕ} (hd : 1 ≤ d) (H : Covers a u d A U) : Covers a u (2 * d) (dbA d A) (dbU d A U) := fun t => by
  obtain ⟨h0, h1, hr⟩ := H t
  unfold dbA dbU
  by_cases hm : d ≤ t % 8
  · obtain ⟨g0, g1, gr⟩ := H (t - d)
    rw [if_pos hm, if_pos hm]
    refine ⟨mul_nonneg h0 g0, (mul_le_mul_of_nonneg_left g1 h0).trans (by rw [mul_one]; exact h1), fun h => ?_⟩
    have e : A t * U (t - d) + U t + A t * A (t - d) * h = U t + A t * (U (t - d) + A (t - d) * h) := by
      rw [EReal.left_distrib_of_nonneg_of_ne_top h0 (lt_of_le_of_lt h1 (EReal.coe_lt_top 1)).ne, mul_assoc, add_comm (A t * U (t - d)) (U t), add_assoc]
    rw [e, hr, gr]
    have e1 : (t - d) % 8 = t % 8 - d := by omega
    have e2 : min (t % 8 + 1) (2 * d) = min ((t - d) % 8 + 1) d + d := by omega
    have e3 : min (t % 8 + 1) d = d := by omega
    rw [e2, run_add, e3]
    have e4 : t - d + 1 - min ((t - d) % 8 + 1) d = t + 1 - (min ((t - d) % 8 + 1) d + d) := by omega
    rw [e4]
    congr 1
    omega
  · rw [if_neg hm, if_neg hm]
    refine ⟨by rw [mul_one]; exact h0, by rw [mul_one]; exact h1, fun h => ?_⟩
    rw [mul_one, mul_zero, zero_add, hr, show min (t % 8 + 1) (2 * d) = min (t % 8 + 1) d by omega]

/-- Three doublings: at every position of a group, what all positions since the group's begin do. -/
theorem covers_eight {a u : ℕ → EReal} (ha : ∀ t, 0 ≤ a t ∧ a t ≤ 1) :
    Covers a u 8 (dbA 4 (dbA 2 (dbA 1 a))) (dbU 4 (dbA 2 (dbA 1 a)) (dbU 2 (dbA 1 a) (dbU 1 a u))) :=
  covers_double (d := 4) (by omega) (covers_double (d := 2) (by omega) (covers_double (d := 1) (by omega) (covers_one ha)))

/-- A group's state: from the state before the group, at position `r` of group `n`. -/
theorem group_at {a u A U : ℕ → EReal} (H : Covers a u 8 A U) (n r : ℕ) (hr : r < 8) (h : EReal) :
    U (8 * n + r) + A (8 * n + r) * run a u 0 (8 * n) h = run a u 0 (8 * n + r + 1) h := by
  rw [(H (8 * n + r)).2.2, show min ((8 * n + r) % 8 + 1) 8 = r + 1 by omega, show 8 * n + r + 1 - (r + 1) = 0 + 8 * n by omega, ← run_add]
  rfl

/-- A sequence with a zero before it and zeros after it, counted from that first zero. -/
def padded (x : Fin 4096 → EReal) (n : ℕ) : EReal := if h : 1 ≤ n ∧ n ≤ 4096 then x ⟨n - 1, by omega⟩ else 0

theorem padded_in (x : Fin 4096 → EReal) (n : ℕ) (t : Fin 4096) (h : t.val + 1 = n) : padded x n = x t :=
  (dif_pos (⟨by omega, by omega⟩ : 1 ≤ n ∧ n ≤ 4096)).trans (congrArg x (Fin.ext (by simp only []; omega)))
theorem padded_out (x : Fin 4096 → EReal) (n : ℕ) (h : n = 0 ∨ 4096 < n) : padded x n = 0 := dif_neg (by omega)

/-- The convolution of four taps at position `t`. -/
def conv (b : EReal) (w : Fin 4 → EReal) (x : Fin 4096 → EReal) (t : ℕ) : EReal :=
  b + w 0 * padded x t + w 1 * padded x (t + 1) + w 2 * padded x (t + 2) + w 3 * padded x (t + 3)

/-- One gate of a head: the convolved row times a column of weights, a bias, the logistic function. -/
def gate (xc w : Fin 128 → EReal) (b : EReal) : EReal := Ideal.logistic (∑ i, xc i * w i + b)

/-- The floor under the kernel's root. -/
def floor : EReal := Ideal.ofBits FTy.f32 228737632#32

/-- The decay by a power of two. -/
def decay2 (g s : EReal) : EReal := Ideal.exp2 (g * s)
/-- The input behind its gate, scaled by the root under its floor. -/
def input2 (a g x : EReal) : EReal := (1 - a * a) * Ideal.rsqrt (max (1 - a * a) floor) * (g * x)

/-- The state at position `t`, forwards. -/
def fwd (a u : ℕ → EReal) (t : ℕ) : EReal := run a u 0 (t + 1) 0
/-- The state at position `t`, backwards. -/
def bwd (a u : ℕ → EReal) (t : ℕ) : EReal := run (fun n => a (4095 - n)) (fun n => u (4095 - n)) 0 (4096 - t) 0

/-- The decays of a head, in one direction. -/
def dec (xc : ℕ → Fin 128 → EReal) (w : Fin 128 → Fin 256 → EReal) (b : Fin 256 → EReal) (s : Fin 128 → EReal) (j : Fin 128) (t : ℕ) : EReal :=
  decay2 (gate (xc t) (fun i => w i ⟨j.val, by omega⟩) (b ⟨j.val, by omega⟩)) (s j)
/-- The inputs of a head, in one direction. -/
def inp (xc : ℕ → Fin 128 → EReal) (w : Fin 128 → Fin 256 → EReal) (b : Fin 256 → EReal) (s : Fin 128 → EReal) (j : Fin 128) (t : ℕ) : EReal :=
  input2 (dec xc w b s j t) (gate (xc t) (fun i => w i ⟨128 + j.val, by omega⟩) (b ⟨128 + j.val, by omega⟩)) (xc t j)

end Cert.RgLruRows

end
-- ==== Proof.RgLru.Scan.lean ====
/- The scan inside groups of eight rows and the chain through the groups, as the kernel's vectors have them. -/
module

public import proofs.«01_k».proof.Proof.Gen.KernelIdeal.Skeleton
public import proofs.«01_k».proof.Proof.RgLru.Rows
public import Idealize.ShloMosaic.Lib.Pipeline.ValueKit.Point
public import Idealize.ShloMosaic.Lib.Pointwise

@[expose] public section

set_option maxRecDepth 16384

noncomputable section

namespace Cert.KernelIdeal.Own

open Cert.KernelIdeal Cert.KernelIdeal.Gen Cert.RgLruRows Idealize.ShloMosaic Idealize.ShloMosaic.TcCoe Idealize.SL.Sem

/-- Column `j` of a chunk as a sequence, its rows in the order `σ`. -/
def col (σ : Fin 512 → Fin 512) (V : FVec Ideal S512x128 .f32) (j : Fin 128) (t : ℕ) : EReal :=
  if h : t < 512 then V (ix2 (σ ⟨t, h⟩) j) else 0

/-- The choice that a doubling by `d` rows makes, as the order `σ` of the rows has it. -/
def Looks (σ : Fin 512 → Fin 512) (d : ℕ) (M : IVec S512x128 1) (n : BitVec 32) : Prop :=
  ∀ (V Z : FVec Ideal S512x128 .f32) (t : Fin 512) (j : Fin 128),
    select M (dynamicRotate 0 n none V rotates_S512x128_d0) Z (ix2 (σ t) j)
      = if d ≤ t.val % 8 then V (ix2 (σ ⟨t.val - d, by omega⟩) j) else Z (ix2 (σ t) j)

theorem mask_fw : ∀ (d : Fin 8) (t : Fin 512), IntOp.cmpi .sge (IntOp.andi (BitVec.ofNat 32 t.val) 7#32) (BitVec.ofNat 32 d.val)
    = if d.val ≤ t.val % 8 then 1#1 else 0#1 := by decide +kernel

theorem mask_bw : ∀ (d : Fin 8) (t : Fin 512), IntOp.cmpi .slt (IntOp.andi (BitVec.ofNat 32 (Fin.rev t).val) 7#32) (BitVec.ofNat 32 (8 - d.val))
    = if d.val ≤ t.val % 8 then 1#1 else 0#1 := by decide +kernel

theorem select_ite {c : BitVec 1} {p : Prop} [Decidable p] (h : c = if p then 1#1 else 0#1) (x y : EReal) :
    Scalar.select c x y = if p then x else y := by
  subst h
  by_cases hp : p <;> simp [Scalar.select, hp]

theorem looks_fw {d : ℕ} (hd : d = 1 ∨ d = 2 ∨ d = 4) : Looks id d (cmpi .sge k0_pay1 (broadcast S512x128 (BitVec.ofNat 32 d))) (BitVec.ofNat 32 d) := by
  intro V Z t j
  have hl : d < 8 := by omega
  have e : select (cmpi .sge k0_pay1 (broadcast S512x128 (BitVec.ofNat 32 d))) (dynamicRotate 0 (BitVec.ofNat 32 d) none V rotates_S512x128_d0) Z (ix2 (id t) j)
      = Scalar.select (IntOp.cmpi .sge (IntOp.andi (BitVec.ofNat 32 t.val) 7#32) (BitVec.ofNat 32 d)) (V (ix2 ⟨(t.val + 512 - d) % 512, Nat.mod_lt _ (by omega)⟩ j)) (Z (ix2 t j)) := by
    rcases hd with rfl | rfl | rfl <;> pointwise [k0_pay1] <;> rfl
  rw [e, select_ite (mask_fw ⟨d, hl⟩ t)]
  by_cases hm : d ≤ t.val % 8
  · rw [if_pos hm, if_pos hm]
    have : (⟨(t.val + 512 - d) % 512, Nat.mod_lt _ (by omega)⟩ : Fin 512) = ⟨t.val - d, by omega⟩ := Fin.ext (by simp only []; omega)
    rw [this]; rfl
  · rw [if_neg hm, if_neg hm]; rfl

theorem looks_bw {d : ℕ} (hd : d = 1 ∨ d = 2 ∨ d = 4) :
    Looks Fin.rev d (cmpi .slt k0_pay1 (broadcast S512x128 (BitVec.ofNat 32 (8 - d)))) (BitVec.ofNat 32 (512 - d)) := by
  intro V Z t j
  have hl : d < 8 := by omega
  have e : select (cmpi .slt k0_pay1 (broadcast S512x128 (BitVec.ofNat 32 (8 - d)))) (dynamicRotate 0 (BitVec.ofNat 32 (512 - d)) none V rotates_S512x128_d0) Z (ix2 (Fin.rev t) j)
      = Scalar.select (IntOp.cmpi .slt (IntOp.andi (BitVec.ofNat 32 (Fin.rev t).val) 7#32) (BitVec.ofNat 32 (8 - d)))
          (V (ix2 ⟨((Fin.rev t).val + 512 - (512 - d)) % 512, Nat.mod_lt _ (by omega)⟩ j)) (Z (ix2 (Fin.rev t) j)) := by
    rcases hd with rfl | rfl | rfl <;> pointwise [k0_pay1] <;> rfl
  rw [e, select_ite (mask_bw ⟨d, hl⟩ t)]
  by_cases hm : d ≤ t.val % 8
  · rw [if_pos hm, if_pos hm]
    have : (⟨((Fin.rev t).val + 512 - (512 - d)) % 512, Nat.mod_lt _ (by omega)⟩ : Fin 512) = Fin.rev ⟨t.val - d, by omega⟩ :=
      Fin.ext (by simp only [Fin.val_rev]; omega)
    rw [this]
  · rw [if_neg hm, if_neg hm]

variable {σ : Fin 512 → Fin 512} {d : ℕ} {M : IVec S512x128 1} {n : BitVec 32}

theorem col_at (V : FVec Ideal S512x128 .f32) (j : Fin 128) (t : Fin 512) : col σ V j t.val = V (ix2 (σ t) j) := dif_pos t.isLt

theorem col_dbA (H : Looks σ d M n) (A Z : FVec Ideal S512x128 .f32) (hZ : ∀ x, Z x = (1 : EReal)) (j : Fin 128) :
    col σ (mulf A (select M (dynamicRotate 0 n none A rotates_S512x128_d0) Z)) j = dbA d (col σ A j) := by
  funext t
  unfold dbA
  by_cases h : t < 512
  · refine (col_at (σ := σ) _ j ⟨t, h⟩).trans ?_
    refine congrArg₂ (· * ·) (col_at (σ := σ) A j ⟨t, h⟩).symm ?_
    rw [H A Z ⟨t, h⟩ j, hZ]
    by_cases hm : d ≤ t % 8
    · rw [if_pos hm, if_pos hm]; exact (col_at (σ := σ) A j ⟨t - d, by omega⟩).symm
    · rw [if_neg hm, if_neg hm]
  · unfold col; rw [dif_neg h, dif_neg h, zero_mul]

theorem col_dbU (H : Looks σ d M n) (A U Z : FVec Ideal S512x128 .f32) (hZ : ∀ x, Z x = (0 : EReal)) (j : Fin 128) :
    col σ (addf (mulf A (select M (dynamicRotate 0 n none U rotates_S512x128_d0) Z)) U) j = dbU d (col σ A j) (col σ U j) := by
  funext t
  unfold dbU
  by_cases h : t < 512
  · refine (col_at (σ := σ) _ j ⟨t, h⟩).trans ?_
    refine congrArg₂ (· + ·) (congrArg₂ (· * ·) (col_at (σ := σ) A j ⟨t, h⟩).symm ?_) (col_at (σ := σ) U j ⟨t, h⟩).symm
    rw [H U Z ⟨t, h⟩ j, hZ]
    by_cases hm : d ≤ t % 8
    · rw [if_pos hm, if_pos hm]; exact (col_at (σ := σ) U j ⟨t - d, by omega⟩).symm
    · rw [if_neg hm, if_neg hm]
  · unfold col; rw [dif_neg h, dif_neg h, dif_neg h, zero_mul, zero_add]

/-- One doubling of the decays, as a vector. -/
def upA (M : IVec S512x128 1) (n : BitVec 32) (A Z : FVec Ideal S512x128 .f32) : FVec Ideal S512x128 .f32 :=
  mulf A (select M (dynamicRotate 0 n none A rotates_S512x128_d0) Z)
/-- One doubling of the inputs, as a vector. -/
def upU (M : IVec S512x128 1) (n : BitVec 32) (A U Z : FVec Ideal S512x128 .f32) : FVec Ideal S512x128 .f32 :=
  addf (mulf A (select M (dynamicRotate 0 n none U rotates_S512x128_d0) Z)) U

/-- Three doublings cover a group of eight. -/
theorem covers_up {M1 M2 M4 : IVec S512x128 1} {n1 n2 n4 : BitVec 32} (H1 : Looks σ 1 M1 n1) (H2 : Looks σ 2 M2 n2) (H4 : Looks σ 4 M4 n4)
    (A U Z1 Z0 : FVec Ideal S512x128 .f32) (h1 : ∀ x, Z1 x = (1 : EReal)) (h0 : ∀ x, Z0 x = (0 : EReal)) (j : Fin 128)
    (hA : ∀ x, 0 ≤ (A x : EReal) ∧ (A x : EReal) ≤ 1) :
    Covers (col σ A j) (col σ U j) 8 (col σ (upA M4 n4 (upA M2 n2 (upA M1 n1 A Z1) Z1) Z1) j)
      (col σ (upU M4 n4 (upA M2 n2 (upA M1 n1 A Z1) Z1) (upU M2 n2 (upA M1 n1 A Z1) (upU M1 n1 A U Z0) Z0) Z0) j) := by
  unfold upA upU
  rw [col_dbA H4 _ _ h1, col_dbU H4 _ _ _ h0, col_dbA H2 _ _ h1, col_dbU H2 _ _ _ h0, col_dbA H1 _ _ h1, col_dbU H1 _ _ _ h0]
  refine covers_eight fun t => ?_
  unfold col
  by_cases h : t < 512
  · rw [dif_pos h]; exact hA _
  · rw [dif_neg h]; exact ⟨le_refl _, zero_le_one⟩

/-- The groups' states from group `n` on: every one is the group's inputs, and its decays times the row `cr` of the state before. -/
inductive Chained (A U : FVec Ideal S512x128 .f32) (off : ℕ → ℕ) (cr : ℕ) (hcr : S8x128.Slices ![cr, 0] S1x128) :
    ℕ → FVec Ideal S1x128 .f32 → List (FVec Ideal S8x128 .f32) → Prop
  | nil (n : ℕ) (c : FVec Ideal S1x128 .f32) : Chained A U off cr hcr n c []
  | cons (n : ℕ) (c : FVec Ideal S1x128 .f32) (h : FVec Ideal S8x128 .f32) (l : List (FVec Ideal S8x128 .f32)) (hs : S512x128.Slices ![off n, 0] S8x128)
      (e : h = addf (extractStridedSlice S8x128 ![off n, 0] U hs) (mulf (extractStridedSlice S8x128 ![off n, 0] A hs) (broadcastTo S8x128 c broadcasts_S1x128_S8x128)))
      (t : Chained A U off cr hcr (n + 1) (extractStridedSlice S1x128 ![cr, 0] h hcr) l) : Chained A U off cr hcr n c (h :: l)

/-- The order of the rows, the groups' first rows and the rows in a group belong together. -/
structure Order (σ : Fin 512 → Fin 512) (off : ℕ → ℕ) (ρ : Fin 8 → Fin 8) (cr : ℕ) : Prop where
  at' : ∀ (n : ℕ) (r : Fin 8) (h : 8 * n + r.val < 512), (σ ⟨8 * n + r.val, h⟩).val = off n + (ρ r).val
  last : (ρ 7).val = cr

theorem order_fw : Order id (fun n => 8 * n) id 7 := ⟨fun n r h => rfl, rfl⟩
theorem order_bw : Order Fin.rev (fun n => 504 - 8 * n) Fin.rev 0 := ⟨fun n r h => by simp only [Fin.val_rev]; omega, rfl⟩

/-- Every group's state is the recurrence's. -/
theorem chained_at {A U : FVec Ideal S512x128 .f32} {off : ℕ → ℕ} {cr : ℕ} {hcr : S8x128.Slices ![cr, 0] S1x128} {ρ : Fin 8 → Fin 8}
    (O : Order σ off ρ cr) {a u : ℕ → EReal} (j : Fin 128) (H : Covers a u 8 (col σ A j) (col σ U j)) (h0 : EReal)
    {n : ℕ} {c : FVec Ideal S1x128 .f32} {l : List (FVec Ideal S8x128 .f32)} (hl : Chained A U off cr hcr n c l)
    (hn : n + l.length ≤ 64) (hc : c (ix2 0 j) = run a u 0 (8 * n) h0) (k : ℕ) (hk : k < l.length) (r : Fin 8) :
    l[k] (ix2 (ρ r) j) = run a u 0 (8 * (n + k) + r.val + 1) h0 := by
  induction hl generalizing k r with
  | nil n c => exact absurd hk (Nat.not_lt_zero _)
  | cons n c h l hs e t ih =>
    rw [List.length_cons] at hn
    have first : ∀ r : Fin 8, h (ix2 (ρ r) j) = run a u 0 (8 * n + r.val + 1) h0 := fun r => by
      have hr := r.isLt
      have hb : 8 * n + r.val < 512 := by omega
      have hi : ∀ V : FVec Ideal S512x128 .f32, extractStridedSlice S8x128 ![off n, 0] V hs (ix2 (ρ r) j) = col σ V j (8 * n + r.val) := fun V => by
        rw [show 8 * n + r.val = (⟨8 * n + r.val, hb⟩ : Fin 512).val from rfl, col_at]
        refine extractStridedSlice_apply _ _ _ _ _ fun a => ?_
        match a with
        | ⟨0, _⟩ => exact O.at' n r hb
        | ⟨1, _⟩ => exact (Nat.zero_add _).symm
      rw [← group_at H n r.val hr h0, ← hc, ← hi, ← hi, e]
      have hbc : broadcastTo S8x128 c broadcasts_S1x128_S8x128 (ix2 (ρ r) j) = c (ix2 0 j) := by pointwise []
      exact congrArg₂ (· + ·) rfl (congrArg₂ (· * ·) rfl hbc)
    cases k with
    | zero => exact first r
    | succ k =>
      have := ih (by omega) (by
        refine Eq.trans ?_ (first 7)
        refine extractStridedSlice_apply _ _ _ _ _ fun a => ?_
        match a with
        | ⟨0, _⟩ => exact O.last
        | ⟨1, _⟩ => exact (Nat.zero_add _).symm) k (by simpa using hk) r
      rw [show n + (k + 1) = n + 1 + k by omega]
      exact this

end Cert.KernelIdeal.Own

end
-- ==== Proof.RgLru.Trips.lean ====
/- What one trip of each of the kernel's loops writes. -/
module

public import proofs.«01_k».proof.Proof.Gen.KernelIdeal.Frame.Runs
public import proofs.«01_k».proof.Proof.RgLru.Scan
public import proofs.«01_k».proof.Proof.Ffn.Rows

@[expose] public section

set_option maxRecDepth 16384

noncomputable section

namespace Cert.KernelIdeal.Own

open Cert.KernelIdeal Cert.KernelIdeal.Gen Cert.RgLruRows Idealize.ShloMosaic Idealize.ShloMosaic.TcCoe Idealize.SL.Sem

variable (arg2 : Memref sig .tc .vmem S4096x128 .bf16) (arg6 : Memref sig .tc .vmem S1x128x512 .bf16) (arg7 : Memref sig .tc .vmem S1x1x512 .f32) (arg10 : Memref sig .tc .vmem S4096x128 .f32)
  (v3 : Vec Ideal S4x128 .f32) (v4 : Vec Ideal S1x128 .f32) (v6 : Vec Ideal S2x128 .f32) (X2 : BufTy.Contents (Elt Ideal) arg2.view.ty) (X6 : BufTy.Contents (Elt Ideal) arg6.view.ty) (X7 : BufTy.Contents (Elt Ideal) arg7.view.ty) (X10 : BufTy.Contents (Elt Ideal) arg10.view.ty)

/-! ## The convolution's trip -/

theorem off1_eq : ∀ k : Fin k0_t1_loop.trips, k0_off1 k = ![512 * k.val, 0] := by decide +kernel
theorem off2_eq : ∀ k : Fin k0_t1_loop.trips, k0_off2 k = ![512 * k.val - 16, 0] := by decide +kernel
theorem off3_eq : ∀ k : Fin k0_t1_loop.trips, k0_off3 k = ![min (512 * k.val + 512) 4080, 0] := by decide +kernel
theorem off4_eq : ∀ k : Fin k0_t2_loop.trips, k0_off4 k = ![512 * k.val, 0] := by decide +kernel
theorem off5_eq : ∀ k : Fin k0_t2_loop.trips, k0_off5 k = ![(7 - k.val) * 512, 0] := by decide +kernel
theorem off6_eq : ∀ k : Fin k0_t3_loop.trips, k0_off6 k = ![512 * k.val, 0] := by decide +kernel
theorem t1_lt (k : Fin k0_t1_loop.trips) : k.val < 8 := k.isLt
theorem t2_lt (k : Fin k0_t2_loop.trips) : k.val < 8 := k.isLt
theorem t3_lt (k : Fin k0_t3_loop.trips) : k.val < 8 := k.isLt
theorem first1 : ∀ k : Fin k0_t1_loop.trips, Scalar.cmpi .sgt (trip_k0_t1.sl.arg13 k) 0#32 = if k.val = 0 then 0#1 else 1#1 := by decide +kernel
theorem last1 : ∀ k : Fin k0_t1_loop.trips, Scalar.cmpi .slt (trip_k0_t1.sl.arg13 k) 7#32 = if k.val = 7 then 0#1 else 1#1 := by decide +kernel

/-- Rows loaded from a buffer of 4096 rows. -/
theorem readAt_at {e : EltTy} (arg : Memref sig .tc .vmem S4096x128 e) (X : BufTy.Contents (Elt Ideal) arg.view.ty) {W : ℕ} (off : Fin 2 → ℕ)
    (inb : ∀ a, off a + (![W, 128] : Fin 2 → ℕ) a ≤ S4096x128.size a) (o : ℕ) (hoff : off = ![o, 0]) (r : Fin W) (j : Fin 128) (q : Fin 4096) (hq : q.val = o + r.val) :
    View.readAt (Elt Ideal) arg.view (Rect.unit (s := S4096x128) off ![W, 128] inb).toLoadRect X (ix2 r j) = arg.view.read (Elt Ideal) X (ix2 q j) := by
  subst hoff
  refine congrArg (arg.view.read (Elt Ideal) X) (funext fun a => Fin.ext ?_)
  match a with
  | ⟨0, _⟩ => show o + 1 * r.val = q.val; omega
  | ⟨1, _⟩ => show 0 + 1 * j.val = j.val; omega

omit arg2 X2 in
theorem padded_read (arg2 : Memref sig .tc .vmem S4096x128 .bf16) (X2 : BufTy.Contents (Elt Ideal) arg2.view.ty) (j : Fin 128) (n : ℕ) (t : Fin 4096) (h : t.val + 1 = n) :
    padded (fun t => arg2.view.read (Elt Ideal) X2 (ix2 t j)) n = arg2.view.read (Elt Ideal) X2 (ix2 t j) := padded_in _ n t h

open trip_k0_t1.sl in
/-- The chunk with sixteen rows before and after it, zero outside the sequence, at a row within one before and two after. -/
theorem cat1_at (k : Fin k0_t1_loop.trips) (p : Fin 544) (j : Fin 128) (h1 : 15 ≤ p.val) (h2 : p.val < 530) :
    (v53 arg2 X2 k (ix2 p j) : EReal) = padded (fun t => arg2.view.read (Elt Ideal) X2 (ix2 t j)) (512 * k.val + p.val - 15) := by
  have hk := t1_lt k
  pointwise [v53, v52, v46, v44, v45, v50, v34, v47, v41, cst_23]
  by_cases ha : p.val < 16
  · refine (dif_pos ha).trans ?_
    by_cases h0 : k.val = 0
    · exact (congrArg (fun c => Scalar.select c _ _) ((first1 k).trans (if_pos h0))).trans (padded_out _ _ (by omega)).symm
    · refine (congrArg (fun c => Scalar.select c _ _) ((first1 k).trans (if_neg h0))).trans ?_
      exact (readAt_at arg2 X2 _ _ _ (off2_eq k) (⟨p.val, ha⟩ : Fin 16) j ⟨512 * k.val - 16 + p.val, by omega⟩ rfl).trans (padded_read arg2 X2 j (512 * k.val + p.val - 15) ⟨512 * k.val - 16 + p.val, by omega⟩ (by dsimp only; omega)).symm
  · refine (dif_neg ha).trans ?_
    by_cases hb : p.val - 16 < 512
    · refine (dif_pos hb).trans ?_
      exact (readAt_at arg2 X2 _ _ _ (off1_eq k) _ j ⟨512 * k.val + (p.val - 16), by omega⟩ rfl).trans (padded_read arg2 X2 j (512 * k.val + p.val - 15) ⟨512 * k.val + (p.val - 16), by omega⟩ (by dsimp only; omega)).symm
    · refine (dif_neg hb).trans ?_
      by_cases h0 : k.val = 7
      · exact (congrArg (fun c => Scalar.select c _ _) ((last1 k).trans (if_pos h0))).trans (padded_out _ _ (by omega)).symm
      · refine (congrArg (fun c => Scalar.select c _ _) ((last1 k).trans (if_neg h0))).trans ?_
        exact (readAt_at arg2 X2 _ _ _ (off3_eq k) _ j ⟨min (512 * k.val + 512) 4080 + (p.val - 16 - 512), by omega⟩ rfl).trans (padded_read arg2 X2 j (512 * k.val + p.val - 15) ⟨min (512 * k.val + 512) 4080 + (p.val - 16 - 512), by omega⟩ (by dsimp only; omega)).symm

open trip_k0_t1.sl in
/-- What the convolution's trip `k` writes. -/
theorem conv_at (k : Fin k0_t1_loop.trips) (r : Fin 512) (j : Fin 128) :
    (k0_pay4 (v70 arg2 v3 v4 X2 k) (v71 v3) (v73 arg2 X2 k) (ix2 r j) : EReal)
      = conv (v4 (ix2 0 j)) (fun q => v3 (ix2 q j)) (fun t => arg2.view.read (Elt Ideal) X2 (ix2 t j)) (512 * k.val + r.val) := by
  have hk := t1_lt k
  have hr := r.isLt
  pointwise [k0_pay4, v70, v71, v73, v72, v69, v68, v67, v66, v65, v64, v63, v62, v61, v60, v59, v58, v57, v56, v55, v54, k0_pay2]
  unfold conv
  have e34 : (v34 arg2 X2 k (ix2 r j) : EReal) = padded (fun t => arg2.view.read (Elt Ideal) X2 (ix2 t j)) (512 * k.val + r.val + 1) := by
    pointwise [v34]
    exact (readAt_at arg2 X2 _ _ _ (off1_eq k) _ j ⟨512 * k.val + r.val, by omega⟩ rfl).trans (padded_read arg2 X2 j _ ⟨512 * k.val + r.val, by omega⟩ rfl).symm
  rw [cat1_at arg2 X2 k _ j (by simp only []; omega) (by simp only []; omega), cat1_at arg2 X2 k _ j (by simp only []; omega) (by simp only []; omega),
    cat1_at arg2 X2 k _ j (by simp only []; omega) (by simp only []; omega), e34]
  have e1 : 512 * k.val + (16 + r.val + 544 - 1) % 544 - 15 = 512 * k.val + r.val := by omega
  have e2 : 512 * k.val + (16 + r.val + 544 - 543) % 544 - 15 = 512 * k.val + r.val + 2 := by omega
  have e3 : 512 * k.val + (16 + r.val + 544 - 542) % 544 - 15 = 512 * k.val + r.val + 3 := by omega
  simp only [e1, e2, e3]

/-! ## The scan's trip -/

/-- The weights of one direction, as the kernel's block of a head has them. -/
def wOf (W : Vec Ideal S1x128x512 .bf16) (d : Fin 2) (i : Fin 128) (q : Fin 256) : EReal := W (ix3 0 i ⟨256 * d.val + q.val, by omega⟩)
/-- The biases of one direction, as the kernel's block of a head has them. -/
def bOf (B : Vec Ideal S1x1x512 .f32) (d : Fin 2) (q : Fin 256) : EReal := B (ix3 0 0 ⟨256 * d.val + q.val, by omega⟩)
/-- The decays' exponents of one direction. -/
def sOf (v : Vec Ideal S2x128 .f32) (d : Fin 2) (j : Fin 128) : EReal := k0_pay3 v (ix2 d j)

theorem readAt_w (arg : Memref sig .tc .vmem S1x128x512 .bf16) (X : BufTy.Contents (Elt Ideal) arg.view.ty) (off : Fin 3 → ℕ)
    (inb : ∀ a, off a + (![1, 128, 256] : Fin 3 → ℕ) a ≤ S1x128x512.size a) (d : Fin 2) (hoff : off = ![0, 0, 256 * d.val]) (i : Fin 128) (q : Fin 256) :
    View.readAt (Elt Ideal) arg.view (Rect.unit (s := S1x128x512) off ![1, 128, 256] inb).toLoadRect X (ix3 0 i q) = wOf (arg.view.read (Elt Ideal) X) d i q := by
  subst hoff
  refine congrArg (arg.view.read (Elt Ideal) X) (funext fun a => Fin.ext ?_)
  match a with
  | ⟨0, _⟩ => rfl
  | ⟨1, _⟩ => show 0 + 1 * i.val = i.val; omega
  | ⟨2, _⟩ => show 256 * d.val + 1 * q.val = 256 * d.val + q.val; omega

theorem readAt_b (arg : Memref sig .tc .vmem S1x1x512 .f32) (X : BufTy.Contents (Elt Ideal) arg.view.ty) (off : Fin 3 → ℕ)
    (inb : ∀ a, off a + (![1, 1, 256] : Fin 3 → ℕ) a ≤ S1x1x512.size a) (d : Fin 2) (hoff : off = ![0, 0, 256 * d.val]) (q : Fin 256) :
    View.readAt (Elt Ideal) arg.view (Rect.unit (s := S1x1x512) off ![1, 1, 256] inb).toLoadRect X (ix3 0 0 q) = bOf (arg.view.read (Elt Ideal) X) d q := by
  subst hoff
  refine congrArg (arg.view.read (Elt Ideal) X) (funext fun a => Fin.ext ?_)
  match a with
  | ⟨0, _⟩ => rfl
  | ⟨1, _⟩ => rfl
  | ⟨2, _⟩ => show 256 * d.val + 1 * q.val = 256 * d.val + q.val; omega

section Gates

variable {xc : ℕ → Fin 128 → EReal} (hx : ∀ (t : Fin 4096) (j : Fin 128), arg10.view.read (Elt Ideal) X10 (ix2 t j) = xc t.val j) (k : Fin k0_t2_loop.trips)
include hx

open trip_k0_t2.sl in
theorem gate_fw (r : Fin 512) (q : Fin 256) : (v45 arg6 arg7 arg10 X6 X7 X10 k (ix2 r q) : EReal)
    = gate (xc (512 * k.val + r.val)) (fun i => wOf (arg6.view.read (Elt Ideal) X6) 0 i q) (bOf (arg7.view.read (Elt Ideal) X7) 0 q) := by
  have hk := t2_lt k
  have hr := r.isLt
  pointwise [v45, v44, v40, v43, v42, v38, v39, cst_24]
  unfold gate
  refine congrArg Ideal.logistic (congrArg₂ (· + ·) ?_ (readAt_b arg7 X7 _ _ 0 rfl q))
  refine Finset.sum_congr rfl fun i _ => congrArg₂ (· * ·) ?_ (readAt_w arg6 X6 _ _ 0 rfl i q)
  exact (readAt_at arg10 X10 _ _ _ (off4_eq k) r i ⟨512 * k.val + r.val, by omega⟩ rfl).trans (hx _ _)

open trip_k0_t2.sl in
theorem gate_bw (r : Fin 512) (q : Fin 256) : (v493 arg6 arg7 arg10 X6 X7 X10 k (ix2 r q) : EReal)
    = gate (xc ((7 - k.val) * 512 + r.val)) (fun i => wOf (arg6.view.read (Elt Ideal) X6) 1 i q) (bOf (arg7.view.read (Elt Ideal) X7) 1 q) := by
  have hk := t2_lt k
  have hr := r.isLt
  pointwise [v493, v492, v488, v491, v490, v486, v487, cst_24]
  unfold gate
  refine congrArg Ideal.logistic (congrArg₂ (· + ·) ?_ (readAt_b arg7 X7 _ _ 1 rfl q))
  refine Finset.sum_congr rfl fun i _ => congrArg₂ (· * ·) ?_ (readAt_w arg6 X6 _ _ 1 rfl i q)
  exact (readAt_at arg10 X10 _ _ _ (off5_eq k) r i ⟨(7 - k.val) * 512 + r.val, by omega⟩ rfl).trans (hx _ _)

open trip_k0_t2.sl in
theorem dec_fw (r : Fin 512) (j : Fin 128) : (v50 arg6 arg7 arg10 v6 X6 X7 X10 k (ix2 r j) : EReal)
    = dec xc (wOf (arg6.view.read (Elt Ideal) X6) 0) (bOf (arg7.view.read (Elt Ideal) X7) 0) (sOf v6 0) j (512 * k.val + r.val) := by
  pointwise [v50,v49,v48,v47,v46]
  rw [gate_fw arg6 arg7 arg10 X6 X7 X10 hx k]
  rfl

open trip_k0_t2.sl in
theorem dec_bw (r : Fin 512) (j : Fin 128) : (v498 arg6 arg7 arg10 v6 X6 X7 X10 k (ix2 r j) : EReal)
    = dec xc (wOf (arg6.view.read (Elt Ideal) X6) 1) (bOf (arg7.view.read (Elt Ideal) X7) 1) (sOf v6 1) j ((7 - k.val) * 512 + r.val) := by
  pointwise [v498,v497,v496,v495,v494]
  rw [gate_bw arg6 arg7 arg10 X6 X7 X10 hx k]
  rfl

open trip_k0_t2.sl in
theorem inp_fw (r : Fin 512) (j : Fin 128) : (v60 arg6 arg7 arg10 v6 X6 X7 X10 k (ix2 r j) : EReal)
    = inp xc (wOf (arg6.view.read (Elt Ideal) X6) 0) (bOf (arg7.view.read (Elt Ideal) X7) 0) (sOf v6 0) j (512 * k.val + r.val) := by
  have hk := t2_lt k
  have hr := r.isLt
  pointwise [v60, v59,v58,v57,v56,v55,v54,v53,v52,v51, cst_28, cst_29]
  rw [gate_fw arg6 arg7 arg10 X6 X7 X10 hx k, dec_fw arg6 arg7 arg10 v6 X6 X7 X10 hx k,
    (readAt_at arg10 X10 _ _ _ (off4_eq k) r j ⟨512 * k.val + r.val, by omega⟩ rfl).trans (hx _ _)]
  rfl

open trip_k0_t2.sl in
theorem inp_bw (r : Fin 512) (j : Fin 128) : (v508 arg6 arg7 arg10 v6 X6 X7 X10 k (ix2 r j) : EReal)
    = inp xc (wOf (arg6.view.read (Elt Ideal) X6) 1) (bOf (arg7.view.read (Elt Ideal) X7) 1) (sOf v6 1) j ((7 - k.val) * 512 + r.val) := by
  have hk := t2_lt k
  have hr := r.isLt
  pointwise [v508, v507,v506,v505,v504,v503,v54,v501,v52,v499, cst_28, cst_29]
  rw [gate_bw arg6 arg7 arg10 X6 X7 X10 hx k, dec_bw arg6 arg7 arg10 v6 X6 X7 X10 hx k,
    (readAt_at arg10 X10 _ _ _ (off5_eq k) r j ⟨(7 - k.val) * 512 + r.val, by omega⟩ rfl).trans (hx _ _)]
  rfl

end Gates

end Cert.KernelIdeal.Own

end
-- ==== Proof.RgLru.Chunk.lean ====
/- What one chunk of the two scans computes, from the states before it. -/
module

public import proofs.«01_k».proof.Proof.Gen.KernelIdeal.Frame.Runs
public import proofs.«01_k».proof.Proof.RgLru.Trips
public import proofs.«01_k».proof.Proof.Ffn.Rows

@[expose] public section

set_option maxRecDepth 16384

noncomputable section

namespace Cert.KernelIdeal.Own

open Cert.KernelIdeal Cert.KernelIdeal.Gen Cert.RgLruRows Idealize.ShloMosaic Idealize.ShloMosaic.TcCoe Idealize.SL.Sem

/-- Eight of the rows of a chunk. -/
theorem slices_at (n : ℕ) (h : n ≤ 504) : S512x128.Slices ![n, 0] S8x128 := ⟨rfl, fun a => by
  match a with
  | ⟨0, _⟩ => show n + 8 ≤ 512; omega
  | ⟨1, _⟩ => show 0 + 128 ≤ 128; omega⟩

/-- Groups of eight rows, one under the other, at a row. -/
theorem cat_at (l : List (FVec Ideal S8x128 .f32)) (hl : l.length = 64) (h : Shape.Concatenates ((l.map fun g => (⟨S8x128, g⟩ : (s : Shape) × (s.Idx → Ideal FTy.f32))).map (·.1)) S512x128 0)
    (t : Fin 512) (j : Fin 128) :
    concatenate S512x128 0 (l.map fun g => (⟨S8x128, g⟩ : (s : Shape) × (s.Idx → Ideal FTy.f32))) h (ix2 t j)
      = (l[t.val / 8]'(by rw [hl]; omega)) (ix2 (⟨t.val % 8, Nat.mod_lt _ (by omega)⟩ : Fin 8) j) := by
  have ht := t.isLt
  refine concatenate_apply_piece (t := S512x128) (0 : Fin 2) _ h _ (t.val / 8) (by rw [List.length_map, hl]; omega) S8x128 _ (List.getElem_map _) rfl (8 * (t.val / 8)) ?_ _ ?_ ?_
  · have e : ∀ (n : ℕ) (l : List (FVec Ideal S8x128 .f32)), n ≤ l.length →
        ((((l.map fun g => (⟨S8x128, g⟩ : (s : Shape) × (s.Idx → Ideal FTy.f32))).take n).map (·.1)).map
          fun s => if h : s.rank = S512x128.rank then s.size ((0 : Fin 2).cast h.symm) else 0).sum = 8 * n := by
      intro n
      induction n with
      | zero => intro l _; rfl
      | succ n ih =>
        intro l hn
        cases l with
        | nil => exact absurd hn (Nat.not_succ_le_zero _)
        | cons g l =>
          rw [List.map_cons, List.take_succ_cons, List.map_cons, List.map_cons, List.sum_cons, ih l (Nat.le_of_succ_le_succ hn)]
          show 8 + 8 * n = 8 * (n + 1)
          omega
    exact e _ l (by rw [hl]; omega)
  · intro b hb
    match b with
    | ⟨0, _⟩ => exact absurd rfl hb
    | ⟨1, _⟩ => rfl
  · show 8 * (t.val / 8) + t.val % 8 = t.val; omega

/-- A chunk's states, from the state before it. -/
theorem chunk_at {σ : Fin 512 → Fin 512} {off : ℕ → ℕ} {cr : ℕ} {hcr : S8x128.Slices ![cr, 0] S1x128} {ρ : Fin 8 → Fin 8} (O : Order σ off ρ cr)
    {A U A' U' : FVec Ideal S512x128 .f32} (j : Fin 128) (H : Covers (col σ A j) (col σ U j) 8 (col σ A' j) (col σ U' j))
    {c : FVec Ideal S1x128 .f32} {l : List (FVec Ideal S8x128 .f32)} (hl : Chained A' U' off cr hcr 0 c l) (hn : l.length = 64) (a u : ℕ → EReal) (s : ℕ)
    (ha : ∀ t : Fin 512, (A (ix2 (σ t) j) : EReal) = a (s + t.val)) (hu : ∀ t : Fin 512, (U (ix2 (σ t) j) : EReal) = u (s + t.val))
    (hc : (c (ix2 0 j) : EReal) = run a u 0 s 0) (t : ℕ) (ht : t < 512) :
    ((l[t / 8]'(by rw [hn]; omega)) (ix2 (ρ ⟨t % 8, Nat.mod_lt _ (by omega)⟩) j) : EReal) = run a u 0 (s + (t + 1)) 0 := by
  rw [chained_at O j H (c (ix2 0 j)) hl (by rw [hn]) rfl (t / 8) (by rw [hn]; omega)]
  rw [show 8 * (0 + t / 8) + (⟨t % 8, Nat.mod_lt _ (by omega)⟩ : Fin 8).val + 1 = t + 1 by dsimp only; omega, run_add a u 0 s (t + 1) 0, ← hc, Nat.zero_add]
  refine (run_congr _ (fun q _ hq => ?_) (fun q _ hq => ?_)).trans (run_shift a u s 0 (t + 1) _)
  · exact (col_at (σ := σ) A j ⟨q, by omega⟩).trans (ha ⟨q, by omega⟩)
  · exact (col_at (σ := σ) U j ⟨q, by omega⟩).trans (hu ⟨q, by omega⟩)

variable (arg6 : Memref sig .tc .vmem S1x128x512 .bf16) (arg7 : Memref sig .tc .vmem S1x1x512 .f32) (arg10 : Memref sig .tc .vmem S4096x128 .f32)
  (v6 : Vec Ideal S2x128 .f32) (X6 : BufTy.Contents (Elt Ideal) arg6.view.ty) (X7 : BufTy.Contents (Elt Ideal) arg7.view.ty) (X10 : BufTy.Contents (Elt Ideal) arg10.view.ty)

variable (k : Fin k0_t2_loop.trips) (acc : FVec Ideal S1x128 .f32 × FVec Ideal S1x128 .f32)

open trip_k0_t2.sl in
/-- The forward groups of a trip. -/
theorem groups_fw : ∃ l : List (FVec Ideal S8x128 .f32), l.length = 64 ∧ Chained (v93 arg6 arg7 arg10 v6 X6 X7 X10 k) (v92 arg6 arg7 arg10 v6 X6 X7 X10 k) (fun n => 8 * n) 7 slices_S8x128_o7_0_S1x128 0 acc.1 l
    ∧ (∃ h, v478 arg6 arg7 arg10 v6 X6 X7 X10 k acc = concatenate S512x128 0 (l.map fun g => (⟨S8x128, g⟩ : (s : Shape) × (s.Idx → Ideal FTy.f32))) h)
    ∧ ∀ h : 63 < l.length, v477 arg6 arg7 arg10 v6 X6 X7 X10 k acc = extractStridedSlice S1x128 ![7, 0] l[63] slices_S8x128_o7_0_S1x128 := by
  refine ⟨v98 arg6 arg7 arg10 v6 X6 X7 X10 k acc :: v104 arg6 arg7 arg10 v6 X6 X7 X10 k acc :: v110 arg6 arg7 arg10 v6 X6 X7 X10 k acc :: v116 arg6 arg7 arg10 v6 X6 X7 X10 k acc :: v122 arg6 arg7 arg10 v6 X6 X7 X10 k acc :: v128 arg6 arg7 arg10 v6 X6 X7 X10 k acc :: v134 arg6 arg7 arg10 v6 X6 X7 X10 k acc :: v140 arg6 arg7 arg10 v6 X6 X7 X10 k acc :: v146 arg6 arg7 arg10 v6 X6 X7 X10 k acc :: v152 arg6 arg7 arg10 v6 X6 X7 X10 k acc :: v158 arg6 arg7 arg10 v6 X6 X7 X10 k acc :: v164 arg6 arg7 arg10 v6 X6 X7 X10 k acc :: v170 arg6 arg7 arg10 v6 X6 X7 X10 k acc :: v176 arg6 arg7 arg10 v6 X6 X7 X10 k acc :: v182 arg6 arg7 arg10 v6 X6 X7 X10 k acc :: v188 arg6 arg7 arg10 v6 X6 X7 X10 k acc :: v194 arg6 arg7 arg10 v6 X6 X7 X10 k acc :: v200 arg6 arg7 arg10 v6 X6 X7 X10 k acc :: v206 arg6 arg7 arg10 v6 X6 X7 X10 k acc :: v212 arg6 arg7 arg10 v6 X6 X7 X10 k acc :: v218 arg6 arg7 arg10 v6 X6 X7 X10 k acc :: v224 arg6 arg7 arg10 v6 X6 X7 X10 k acc :: v230 arg6 arg7 arg10 v6 X6 X7 X10 k acc :: v236 arg6 arg7 arg10 v6 X6 X7 X10 k acc :: v242 arg6 arg7 arg10 v6 X6 X7 X10 k acc :: v248 arg6 arg7 arg10 v6 X6 X7 X10 k acc :: v254 arg6 arg7 arg10 v6 X6 X7 X10 k acc :: v260 arg6 arg7 arg10 v6 X6 X7 X10 k acc :: v266 arg6 arg7 arg10 v6 X6 X7 X10 k acc :: v272 arg6 arg7 arg10 v6 X6 X7 X10 k acc :: v278 arg6 arg7 arg10 v6 X6 X7 X10 k acc :: v284 arg6 arg7 arg10 v6 X6 X7 X10 k acc :: v290 arg6 arg7 arg10 v6 X6 X7 X10 k acc :: v296 arg6 arg7 arg10 v6 X6 X7 X10 k acc :: v302 arg6 arg7 arg10 v6 X6 X7 X10 k acc :: v308 arg6 arg7 arg10 v6 X6 X7 X10 k acc :: v314 arg6 arg7 arg10 v6 X6 X7 X10 k acc :: v320 arg6 arg7 arg10 v6 X6 X7 X10 k acc :: v326 arg6 arg7 arg10 v6 X6 X7 X10 k acc :: v332 arg6 arg7 arg10 v6 X6 X7 X10 k acc :: v338 arg6 arg7 arg10 v6 X6 X7 X10 k acc :: v344 arg6 arg7 arg10 v6 X6 X7 X10 k acc :: v350 arg6 arg7 arg10 v6 X6 X7 X10 k acc :: v356 arg6 arg7 arg10 v6 X6 X7 X10 k acc :: v362 arg6 arg7 arg10 v6 X6 X7 X10 k acc :: v368 arg6 arg7 arg10 v6 X6 X7 X10 k acc :: v374 arg6 arg7 arg10 v6 X6 X7 X10 k acc :: v380 arg6 arg7 arg10 v6 X6 X7 X10 k acc :: v386 arg6 arg7 arg10 v6 X6 X7 X10 k acc :: v392 arg6 arg7 arg10 v6 X6 X7 X10 k acc :: v398 arg6 arg7 arg10 v6 X6 X7 X10 k acc :: v404 arg6 arg7 arg10 v6 X6 X7 X10 k acc :: v410 arg6 arg7 arg10 v6 X6 X7 X10 k acc :: v416 arg6 arg7 arg10 v6 X6 X7 X10 k acc :: v422 arg6 arg7 arg10 v6 X6 X7 X10 k acc :: v428 arg6 arg7 arg10 v6 X6 X7 X10 k acc :: v434 arg6 arg7 arg10 v6 X6 X7 X10 k acc :: v440 arg6 arg7 arg10 v6 X6 X7 X10 k acc :: v446 arg6 arg7 arg10 v6 X6 X7 X10 k acc :: v452 arg6 arg7 arg10 v6 X6 X7 X10 k acc :: v458 arg6 arg7 arg10 v6 X6 X7 X10 k acc :: v464 arg6 arg7 arg10 v6 X6 X7 X10 k acc :: v470 arg6 arg7 arg10 v6 X6 X7 X10 k acc :: v476 arg6 arg7 arg10 v6 X6 X7 X10 k acc :: [], rfl, ?_, ⟨_, rfl⟩, fun h => rfl⟩
  repeat (first | exact .nil _ _ | refine .cons _ _ _ _ (slices_at _ (by decide)) rfl ?_)

open trip_k0_t2.sl in
/-- The backward groups of a trip, in the order of the scan. -/
theorem groups_bw : ∃ l : List (FVec Ideal S8x128 .f32), l.length = 64 ∧ Chained (v541 arg6 arg7 arg10 v6 X6 X7 X10 k) (v540 arg6 arg7 arg10 v6 X6 X7 X10 k) (fun n => 504 - 8 * n) 0 slices_S8x128_o0_0_S1x128 0 acc.2 l
    ∧ (∃ h, v926 arg6 arg7 arg10 v6 X6 X7 X10 k acc = concatenate S512x128 0 (l.reverse.map fun g => (⟨S8x128, g⟩ : (s : Shape) × (s.Idx → Ideal FTy.f32))) h)
    ∧ ∀ h : 63 < l.length, k0_pay7 (v924 arg6 arg7 arg10 v6 X6 X7 X10 k acc) = extractStridedSlice S1x128 ![0, 0] l[63] slices_S8x128_o0_0_S1x128 := by
  refine ⟨v546 arg6 arg7 arg10 v6 X6 X7 X10 k acc :: v552 arg6 arg7 arg10 v6 X6 X7 X10 k acc :: v558 arg6 arg7 arg10 v6 X6 X7 X10 k acc :: v564 arg6 arg7 arg10 v6 X6 X7 X10 k acc :: v570 arg6 arg7 arg10 v6 X6 X7 X10 k acc :: v576 arg6 arg7 arg10 v6 X6 X7 X10 k acc :: v582 arg6 arg7 arg10 v6 X6 X7 X10 k acc :: v588 arg6 arg7 arg10 v6 X6 X7 X10 k acc :: v594 arg6 arg7 arg10 v6 X6 X7 X10 k acc :: v600 arg6 arg7 arg10 v6 X6 X7 X10 k acc :: v606 arg6 arg7 arg10 v6 X6 X7 X10 k acc :: v612 arg6 arg7 arg10 v6 X6 X7 X10 k acc :: v618 arg6 arg7 arg10 v6 X6 X7 X10 k acc :: v624 arg6 arg7 arg10 v6 X6 X7 X10 k acc :: v630 arg6 arg7 arg10 v6 X6 X7 X10 k acc :: v636 arg6 arg7 arg10 v6 X6 X7 X10 k acc :: v642 arg6 arg7 arg10 v6 X6 X7 X10 k acc :: v648 arg6 arg7 arg10 v6 X6 X7 X10 k acc :: v654 arg6 arg7 arg10 v6 X6 X7 X10 k acc :: v660 arg6 arg7 arg10 v6 X6 X7 X10 k acc :: v666 arg6 arg7 arg10 v6 X6 X7 X10 k acc :: v672 arg6 arg7 arg10 v6 X6 X7 X10 k acc :: v678 arg6 arg7 arg10 v6 X6 X7 X10 k acc :: v684 arg6 arg7 arg10 v6 X6 X7 X10 k acc :: v690 arg6 arg7 arg10 v6 X6 X7 X10 k acc :: v696 arg6 arg7 arg10 v6 X6 X7 X10 k acc :: v702 arg6 arg7 arg10 v6 X6 X7 X10 k acc :: v708 arg6 arg7 arg10 v6 X6 X7 X10 k acc :: v714 arg6 arg7 arg10 v6 X6 X7 X10 k acc :: v720 arg6 arg7 arg10 v6 X6 X7 X10 k acc :: v726 arg6 arg7 arg10 v6 X6 X7 X10 k acc :: v732 arg6 arg7 arg10 v6 X6 X7 X10 k acc :: v738 arg6 arg7 arg10 v6 X6 X7 X10 k acc :: v744 arg6 arg7 arg10 v6 X6 X7 X10 k acc :: v750 arg6 arg7 arg10 v6 X6 X7 X10 k acc :: v756 arg6 arg7 arg10 v6 X6 X7 X10 k acc :: v762 arg6 arg7 arg10 v6 X6 X7 X10 k acc :: v768 arg6 arg7 arg10 v6 X6 X7 X10 k acc :: v774 arg6 arg7 arg10 v6 X6 X7 X10 k acc :: v780 arg6 arg7 arg10 v6 X6 X7 X10 k acc :: v786 arg6 arg7 arg10 v6 X6 X7 X10 k acc :: v792 arg6 arg7 arg10 v6 X6 X7 X10 k acc :: v798 arg6 arg7 arg10 v6 X6 X7 X10 k acc :: v804 arg6 arg7 arg10 v6 X6 X7 X10 k acc :: v810 arg6 arg7 arg10 v6 X6 X7 X10 k acc :: v816 arg6 arg7 arg10 v6 X6 X7 X10 k acc :: v822 arg6 arg7 arg10 v6 X6 X7 X10 k acc :: v828 arg6 arg7 arg10 v6 X6 X7 X10 k acc :: v834 arg6 arg7 arg10 v6 X6 X7 X10 k acc :: v840 arg6 arg7 arg10 v6 X6 X7 X10 k acc :: v846 arg6 arg7 arg10 v6 X6 X7 X10 k acc :: v852 arg6 arg7 arg10 v6 X6 X7 X10 k acc :: v858 arg6 arg7 arg10 v6 X6 X7 X10 k acc :: v864 arg6 arg7 arg10 v6 X6 X7 X10 k acc :: v870 arg6 arg7 arg10 v6 X6 X7 X10 k acc :: v876 arg6 arg7 arg10 v6 X6 X7 X10 k acc :: v882 arg6 arg7 arg10 v6 X6 X7 X10 k acc :: v888 arg6 arg7 arg10 v6 X6 X7 X10 k acc :: v894 arg6 arg7 arg10 v6 X6 X7 X10 k acc :: v900 arg6 arg7 arg10 v6 X6 X7 X10 k acc :: v906 arg6 arg7 arg10 v6 X6 X7 X10 k acc :: v912 arg6 arg7 arg10 v6 X6 X7 X10 k acc :: v918 arg6 arg7 arg10 v6 X6 X7 X10 k acc :: v924 arg6 arg7 arg10 v6 X6 X7 X10 k acc :: [], rfl, ?_, ⟨_, rfl⟩, fun h => rfl⟩
  repeat (first | exact .nil _ _ | refine .cons _ _ _ _ (slices_at _ (by decide)) rfl ?_)

open trip_k0_t2.sl in
theorem covers_fw (j : Fin 128) (hA : ∀ x, 0 ≤ (v50 arg6 arg7 arg10 v6 X6 X7 X10 k x : EReal) ∧ (v50 arg6 arg7 arg10 v6 X6 X7 X10 k x : EReal) ≤ 1) :
    Covers (col id (v50 arg6 arg7 arg10 v6 X6 X7 X10 k) j) (col id (v60 arg6 arg7 arg10 v6 X6 X7 X10 k) j) 8 (col id (v93 arg6 arg7 arg10 v6 X6 X7 X10 k) j) (col id (v92 arg6 arg7 arg10 v6 X6 X7 X10 k) j) :=
  covers_up (looks_fw (d := 1) (by decide)) (looks_fw (d := 2) (by decide)) (looks_fw (d := 4) (by decide)) (v50 arg6 arg7 arg10 v6 X6 X7 X10 k) (v60 arg6 arg7 arg10 v6 X6 X7 X10 k) v52 v67 (fun x => Ideal.ofBits_one_f32) (fun x => Ideal.ofBits_zero_f32) j hA

open trip_k0_t2.sl in
theorem covers_bw (j : Fin 128) (hA : ∀ x, 0 ≤ (v498 arg6 arg7 arg10 v6 X6 X7 X10 k x : EReal) ∧ (v498 arg6 arg7 arg10 v6 X6 X7 X10 k x : EReal) ≤ 1) :
    Covers (col Fin.rev (v498 arg6 arg7 arg10 v6 X6 X7 X10 k) j) (col Fin.rev (v508 arg6 arg7 arg10 v6 X6 X7 X10 k) j) 8 (col Fin.rev (v541 arg6 arg7 arg10 v6 X6 X7 X10 k) j) (col Fin.rev (v540 arg6 arg7 arg10 v6 X6 X7 X10 k) j) :=
  covers_up (looks_bw (d := 1) (by decide)) (looks_bw (d := 2) (by decide)) (looks_bw (d := 4) (by decide)) (v498 arg6 arg7 arg10 v6 X6 X7 X10 k) (v508 arg6 arg7 arg10 v6 X6 X7 X10 k) v52 v67 (fun x => Ideal.ofBits_one_f32) (fun x => Ideal.ofBits_zero_f32) j hA

end Cert.KernelIdeal.Own

end
-- ==== Proof.RgLru.Fill.lean ====
/- What the kernel's three loops leave in its buffers. -/
module

public import Idealize.ShloMosaic.Lib.ValueIdx
public import Idealize.ShloMosaic.Lib.WritesUnit
public import proofs.«01_k».proof.Proof.RgLru.Chunk

@[expose] public section

set_option maxRecDepth 16384

noncomputable section

namespace Cert.KernelIdeal.Own

open Cert.KernelIdeal Cert.KernelIdeal.Gen Cert.RgLruRows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem in_range {x y : EReal} (h : 0 ≤ y ∧ y ≤ 1) (e : x = y) : 0 ≤ x ∧ x ≤ 1 := e ▸ h

theorem getElem_at {α : Type} (l : List α) {a b : ℕ} (ha : a < l.length) (hb : b < l.length) (e : a = b) : l[a] = l[b] := by subst e; rfl

/-- Whole rows written chunk by chunk, read back. -/
theorem filled {e : EltTy} (arg : Memref sig .tc .vmem S4096x128 e) (G : BufTy.Contents (Elt Ideal) arg.view.ty) (V : Fin 128 → ℕ → Elt Ideal e) (o : ℕ → ℕ)
    (L : ℕ → List (View.Piece (Elt Ideal) S4096x128 e)) (n : ℕ)
    (hL : ∀ k, k < n → ∃ (off : Fin 2 → ℕ) (inb : ∀ a, off a + (![512, 128] : Fin 2 → ℕ) a ≤ S4096x128.size a)
      (P : (Rect.unit (s := S4096x128) off ![512, 128] inb).shape.Idx → Elt Ideal e),
      L (k + 1) = (⟨Rect.unit (s := S4096x128) off ![512, 128] inb, P⟩ : View.Piece (Elt Ideal) S4096x128 e) :: L k ∧ off = ![o k, 0]
        ∧ ∀ (r : Fin 512) (j : Fin 128), P (ix2 r j) = V j (o k + r.val))
    (q : Fin 4096) (j : Fin 128) (hq : ∃ k, k < n ∧ o k ≤ q.val ∧ q.val < o k + 512) :
    arg.view.read (Elt Ideal) (arg.view.writes (Elt Ideal) G (L n)) (ix2 q j) = V j q.val := by
  induction n with
  | zero => obtain ⟨k, hk, _⟩ := hq; exact absurd hk (Nat.not_lt_zero _)
  | succ n ih =>
    obtain ⟨off, inb, P, e1, e2, e3⟩ := hL n (Nat.lt_succ_self _)
    rw [e1]
    by_cases h : o n ≤ q.val ∧ q.val < o n + 512
    · refine (View.read_writes_cons_rows_of_mem arg.view G inb P (L n) (ix2 q j) (ix2 (⟨q.val - o n, by omega⟩ : Fin 512) j) e2 ?_ rfl).trans ((e3 _ _).trans ?_)
      · show q.val = o n + (q.val - o n); omega
      · exact congrArg (V j) (by dsimp only; omega)
    · refine (View.read_writes_cons_rows_of_not_mem arg.view G inb P (L n) (ix2 q j) e2 (W := 512) rfl (by show q.val < o n ∨ o n + 512 ≤ q.val; omega)).trans ?_
      refine ih (fun k hk => hL k (Nat.lt_succ_of_lt hk)) ?_
      obtain ⟨k, hk, hk'⟩ := hq
      exact ⟨k, Nat.lt_of_le_of_ne (Nat.le_of_lt_succ hk) (fun e => h (e ▸ hk')), hk'⟩

variable (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4x128 .f32) (harg4 : arg4.IsWhole) (arg5 : Memref sig .tc .vmem S1x128 .f32) (harg5 : arg5.IsWhole) (arg6 : Memref sig .tc .vmem S1x128x512 .bf16) (harg6 : arg6.IsWhole) (arg7 : Memref sig .tc .vmem S1x1x512 .f32) (harg7 : arg7.IsWhole) (arg8 : Memref sig .tc .vmem S2x128 .f32) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole)

variable (v3 : Vec Ideal S4x128 .f32) (v4 : Vec Ideal S1x128 .f32) (v6 : Vec Ideal S2x128 .f32) (X2 : BufTy.Contents (Elt Ideal) arg2.view.ty) (X3 : BufTy.Contents (Elt Ideal) arg3.view.ty)
  (X6 : BufTy.Contents (Elt Ideal) arg6.view.ty) (X7 : BufTy.Contents (Elt Ideal) arg7.view.ty) (X10 : BufTy.Contents (Elt Ideal) arg10.view.ty)
  (X11 : BufTy.Contents (Elt Ideal) arg11.view.ty) (X12 : BufTy.Contents (Elt Ideal) arg12.view.ty)

/-- The first loop leaves the convolution. -/
theorem conv_read (G : BufTy.Contents (Elt Ideal) arg10.view.ty) (q : Fin 4096) (j : Fin 128) :
    (arg10.view.read (Elt Ideal) (arg10.view.writes (Elt Ideal) G (pb_k0_t1 𝒱 c bd i arg2 harg2 arg3 harg3 arg4 harg4 arg5 harg5 arg6 harg6 arg7 harg7 arg8 harg8 arg9 harg9 arg10 harg10 arg11 harg11 arg12 harg12 v3 v4 X2 8)) (ix2 q j) : EReal)
      = conv (v4 (ix2 0 j)) (fun q => v3 (ix2 q j)) (fun t => arg2.view.read (Elt Ideal) X2 (ix2 t j)) q.val := by
  refine filled arg10 G (fun j t => conv (v4 (ix2 0 j)) (fun q => v3 (ix2 q j)) (fun t => arg2.view.read (Elt Ideal) X2 (ix2 t j)) t) (fun k => 512 * k) _ 8 (fun k hk => ?_) q j
    ⟨q.val / 512, by omega, by omega, by omega⟩
  refine ⟨k0_off1 ⟨k, hk⟩, k0_off1_inb ⟨k, hk⟩, k0_pay4 (trip_k0_t1.sl.v70 arg2 v3 v4 X2 ⟨k, hk⟩) (trip_k0_t1.sl.v71 v3) (trip_k0_t1.sl.v73 arg2 X2 ⟨k, hk⟩), ?_, off1_eq _, fun r j => conv_at arg2 v3 v4 X2 ⟨k, hk⟩ r j⟩
  refine (pb_k0_t1_succ 𝒱 c bd i arg2 harg2 arg3 harg3 arg4 harg4 arg5 harg5 arg6 harg6 arg7 harg7 arg8 harg8 arg9 harg9 arg10 harg10 arg11 harg11 arg12 harg12 v3 v4 X2 ⟨k, hk⟩).trans ?_
  unfold tripL_k0_t1 trip_k0_t1
  rfl

section Scans

variable {xc : ℕ → Fin 128 → EReal} (hx : ∀ (t : Fin 4096) (j : Fin 128), (arg10.view.read (Elt Ideal) X10 (ix2 t j) : EReal) = xc t.val j)

/-- The decays of one direction, from the contents of the kernel's buffers. -/
abbrev aOf (xc : ℕ → Fin 128 → EReal) (W : Vec Ideal S1x128x512 .bf16) (Bs : Vec Ideal S1x1x512 .f32) (v : Vec Ideal S2x128 .f32) (d : Fin 2) (j : Fin 128) : ℕ → EReal := dec xc (wOf W d) (bOf Bs d) (sOf v d) j
/-- The inputs of one direction, from the contents of the kernel's buffers. -/
abbrev uOf (xc : ℕ → Fin 128 → EReal) (W : Vec Ideal S1x128x512 .bf16) (Bs : Vec Ideal S1x1x512 .f32) (v : Vec Ideal S2x128 .f32) (d : Fin 2) (j : Fin 128) : ℕ → EReal := inp xc (wOf W d) (bOf Bs d) (sOf v d) j

variable (hd : ∀ (d : Fin 2) (j : Fin 128) (t : ℕ), 0 ≤ aOf xc (arg6.view.read (Elt Ideal) X6) (arg7.view.read (Elt Ideal) X7) v6 d j t ∧ aOf xc (arg6.view.read (Elt Ideal) X6) (arg7.view.read (Elt Ideal) X7) v6 d j t ≤ 1)
include hx hd

open trip_k0_t2.sl in
theorem range_fw (k : Fin k0_t2_loop.trips) (x : S512x128.Idx) : 0 ≤ (v50 arg6 arg7 arg10 v6 X6 X7 X10 k x : EReal) ∧ (v50 arg6 arg7 arg10 v6 X6 X7 X10 k x : EReal) ≤ 1 := by
  obtain ⟨r, j, e⟩ : ∃ (r : Fin 512) (j : Fin 128), x = ix2 r j := ⟨x 0, x 1, eq_ix2 x⟩
  exact in_range (hd 0 j (512 * k.val + r.val)) ((congrArg (v50 arg6 arg7 arg10 v6 X6 X7 X10 k) e).trans (dec_fw arg6 arg7 arg10 v6 X6 X7 X10 hx k r j))

open trip_k0_t2.sl in
/-- A chunk of the forward scan. -/
theorem scan_fw (k : Fin k0_t2_loop.trips) (acc : FVec Ideal S1x128 .f32 × FVec Ideal S1x128 .f32) (j : Fin 128)
    (hc : (acc.1 (ix2 0 j) : EReal) = run (aOf xc (arg6.view.read (Elt Ideal) X6) (arg7.view.read (Elt Ideal) X7) v6 0 j) (uOf xc (arg6.view.read (Elt Ideal) X6) (arg7.view.read (Elt Ideal) X7) v6 0 j) 0 (512 * k.val) 0) :
    (∀ r : Fin 512, (v482 arg6 arg7 arg10 v6 X6 X7 X10 k acc (ix2 r j) : EReal) = fwd (aOf xc (arg6.view.read (Elt Ideal) X6) (arg7.view.read (Elt Ideal) X7) v6 0 j) (uOf xc (arg6.view.read (Elt Ideal) X6) (arg7.view.read (Elt Ideal) X7) v6 0 j) (512 * k.val + r.val))
      ∧ (v477 arg6 arg7 arg10 v6 X6 X7 X10 k acc (ix2 0 j) : EReal) = run (aOf xc (arg6.view.read (Elt Ideal) X6) (arg7.view.read (Elt Ideal) X7) v6 0 j) (uOf xc (arg6.view.read (Elt Ideal) X6) (arg7.view.read (Elt Ideal) X7) v6 0 j) 0 (512 * (k.val + 1)) 0 := by
  obtain ⟨l, hn, hl, ⟨hcat, ecat⟩, ec⟩ := groups_fw arg6 arg7 arg10 v6 X6 X7 X10 k acc
  have H := covers_fw arg6 arg7 arg10 v6 X6 X7 X10 k j (range_fw arg6 arg7 arg10 v6 X6 X7 X10 hx hd k)
  have C := chunk_at order_fw j H hl hn _ _ (512 * k.val) (fun t => dec_fw arg6 arg7 arg10 v6 X6 X7 X10 hx k t j) (fun t => inp_fw arg6 arg7 arg10 v6 X6 X7 X10 hx k t j) hc
  refine ⟨fun r => ?_, ?_⟩
  · pointwise [v482]
    rw [ecat, cat_at l hn]
    exact C r.val r.isLt
  · rw [ec (by omega)]
    refine Eq.trans ?_ (C 511 (by omega))
    pointwise []
    rfl

open trip_k0_t2.sl in
theorem range_bw (k : Fin k0_t2_loop.trips) (x : S512x128.Idx) : 0 ≤ (v498 arg6 arg7 arg10 v6 X6 X7 X10 k x : EReal) ∧ (v498 arg6 arg7 arg10 v6 X6 X7 X10 k x : EReal) ≤ 1 := by
  obtain ⟨r, j, e⟩ : ∃ (r : Fin 512) (j : Fin 128), x = ix2 r j := ⟨x 0, x 1, eq_ix2 x⟩
  exact in_range (hd 1 j ((7 - k.val) * 512 + r.val)) ((congrArg (v498 arg6 arg7 arg10 v6 X6 X7 X10 k) e).trans (dec_bw arg6 arg7 arg10 v6 X6 X7 X10 hx k r j))

open trip_k0_t2.sl in
/-- A chunk of the backward scan. -/
theorem scan_bw (k : Fin k0_t2_loop.trips) (acc : FVec Ideal S1x128 .f32 × FVec Ideal S1x128 .f32) (j : Fin 128)
    (hc : (acc.2 (ix2 0 j) : EReal) = run (fun n => aOf xc (arg6.view.read (Elt Ideal) X6) (arg7.view.read (Elt Ideal) X7) v6 1 j (4095 - n)) (fun n => uOf xc (arg6.view.read (Elt Ideal) X6) (arg7.view.read (Elt Ideal) X7) v6 1 j (4095 - n)) 0 (512 * k.val) 0) :
    (∀ r : Fin 512, (k0_pay8 (v926 arg6 arg7 arg10 v6 X6 X7 X10 k acc) (ix2 r j) : EReal) = bwd (aOf xc (arg6.view.read (Elt Ideal) X6) (arg7.view.read (Elt Ideal) X7) v6 1 j) (uOf xc (arg6.view.read (Elt Ideal) X6) (arg7.view.read (Elt Ideal) X7) v6 1 j) ((7 - k.val) * 512 + r.val))
      ∧ (k0_pay7 (v924 arg6 arg7 arg10 v6 X6 X7 X10 k acc) (ix2 0 j) : EReal) = run (fun n => aOf xc (arg6.view.read (Elt Ideal) X6) (arg7.view.read (Elt Ideal) X7) v6 1 j (4095 - n)) (fun n => uOf xc (arg6.view.read (Elt Ideal) X6) (arg7.view.read (Elt Ideal) X7) v6 1 j (4095 - n)) 0 (512 * (k.val + 1)) 0 := by
  have hk := t2_lt k
  obtain ⟨l, hn, hl, ⟨hcat, ecat⟩, ec⟩ := groups_bw arg6 arg7 arg10 v6 X6 X7 X10 k acc
  have H := covers_bw arg6 arg7 arg10 v6 X6 X7 X10 k j (range_bw arg6 arg7 arg10 v6 X6 X7 X10 hx hd k)
  have ei : ∀ t : Fin 512, (7 - k.val) * 512 + (Fin.rev t).val = 4095 - (512 * k.val + t.val) := fun t => by have := t.isLt; rw [Fin.val_rev]; omega
  have C := chunk_at order_bw j H hl hn (fun n => aOf xc (arg6.view.read (Elt Ideal) X6) (arg7.view.read (Elt Ideal) X7) v6 1 j (4095 - n)) (fun n => uOf xc (arg6.view.read (Elt Ideal) X6) (arg7.view.read (Elt Ideal) X7) v6 1 j (4095 - n)) (512 * k.val)
    (fun t => (dec_bw arg6 arg7 arg10 v6 X6 X7 X10 hx k (Fin.rev t) j).trans (congrArg _ (ei t)))
    (fun t => (inp_bw arg6 arg7 arg10 v6 X6 X7 X10 hx k (Fin.rev t) j).trans (congrArg _ (ei t))) hc
  refine ⟨fun r => ?_, ?_⟩
  · have hr := r.isLt
    pointwise [k0_pay8]
    rw [ecat, cat_at l.reverse (by rw [List.length_reverse, hn])]
    have D := C (511 - r.val) (by omega)
    unfold bwd
    rw [show 4096 - ((7 - k.val) * 512 + r.val) = 512 * k.val + (511 - r.val + 1) by omega, ← D, List.getElem_reverse]
    have e1 : l.length - 1 - r.val / 8 = (511 - r.val) / 8 := by rw [hn]; omega
    have e2 : (⟨r.val % 8, Nat.mod_lt _ (by omega)⟩ : Fin 8) = Fin.rev ⟨(511 - r.val) % 8, Nat.mod_lt _ (by omega)⟩ := Fin.ext (by rw [Fin.val_rev]; dsimp only; omega)
    rw [e2]
    exact congrFun (getElem_at l _ _ e1) _
  · rw [ec (by omega)]
    refine Eq.trans ?_ (C 511 (by omega))
    pointwise []
    rfl

/-- The states before every trip. -/
theorem carry_at (n : ℕ) (hn : n ≤ 8) (j : Fin 128) :
    ((st_k0_t2 𝒱 c bd i arg2 harg2 arg3 harg3 arg4 harg4 arg5 harg5 arg6 harg6 arg7 harg7 arg8 harg8 arg9 harg9 arg10 harg10 arg11 harg11 arg12 harg12 v6 X6 X7 X10 (k0_pay5, k0_pay5) n).1.1 (ix2 0 j) : EReal) = run (aOf xc (arg6.view.read (Elt Ideal) X6) (arg7.view.read (Elt Ideal) X7) v6 0 j) (uOf xc (arg6.view.read (Elt Ideal) X6) (arg7.view.read (Elt Ideal) X7) v6 0 j) 0 (512 * n) 0
      ∧ ((st_k0_t2 𝒱 c bd i arg2 harg2 arg3 harg3 arg4 harg4 arg5 harg5 arg6 harg6 arg7 harg7 arg8 harg8 arg9 harg9 arg10 harg10 arg11 harg11 arg12 harg12 v6 X6 X7 X10 (k0_pay5, k0_pay5) n).1.2 (ix2 0 j) : EReal)
        = run (fun n => aOf xc (arg6.view.read (Elt Ideal) X6) (arg7.view.read (Elt Ideal) X7) v6 1 j (4095 - n)) (fun n => uOf xc (arg6.view.read (Elt Ideal) X6) (arg7.view.read (Elt Ideal) X7) v6 1 j (4095 - n)) 0 (512 * n) 0 := by
  induction n with
  | zero => exact ⟨Ideal.ofBits_zero_f32, Ideal.ofBits_zero_f32⟩
  | succ n ih =>
    obtain ⟨i1, i2⟩ := ih (by omega)
    rw [st_k0_t2_succ 𝒱 c bd i arg2 harg2 arg3 harg3 arg4 harg4 arg5 harg5 arg6 harg6 arg7 harg7 arg8 harg8 arg9 harg9 arg10 harg10 arg11 harg11 arg12 harg12 v6 X6 X7 X10 (k0_pay5, k0_pay5) ⟨n, by exact hn⟩]
    have r1 := (scan_fw arg6 arg7 arg10 v6 X6 X7 X10 hx hd ⟨n, by exact hn⟩ _ j i1).2
    have r2 := (scan_bw arg6 arg7 arg10 v6 X6 X7 X10 hx hd ⟨n, by exact hn⟩ _ j i2).2
    unfold tripR_k0_t2 trip_k0_t2
    exact ⟨r1, r2⟩

/-- The second loop leaves the forward states. -/
theorem fw_read (G : BufTy.Contents (Elt Ideal) arg11.view.ty) (q : Fin 4096) (j : Fin 128) :
    (arg11.view.read (Elt Ideal) (arg11.view.writes (Elt Ideal) G (st_k0_t2 𝒱 c bd i arg2 harg2 arg3 harg3 arg4 harg4 arg5 harg5 arg6 harg6 arg7 harg7 arg8 harg8 arg9 harg9 arg10 harg10 arg11 harg11 arg12 harg12 v6 X6 X7 X10 (k0_pay5, k0_pay5) 8).2.1) (ix2 q j) : EReal)
      = fwd (aOf xc (arg6.view.read (Elt Ideal) X6) (arg7.view.read (Elt Ideal) X7) v6 0 j) (uOf xc (arg6.view.read (Elt Ideal) X6) (arg7.view.read (Elt Ideal) X7) v6 0 j) q.val := by
  refine filled arg11 G (fun j t => fwd (aOf xc (arg6.view.read (Elt Ideal) X6) (arg7.view.read (Elt Ideal) X7) v6 0 j) (uOf xc (arg6.view.read (Elt Ideal) X6) (arg7.view.read (Elt Ideal) X7) v6 0 j) t) (fun k => 512 * k) (fun n => (st_k0_t2 𝒱 c bd i arg2 harg2 arg3 harg3 arg4 harg4 arg5 harg5 arg6 harg6 arg7 harg7 arg8 harg8 arg9 harg9 arg10 harg10 arg11 harg11 arg12 harg12 v6 X6 X7 X10 (k0_pay5, k0_pay5) n).2.1) 8 (fun k hk => ?_) q j
    ⟨q.val / 512, by omega, by omega, by omega⟩
  refine ⟨k0_off4 ⟨k, hk⟩, k0_off4_inb ⟨k, hk⟩, trip_k0_t2.sl.v482 arg6 arg7 arg10 v6 X6 X7 X10 ⟨k, hk⟩ (st_k0_t2 𝒱 c bd i arg2 harg2 arg3 harg3 arg4 harg4 arg5 harg5 arg6 harg6 arg7 harg7 arg8 harg8 arg9 harg9 arg10 harg10 arg11 harg11 arg12 harg12 v6 X6 X7 X10 (k0_pay5, k0_pay5) k).1, ?_, off4_eq _,
    fun r j => (scan_fw arg6 arg7 arg10 v6 X6 X7 X10 hx hd ⟨k, hk⟩ _ j (carry_at 𝒱 c bd i arg2 harg2 arg3 harg3 arg4 harg4 arg5 harg5 arg6 harg6 arg7 harg7 arg8 harg8 arg9 harg9 arg10 harg10 arg11 harg11 arg12 harg12 v6 X6 X7 X10 hx hd k (by omega) j).1).1 r⟩
  refine (congrArg (fun s => s.2.1) (st_k0_t2_succ 𝒱 c bd i arg2 harg2 arg3 harg3 arg4 harg4 arg5 harg5 arg6 harg6 arg7 harg7 arg8 harg8 arg9 harg9 arg10 harg10 arg11 harg11 arg12 harg12 v6 X6 X7 X10 (k0_pay5, k0_pay5) ⟨k, hk⟩)).trans ?_
  unfold tripL_k0_t2 trip_k0_t2
  rfl

/-- The second loop leaves the backward states. -/
theorem bw_read (G : BufTy.Contents (Elt Ideal) arg12.view.ty) (q : Fin 4096) (j : Fin 128) :
    (arg12.view.read (Elt Ideal) (arg12.view.writes (Elt Ideal) G (st_k0_t2 𝒱 c bd i arg2 harg2 arg3 harg3 arg4 harg4 arg5 harg5 arg6 harg6 arg7 harg7 arg8 harg8 arg9 harg9 arg10 harg10 arg11 harg11 arg12 harg12 v6 X6 X7 X10 (k0_pay5, k0_pay5) 8).2.2) (ix2 q j) : EReal)
      = bwd (aOf xc (arg6.view.read (Elt Ideal) X6) (arg7.view.read (Elt Ideal) X7) v6 1 j) (uOf xc (arg6.view.read (Elt Ideal) X6) (arg7.view.read (Elt Ideal) X7) v6 1 j) q.val := by
  refine filled arg12 G (fun j t => bwd (aOf xc (arg6.view.read (Elt Ideal) X6) (arg7.view.read (Elt Ideal) X7) v6 1 j) (uOf xc (arg6.view.read (Elt Ideal) X6) (arg7.view.read (Elt Ideal) X7) v6 1 j) t) (fun k => (7 - k) * 512) (fun n => (st_k0_t2 𝒱 c bd i arg2 harg2 arg3 harg3 arg4 harg4 arg5 harg5 arg6 harg6 arg7 harg7 arg8 harg8 arg9 harg9 arg10 harg10 arg11 harg11 arg12 harg12 v6 X6 X7 X10 (k0_pay5, k0_pay5) n).2.2) 8 (fun k hk => ?_) q j
    ⟨7 - q.val / 512, by omega, by omega, by omega⟩
  refine ⟨k0_off5 ⟨k, hk⟩, k0_off5_inb ⟨k, hk⟩, k0_pay8 (trip_k0_t2.sl.v926 arg6 arg7 arg10 v6 X6 X7 X10 ⟨k, hk⟩ (st_k0_t2 𝒱 c bd i arg2 harg2 arg3 harg3 arg4 harg4 arg5 harg5 arg6 harg6 arg7 harg7 arg8 harg8 arg9 harg9 arg10 harg10 arg11 harg11 arg12 harg12 v6 X6 X7 X10 (k0_pay5, k0_pay5) k).1), ?_, off5_eq _,
    fun r j => (scan_bw arg6 arg7 arg10 v6 X6 X7 X10 hx hd ⟨k, hk⟩ _ j (carry_at 𝒱 c bd i arg2 harg2 arg3 harg3 arg4 harg4 arg5 harg5 arg6 harg6 arg7 harg7 arg8 harg8 arg9 harg9 arg10 harg10 arg11 harg11 arg12 harg12 v6 X6 X7 X10 hx hd k (by omega) j).2).1 r⟩
  refine (congrArg (fun s => s.2.2) (st_k0_t2_succ 𝒱 c bd i arg2 harg2 arg3 harg3 arg4 harg4 arg5 harg5 arg6 harg6 arg7 harg7 arg8 harg8 arg9 harg9 arg10 harg10 arg11 harg11 arg12 harg12 v6 X6 X7 X10 (k0_pay5, k0_pay5) ⟨k, hk⟩)).trans ?_
  unfold tripL_k0_t2 trip_k0_t2
  rfl

end Scans

/-- The third loop leaves the two states' sum behind the activation. -/
theorem out_read (G : BufTy.Contents (Elt Ideal) arg9.view.ty) (y : Fin 128 → ℕ → EReal) (f b : Fin 128 → ℕ → EReal)
    (hy : ∀ (t : Fin 4096) (j : Fin 128), (arg3.view.read (Elt Ideal) X3 (ix2 t j) : EReal) = y j t.val)
    (hf : ∀ (t : Fin 4096) (j : Fin 128), (arg11.view.read (Elt Ideal) X11 (ix2 t j) : EReal) = f j t.val)
    (hb : ∀ (t : Fin 4096) (j : Fin 128), (arg12.view.read (Elt Ideal) X12 (ix2 t j) : EReal) = b j t.val) (q : Fin 4096) (j : Fin 128) :
    (arg9.view.read (Elt Ideal) (arg9.view.writes (Elt Ideal) G (pb_k0_t3 𝒱 c bd i arg2 harg2 arg3 harg3 arg4 harg4 arg5 harg5 arg6 harg6 arg7 harg7 arg8 harg8 arg9 harg9 arg10 harg10 arg11 harg11 arg12 harg12 X3 X11 X12 8)) (ix2 q j) : EReal)
      = (f j q.val + b j q.val) * Cert.FfnRows.geluK (y j q.val) := by
  refine filled arg9 G (fun j t => (f j t + b j t) * Cert.FfnRows.geluK (y j t)) (fun k => 512 * k) _ 8 (fun k hk => ?_) q j
    ⟨q.val / 512, by omega, by omega, by omega⟩
  refine ⟨k0_off6 ⟨k, hk⟩, k0_off6_inb ⟨k, hk⟩, k0_pay9 (View.readAt (Elt Ideal) arg3.view (Rect.unit (s := S4096x128) (k0_off6 ⟨k, hk⟩) ![512, 128] (k0_off6_inb ⟨k, hk⟩)).toLoadRect X3)
    (View.readAt (Elt Ideal) arg11.view (Rect.unit (s := S4096x128) (k0_off6 ⟨k, hk⟩) ![512, 128] (k0_off6_inb ⟨k, hk⟩)).toLoadRect X11)
    (View.readAt (Elt Ideal) arg12.view (Rect.unit (s := S4096x128) (k0_off6 ⟨k, hk⟩) ![512, 128] (k0_off6_inb ⟨k, hk⟩)).toLoadRect X12), ?_, off6_eq _, fun r j => ?_⟩
  · refine (pb_k0_t3_succ 𝒱 c bd i arg2 harg2 arg3 harg3 arg4 harg4 arg5 harg5 arg6 harg6 arg7 harg7 arg8 harg8 arg9 harg9 arg10 harg10 arg11 harg11 arg12 harg12 X3 X11 X12 ⟨k, hk⟩).trans ?_
    unfold tripL_k0_t3 trip_k0_t3
    rfl
  · have hr := r.isLt
    have e3 := (readAt_at arg3 X3 _ (k0_off6_inb ⟨k, hk⟩) _ (off6_eq ⟨k, hk⟩) r j ⟨512 * k + r.val, by omega⟩ rfl).trans (hy _ _)
    have e11 := (readAt_at arg11 X11 _ (k0_off6_inb ⟨k, hk⟩) _ (off6_eq ⟨k, hk⟩) r j ⟨512 * k + r.val, by omega⟩ rfl).trans (hf _ _)
    have e12 := (readAt_at arg12 X12 _ (k0_off6_inb ⟨k, hk⟩) _ (off6_eq ⟨k, hk⟩) r j ⟨512 * k + r.val, by omega⟩ rfl).trans (hb _ _)
    pointwise [k0_pay9]
    rw [e3, e11, e12]
    rfl

end Cert.KernelIdeal.Own

end
-- ==== Proof.RgLru.Body.lean ====
/- What one run of the recurrent unit's kernel leaves in its output block, as a function of its seven inputs. -/
module

public import proofs.«01_k».proof.Proof.RgLru.Fill

@[expose] public section

set_option maxRecDepth 16384

noncomputable section

namespace Cert.RgLruRows

open Idealize.ShloMosaic

/-- The softplus of `-l`, as both programs compute it. -/
def soft (l : EReal) : EReal := max (0 - l) 0 + Ideal.log1p (Ideal.exp (0 - max (0 - l) (-(0 - l))))
/-- The factor of the decay's exponent, in powers of two. -/
def factor : EReal := (((-8) * (Real.log 2)⁻¹ : ℝ) : EReal)

theorem coe_max' (x y : ℝ) : ((max x y : ℝ) : EReal) = max (x : EReal) (y : EReal) := EReal.coe_strictMono.monotone.map_max

/-- The softplus is a real number, or infinite where its argument is. -/
theorem soft_cases (l : EReal) : (∃ r : ℝ, 0 ≤ r ∧ soft l = (r : EReal)) ∨ soft l = ⊤ := by
  induction l using EReal.rec with
  | bot =>
    right
    unfold soft
    rw [zero_sub, EReal.neg_bot, max_eq_left (le_top : (0 : EReal) ≤ ⊤), EReal.neg_top, max_eq_left (bot_le : (⊥ : EReal) ≤ ⊤), zero_sub, EReal.neg_top, Ideal.exp_bot]
    unfold Ideal.log1p
    rw [add_zero, show (1 : EReal) = ((1 : ℝ) : EReal) from rfl, Ideal.log_coe]
    simp
  | top =>
    left
    refine ⟨0, le_refl _, ?_⟩
    unfold soft
    rw [zero_sub, EReal.neg_top, max_eq_right (bot_le : (⊥ : EReal) ≤ 0), EReal.neg_bot, max_eq_right (bot_le : (⊥ : EReal) ≤ ⊤), zero_sub, EReal.neg_top, Ideal.exp_bot]
    unfold Ideal.log1p
    rw [add_zero, show (1 : EReal) = ((1 : ℝ) : EReal) from rfl, Ideal.log_coe]
    simp
  | coe x =>
    left
    refine ⟨max (0 - x) 0 + Real.log (1 + Real.exp (0 - max (0 - x) (-(0 - x)))), ?_, ?_⟩
    · have : 0 ≤ Real.log (1 + Real.exp (0 - max (0 - x) (-(0 - x)))) := Real.log_nonneg (by have := Real.exp_pos (0 - max (0 - x) (-(0 - x))); linarith)
      have := le_max_right (0 - x) 0
      linarith
    · unfold soft Ideal.log1p
      have e : (0 : EReal) - max (0 - (x : EReal)) (-(0 - (x : EReal))) = ((0 - max (0 - x) (-(0 - x)) : ℝ) : EReal) := by
        rw [EReal.coe_sub, coe_max', EReal.coe_neg, EReal.coe_sub, EReal.coe_zero]
      rw [e, Ideal.exp_coe, show (1 : EReal) + ((Real.exp (0 - max (0 - x) (-(0 - x))) : ℝ) : EReal) = ((1 + Real.exp (0 - max (0 - x) (-(0 - x))) : ℝ) : EReal) from (EReal.coe_add _ _).symm,
        Ideal.log_coe, if_neg (by have := Real.exp_pos (0 - max (0 - x) (-(0 - x))); linarith)]
      rw [EReal.coe_add, coe_max', EReal.coe_sub, EReal.coe_zero]

theorem soft_nonneg (l : EReal) : 0 ≤ soft l := by
  rcases soft_cases l with ⟨r, h, e⟩ | e <;> rw [e]
  · exact EReal.coe_nonneg.mpr h
  · exact le_top

/-- A gate is a number between zero and one. -/
theorem logistic_range (x : EReal) : ∃ g : ℝ, 0 ≤ g ∧ g ≤ 1 ∧ Ideal.logistic x = (g : EReal) := by
  induction x using EReal.rec with
  | bot => exact ⟨0, le_refl _, zero_le_one, Ideal.logistic_bot⟩
  | top => exact ⟨1, zero_le_one, le_refl _, Ideal.logistic_top⟩
  | coe x =>
    refine ⟨_, ?_, ?_, Ideal.logistic_coe x⟩
    · positivity
    · have := Real.exp_pos (-x)
      first | exact inv_le_one_of_one_le₀ (by linarith) | exact div_le_one_of_le₀ (by linarith) (by linarith)

theorem factor_nonpos : ((-8) * (Real.log 2)⁻¹ : ℝ) < 0 := by
  have : 0 < Real.log 2 := Real.log_pos (by norm_num)
  have := inv_pos.mpr this
  linarith

/-- A decay's exponent: minus a nonnegative number, or minus infinity. -/
theorem exponent_cases (g : ℝ) (hg : 0 ≤ g) (l : EReal) :
    (∃ r : ℝ, 0 ≤ r ∧ soft l = (r : EReal) ∧ (g : EReal) * (factor * soft l) = ((g * (((-8) * (Real.log 2)⁻¹) * r) : ℝ) : EReal))
      ∨ (soft l = ⊤ ∧ (g : EReal) * (factor * soft l) = if g = 0 then 0 else ⊥) := by
  rcases soft_cases l with ⟨r, h, e⟩ | e
  · left
    refine ⟨r, h, e, ?_⟩
    rw [e]; unfold factor
    rw [← EReal.coe_mul, ← EReal.coe_mul]
  · right
    refine ⟨e, ?_⟩
    rw [e]; unfold factor
    rw [EReal.coe_mul_top_of_neg factor_nonpos]
    split
    · next h => rw [h, EReal.coe_zero, zero_mul]
    · next h => exact EReal.coe_mul_bot_of_pos (lt_of_le_of_ne hg (Ne.symm h))

/-- A decay is a number between zero and one. -/
theorem decay2_range (x l : EReal) : ∃ a : ℝ, 0 ≤ a ∧ a ≤ 1 ∧ decay2 (Ideal.logistic x) (factor * soft l) = (a : EReal) := by
  obtain ⟨g, h0, h1, e⟩ := logistic_range x
  unfold decay2
  rw [e]
  rcases exponent_cases g h0 l with ⟨r, hr, -, e⟩ | ⟨-, e⟩ <;> rw [e]
  · refine ⟨_, ?_, ?_, Ideal.exp2_coe _⟩
    · exact Real.rpow_nonneg (by norm_num) _
    · refine Real.rpow_le_one_of_one_le_of_nonpos (by norm_num) ?_
      exact mul_nonpos_of_nonneg_of_nonpos h0 (mul_nonpos_of_nonpos_of_nonneg factor_nonpos.le hr)
  · split
    · exact ⟨1, zero_le_one, le_refl _, by rw [show (0 : EReal) = ((0 : ℝ) : EReal) from rfl, Ideal.exp2_coe]; simp⟩
    · exact ⟨0, le_refl _, zero_le_one, by rw [Ideal.exp2_bot]; rfl⟩

end Cert.RgLruRows

namespace Cert.KernelIdeal.Own

open Cert.KernelIdeal Cert.KernelIdeal.Gen Cert.RgLruRows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

theorem sOf_eq (v6 : Vec Ideal S2x128 .f32) (d : Fin 2) (j : Fin 128) : sOf v6 d j = factor * soft (v6 (ix2 d j)) := by
  unfold sOf
  pointwise [k0_pay3]
  exact congrArg (factor * ·) (if_neg (fun h => h rfl))

theorem aOf_range (xc : ℕ → Fin 128 → EReal) (W : Vec Ideal S1x128x512 .bf16) (B : Vec Ideal S1x1x512 .f32) (v6 : Vec Ideal S2x128 .f32) (d : Fin 2) (j : Fin 128) (t : ℕ) :
    0 ≤ aOf xc W B v6 d j t ∧ aOf xc W B v6 d j t ≤ 1 := by
  show 0 ≤ dec xc _ _ (sOf v6 d) j t ∧ dec xc _ _ (sOf v6 d) j t ≤ 1
  unfold dec gate
  rw [sOf_eq]
  obtain ⟨a, h0, h1, e⟩ := decay2_range _ _
  rw [e]
  exact ⟨EReal.coe_nonneg.mpr h0, by rw [show (1 : EReal) = ((1 : ℝ) : EReal) from rfl]; exact EReal.coe_le_coe_iff.mpr h1⟩

/-- The convolved block: position `t`, column `j`. -/
def xcB (x0 : Vec Ideal S4096x128 .bf16) (x2 : Vec Ideal S4x128 .f32) (x3 : Vec Ideal S1x128 .f32) (t : ℕ) (j : Fin 128) : EReal :=
  conv (x3 (ix2 0 j)) (fun q => x2 (ix2 q j)) (fun t => x0 (ix2 t j)) t

/-- The output block of one grid point. -/
def outB (x0 : Vec Ideal S4096x128 .bf16) (x1 : Vec Ideal S4096x128 .bf16) (x2 : Vec Ideal S4x128 .f32) (x3 : Vec Ideal S1x128 .f32) (x4 : Vec Ideal S1x128x512 .bf16) (x5 : Vec Ideal S1x1x512 .f32) (x6 : Vec Ideal S2x128 .f32) : Vec Ideal S4096x128 .bf16 := fun z =>
  (fwd (aOf (xcB x0 x2 x3) x4 x5 x6 0 (z 1)) (uOf (xcB x0 x2 x3) x4 x5 x6 0 (z 1)) (z 0).val + bwd (aOf (xcB x0 x2 x3) x4 x5 x6 1 (z 1)) (uOf (xcB x0 x2 x3) x4 x5 x6 1 (z 1)) (z 0).val)
    * Cert.FfnRows.geluK (x1 (ix2 (z 0) (z 1)))

theorem whole_read {S : Shape} {e : EltTy} (arg : Memref sig .tc .vmem S e) (harg : arg.IsWhole) (off : Fin S.rank → ℕ) (inb : ∀ a, off a + S.size a ≤ S.size a) (h0 : off = fun _ => 0) (x : Vec Ideal S e) :
    View.readAt (Elt Ideal) arg.view (Rect.unit (s := S) off S.size inb).toLoadRect (harg.unread x) = x := by
  rw [View.readAt_eq_ld, harg.read_unread]
  exact View.ld_unit_zero h0 _ _

variable (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4x128 .f32) (harg4 : arg4.IsWhole) (arg5 : Memref sig .tc .vmem S1x128 .f32) (harg5 : arg5.IsWhole) (arg6 : Memref sig .tc .vmem S1x128x512 .bf16) (harg6 : arg6.IsWhole) (arg7 : Memref sig .tc .vmem S1x1x512 .f32) (harg7 : arg7.IsWhole) (arg8 : Memref sig .tc .vmem S2x128 .f32) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole)

/-- The three loops, one after another, leave that block. -/
theorem body_value (x0 : Vec Ideal S4096x128 .bf16) (x1 : Vec Ideal S4096x128 .bf16) (x2 : Vec Ideal S4x128 .f32) (x3 : Vec Ideal S1x128 .f32) (x4 : Vec Ideal S1x128x512 .bf16) (x5 : Vec Ideal S1x1x512 .f32) (x6 : Vec Ideal S2x128 .f32)
    (v3 : Vec Ideal S4x128 .f32) (v4 : Vec Ideal S1x128 .f32) (v6 : Vec Ideal S2x128 .f32) (e3 : v3 = x2) (e4 : v4 = x3) (e6 : v6 = x6)
    (G9 : BufTy.Contents (Elt Ideal) arg9.view.ty) (G10 : BufTy.Contents (Elt Ideal) arg10.view.ty) (G11 : BufTy.Contents (Elt Ideal) arg11.view.ty) (G12 : BufTy.Contents (Elt Ideal) arg12.view.ty)
    (X10 : BufTy.Contents (Elt Ideal) arg10.view.ty) (X11 : BufTy.Contents (Elt Ideal) arg11.view.ty) (X12 : BufTy.Contents (Elt Ideal) arg12.view.ty)
    (h10 : X10 = arg10.view.writes (Elt Ideal) G10 (pb_k0_t1 Variants.none c none i arg2 harg2 arg3 harg3 arg4 harg4 arg5 harg5 arg6 harg6 arg7 harg7 arg8 harg8 arg9 harg9 arg10 harg10 arg11 harg11 arg12 harg12 v3 v4 (harg2.unread x0) 8))
    (h11 : X11 = arg11.view.writes (Elt Ideal) G11 (st_k0_t2 Variants.none c none i arg2 harg2 arg3 harg3 arg4 harg4 arg5 harg5 arg6 harg6 arg7 harg7 arg8 harg8 arg9 harg9 arg10 harg10 arg11 harg11 arg12 harg12 v6 (harg6.unread x4) (harg7.unread x5) X10 (k0_pay5, k0_pay5) 8).2.1)
    (h12 : X12 = arg12.view.writes (Elt Ideal) G12 (st_k0_t2 Variants.none c none i arg2 harg2 arg3 harg3 arg4 harg4 arg5 harg5 arg6 harg6 arg7 harg7 arg8 harg8 arg9 harg9 arg10 harg10 arg11 harg11 arg12 harg12 v6 (harg6.unread x4) (harg7.unread x5) X10 (k0_pay5, k0_pay5) 8).2.2) :
    arg9.view.read (Elt Ideal) (arg9.view.writes (Elt Ideal) G9 (pb_k0_t3 Variants.none c none i arg2 harg2 arg3 harg3 arg4 harg4 arg5 harg5 arg6 harg6 arg7 harg7 arg8 harg8 arg9 harg9 arg10 harg10 arg11 harg11 arg12 harg12 (harg3.unread x1) X11 X12 8))
      = outB x0 x1 x2 x3 x4 x5 x6 := by
  subst e3 e4 e6
  have hx : ∀ (t : Fin 4096) (j : Fin 128), (arg10.view.read (Elt Ideal) X10 (ix2 t j) : EReal) = xcB x0 v3 v4 t.val j := fun t j => by
    rw [h10]
    refine (conv_read Variants.none c none i arg2 harg2 arg3 harg3 arg4 harg4 arg5 harg5 arg6 harg6 arg7 harg7 arg8 harg8 arg9 harg9 arg10 harg10 arg11 harg11 arg12 harg12 v3 v4 (harg2.unread x0) G10 t j).trans ?_
    rw [harg2.read_unread]; rfl
  have hd := aOf_range (xcB x0 v3 v4) (arg6.view.read (Elt Ideal) (harg6.unread x4)) (arg7.view.read (Elt Ideal) (harg7.unread x5)) v6
  have hf := fun (t : Fin 4096) (j : Fin 128) => (congrArg (fun X => (arg11.view.read (Elt Ideal) X (ix2 t j) : EReal)) h11).trans (fw_read Variants.none c none i arg2 harg2 arg3 harg3 arg4 harg4 arg5 harg5 arg6 harg6 arg7 harg7 arg8 harg8 arg9 harg9 arg10 harg10 arg11 harg11 arg12 harg12 v6 (harg6.unread x4) (harg7.unread x5) X10 hx hd G11 t j)
  have hb := fun (t : Fin 4096) (j : Fin 128) => (congrArg (fun X => (arg12.view.read (Elt Ideal) X (ix2 t j) : EReal)) h12).trans (bw_read Variants.none c none i arg2 harg2 arg3 harg3 arg4 harg4 arg5 harg5 arg6 harg6 arg7 harg7 arg8 harg8 arg9 harg9 arg10 harg10 arg11 harg11 arg12 harg12 v6 (harg6.unread x4) (harg7.unread x5) X10 hx hd G12 t j)
  have ho := fun (t : Fin 4096) (j : Fin 128) => out_read Variants.none c none i arg2 harg2 arg3 harg3 arg4 harg4 arg5 harg5 arg6 harg6 arg7 harg7 arg8 harg8 arg9 harg9 arg10 harg10 arg11 harg11 arg12 harg12 (harg3.unread x1) X11 X12 G9
    (fun j t => if h : t < 4096 then x1 (ix2 ⟨t, h⟩ j) else 0) _ _ (fun t j => by rw [harg3.read_unread, dif_pos t.isLt]) hf hb t j
  simp only [harg6.read_unread, harg7.read_unread] at ho
  funext z
  obtain ⟨t, j, rfl⟩ : ∃ (t : Fin 4096) (j : Fin 128), z = ix2 t j := ⟨z 0, z 1, eq_ix2 z⟩
  refine (ho t j).trans ?_
  rw [dif_pos t.isLt]
  rfl

end Cert.KernelIdeal.Own

end
-- ==== Proof.RgLru.IdealRun.lean ====
/- The body of the recurrent unit's idealized kernel run once through its three loops, on any staging buffers: what it reads stays, and its output block
   is the stated one. -/
module

public import proofs.«01_k».proof.Proof.RgLru.Body

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 1000000 in
/-- The body runs to its end from any contents of its buffers: the seven it only reads are as they were, and the output block is the stated one. -/
theorem body_run (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4x128 .f32) (harg4 : arg4.IsWhole) (arg5 : Memref sig .tc .vmem S1x128 .f32) (harg5 : arg5.IsWhole) (arg6 : Memref sig .tc .vmem S1x128x512 .bf16) (harg6 : arg6.IsWhole) (arg7 : Memref sig .tc .vmem S1x1x512 .f32) (harg7 : arg7.IsWhole) (arg8 : Memref sig .tc .vmem S2x128 .f32) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole)
    (x0 : Vec Ideal S4096x128 .bf16) (x1 : Vec Ideal S4096x128 .bf16) (x2 : Vec Ideal S4x128 .f32) (x3 : Vec Ideal S1x128 .f32) (x4 : Vec Ideal S1x128x512 .bf16) (x5 : Vec Ideal S1x1x512 .f32) (x6 : Vec Ideal S2x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (outB x0 x1 x2 x3 x4 x5 x6) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := Ideal)) Variants.none c none) E (cc0_rglru i arg2 harg2 arg3 harg3 arg4 harg4 arg5 harg5 arg6 harg6 arg7 harg7 arg8 harg8 arg9 harg9 arg10 harg10 arg11 harg11 arg12 harg12) K := by
    intro E K
    simp only [cc0_rglru_eq_skeleton]; unfold cc0_rglru_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      refine body_value c i arg2 harg2 arg3 harg3 arg4 harg4 arg5 harg5 arg6 harg6 arg7 harg7 arg8 harg8 arg9 harg9 arg10 harg10 arg11 harg11 arg12 harg12 x0 x1 x2 x3 x4 x5 x6
        _ _ _ (whole_read arg4 harg4 _ _ (by funext a; fin_cases a <;> rfl) x2) (whole_read arg5 harg5 _ _ (by funext a; fin_cases a <;> rfl) x3) (whole_read arg8 harg8 _ _ (by funext a; fin_cases a <;> rfl) x6)
        f7 fs0 fs1 fs2 _ _ _ rfl rfl rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Own

end
-- ==== Proof.RgLru.IdealFrame.lean ====
/- The frame of the recurrent unit's kernel: it ends, its arguments unchanged and every counter at zero, and its result is the stated blocks. -/
module

public import proofs.«01_k».proof.Proof.RgLru.IdealRun
public import Idealize.ShloMosaic.Lib.Claim

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What the pipeline holds: each input at its block, the output at the stated block, nothing owed. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outB (iblk m c 0 t) (iblk m c 1 t) (iblk m c 2 t) (iblk m c 3 t) (iblk m c 4 t) (iblk m c 5 t) (iblk m c 6 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outB (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any grid point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((body_run c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  iintro ⟨H0, H1, H2, H3, H4, H5, H6, H7, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := Ideal) .tc cfg0.body (cfg0.bodyArgs t (cfg0.slots t)) = bodyAt0 t := by
  unfold defs₀; rw [Defs.onTc_tc]

/-- The body as the pipeline asks for it. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The launch: every run ends, the inputs unchanged and every counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame of the program. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Own

end
-- ==== Proof.RgLru.Frames.lean ====
/- The frames of the recurrent unit's three programs: each runs to the end, leaves its arguments as they were, and leaves
   every semaphore counter at zero. The reference's comes from the generated fold of its operations over the memory. -/
module

public import proofs.«01_k».proof.Defs
public import proofs.«01_k».proof.Proof.RgLru.BitsFrame
public import proofs.«01_k».proof.Proof.RgLru.IdealFrame
public import proofs.«01_k».proof.Proof.Gen.ReferenceIdeal.Run
public import Idealize.ShloMosaic.Lib.Claim

@[expose] public section

noncomputable section

namespace Cert.Proof.RefKeeps

open Cert.ReferenceIdeal Cert.ReferenceIdeal.Gen Cert.ReferenceIdeal.Value
open Idealize.ShloMosaic Idealize.ShloMosaic.TcCoe Idealize.ShloMosaic.StableHlo Idealize.SL.Sem

/-- Every stretch before the loop writes intermediate values only: an argument keeps its contents. -/
theorem pre_keep (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) (h6 : r ∉ hostOps0_6_W) (h7 : r ∉ hostOps0_7_W) (h8 : r ∉ hostOps0_8_W)
    (h9 : r ∉ hostOps0_9_W) (h10 : r ∉ hostOps0_10_W) (V : Valuation τ sig (Elt Ideal)) :
    afterL preI V (Proc.devRef .tc r) = V (Proc.devRef .tc r) := by
  simp only [preI, afterL_cons, afterL_nil]
  rw [after_of_writes_sub _ _ hostOps0_10_writes h10, after_of_writes_sub _ _ hostOps0_9_writes h9,
    after_of_writes_sub _ _ hostOps0_8_writes h8, after_of_writes_sub _ _ hostOps0_7_writes h7,
    after_of_writes_sub _ _ hostOps0_6_writes h6, after_of_writes_sub _ _ hostOps0_5_writes h5,
    after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

/-- One trip of the loop, the condition's operations and then the body's, keeps whatever neither writes. -/
theorem trip_keep (r : Ref sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) (V : Valuation τ sig (Elt Ideal)) :
    afterL bodyI (after condOps V) (Proc.devRef .tc r) = V (Proc.devRef .tc r) := by
  simp only [bodyI, afterL_cons, afterL_nil]
  rw [after_of_writes_sub _ _ while0Ops0_4_writes h4, after_of_writes_sub _ _ while0Ops0_3_writes h3,
    after_of_writes_sub _ _ while0Ops0_2_writes h2, after_of_writes_sub _ _ while0Ops0_1_writes h1,
    after_of_writes_sub _ _ while0Ops0_writes h0, after_of_writes_sub _ _ condOps_writes hc]

theorem atTrip_keep (r : Ref sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) (W : Dev nD → Valuation τ sig (Elt Ideal)) (c : Dev nD) :
    ∀ k, atTrip condOps bodyI W k c (Proc.devRef .tc r) = W c (Proc.devRef .tc r)
  | 0 => rfl
  | k + 1 => by
    rw [atTrip_succ, trip_keep r hc h0 h1 h2 h3 h4]
    exact atTrip_keep r hc h0 h1 h2 h3 h4 W c k

/-- What the stretches after the loop write. -/
theorem post_writes : ∀ ops ∈ (postI : List (List (HloOp τ sig (Elt Ideal)))), ops.Forall fun op => op.writes ⊆
    (([main_v141, main_v142, main_v143, main_v144, main_v145, main_v146, main_v147, main_v148, main_v149, main_v150] : List (Ref sig .tc)).map
      (Proc.devRef (τ := τ) .tc)).toFinset := by
  intro ops h
  have e : (postI : List (List (HloOp τ sig (Elt Ideal)))) = [hostOps0_11, hostOps0_12, hostOps0_13] := rfl
  rw [e] at h
  simp only [List.mem_cons, List.not_mem_nil, or_false] at h
  have key (l : List (Ref sig .tc)) (o : List (HloOp τ sig (Elt Ideal))) (ho : o.Forall fun op => op.writes ⊆ (l.map (Proc.devRef (τ := τ) .tc)).toFinset)
      (l' : List (Ref sig .tc)) (hl : l ⊆ l') : o.Forall fun op => op.writes ⊆ (l'.map (Proc.devRef (τ := τ) .tc)).toFinset := by
    rw [List.forall_iff_forall_mem] at ho ⊢
    intro op hop
    refine (ho op hop).trans fun b hb => ?_
    rw [List.mem_toFinset] at hb ⊢
    exact List.map_subset _ hl hb
  rcases h with rfl | rfl | rfl
  · exact key [main_v141, main_v142, main_v143, main_v144] _ (StableHlo.forall_writes_sub_of_map rfl) _ (by decide)
  · exact key [main_v145] _ (StableHlo.forall_writes_sub_of_map rfl) _ (by decide)
  · exact key [main_v146, main_v147, main_v148, main_v149, main_v150] _ (StableHlo.forall_writes_sub_of_map rfl) _ (by decide)

theorem post_keep (r : Ref sig .tc)
    (h : r ∉ ([main_v141, main_v142, main_v143, main_v144, main_v145, main_v146, main_v147, main_v148, main_v149, main_v150] : List (Ref sig .tc)))
    (V : Valuation τ sig (Elt Ideal)) : afterL postI V (Proc.devRef .tc r) = V (Proc.devRef .tc r) := by
  have hw := post_writes
  simp only [postI, afterL_cons, afterL_nil]
  rw [after_of_writes_sub _ _ (hw _ (by simp [postI])) h, after_of_writes_sub _ _ (hw hostOps0_12 (by simp [postI])) h,
    after_of_writes_sub _ _ (hw hostOps0_11 (by simp [postI])) h]

/-- A reference no operation of the program writes ends as it was launched. -/
theorem final_keep (m : (ℓ : Loc nD τ sig) → Buf (Elt Ideal) ℓ) (c : Dev nD) (r : Ref sig .tc)
    (hr : r ∈ ([main_arg0, main_arg1, main_arg2, main_arg3, main_arg4, main_arg5] : List (Ref sig .tc))) :
    finalContents condOps preI bodyI postI 4096 m c (Proc.devRef .tc r) = m ((c.tc : Thread nD τ).loc r) := by
  simp only [List.mem_cons, List.not_mem_nil, or_false] at hr
  have key (r : Ref sig .tc) (hp : r ∉ ([main_v141, main_v142, main_v143, main_v144, main_v145, main_v146, main_v147, main_v148, main_v149, main_v150] : List (Ref sig .tc)))
      (hc : r ∉ condOps_W) (h0 : r ∉ while0Ops0_W) (h1 : r ∉ while0Ops0_1_W) (h2 : r ∉ while0Ops0_2_W)
      (h3 : r ∉ while0Ops0_3_W) (h4 : r ∉ while0Ops0_4_W)
      (g0 : r ∉ hostOps0_W) (g1 : r ∉ hostOps0_1_W) (g2 : r ∉ hostOps0_2_W) (g3 : r ∉ hostOps0_3_W)
      (g4 : r ∉ hostOps0_4_W) (g5 : r ∉ hostOps0_5_W) (g6 : r ∉ hostOps0_6_W) (g7 : r ∉ hostOps0_7_W) (g8 : r ∉ hostOps0_8_W)
      (g9 : r ∉ hostOps0_9_W) (g10 : r ∉ hostOps0_10_W) :
      finalContents condOps preI bodyI postI 4096 m c (Proc.devRef .tc r) = m ((c.tc : Thread nD τ).loc r) := by
    rw [finalContents, post_keep r hp, after_of_writes_sub _ _ condOps_writes hc, atTrip_keep r hc h0 h1 h2 h3 h4, entryContents,
      pre_keep r g0 g1 g2 g3 g4 g5 g6 g7 g8 g9 g10]
  rcases hr with rfl | rfl | rfl | rfl | rfl | rfl <;>
    exact key _ (by decide) (by decide) (by decide) (by decide) (by decide) (by decide) (by decide) (by decide) (by decide) (by decide)
      (by decide) (by decide) (by decide) (by decide) (by decide) (by decide) (by decide) (by decide)

end Cert.Proof.RefKeeps

namespace Cert.Proof

open Idealize.ShloMosaic Idealize.SL.Sem

theorem frame_kernel : letI := Cert.Kernel.Gen.facts; Cert.quiescent_Kernel := fun m ρ _ => Cert.Kernel.Own.frame m ρ

theorem frame_kernelIdeal : letI := Cert.KernelIdeal.Gen.facts; Cert.quiescent_KernelIdeal := fun m ρ _ => Cert.KernelIdeal.Own.frame m ρ

theorem frame_referenceIdeal : letI := Cert.ReferenceIdeal.Gen.facts; Cert.quiescent_ReferenceIdeal := fun m ρ _ =>
  (θ_run Cert.ReferenceIdeal.defs _ _).mono (fun r h => ⟨fun c =>
      ⟨(h c _ rfl).trans (RefKeeps.final_keep m c _ (by simp)), (h c _ rfl).trans (RefKeeps.final_keep m c _ (by simp)),
       (h c _ rfl).trans (RefKeeps.final_keep m c _ (by simp)), (h c _ rfl).trans (RefKeeps.final_keep m c _ (by simp)),
       (h c _ rfl).trans (RefKeeps.final_keep m c _ (by simp)), (h c _ rfl).trans (RefKeeps.final_keep m c _ (by simp))⟩,
      Idealize.ShloMosaic.sem_eq_zero_of_no_sems (by decide) r.2⟩)
    (Cert.ReferenceIdeal.Value.run_fold (F := Ideal) m ρ)

theorem preserves : Cert.preserves_Kernel_KernelIdeal :=
  ⟨IdealRules.named_const.statement _ _ _ _ _ rfl, IdealRules.named_const.statement _ _ _ _ _ rfl,
   IdealRules.named_const.statement _ _ _ _ _ rfl⟩

end Cert.Proof

end
-- ==== Proof.RgLru.Host.lean ====
/- The arrays the recurrent unit's idealized kernel prepares before its grid. -/
module

public import proofs.«01_k».proof.Proof.RgLru.IdealFrame
public import Idealize.ShloMosaic.Lib.ValueIdx

@[expose] public section

set_option maxRecDepth 16384

noncomputable section

namespace Cert.KernelIdeal.Own

open Cert.KernelIdeal Cert.KernelIdeal.Gen Cert.RgLruRows Idealize.ShloMosaic Idealize.ShloMosaic.TcCoe Idealize.SL.Sem

variable (m : (ℓ : Loc nD τ sig) → Buf (Elt Ideal) ℓ)

theorem ix5_eq {n0 n1 n2 n3 n4 : ℕ} {a a' : Fin n0} {b b' : Fin n1} {c c' : Fin n2} {d d' : Fin n3} {e e' : Fin n4} (ha : a.val = a'.val) (hb : b.val = b'.val)
    (hc : c = c') (hd : d = d') (he : e.val = e'.val) : ix5 a b c d e = ix5 a' b' c' d' e' := by
  obtain rfl := Fin.ext ha; obtain rfl := Fin.ext hb; obtain rfl := Fin.ext he; subst hc hd; rfl

theorem w_at (c : Dev nD) (d g : Fin 2) (h : Fin 4) (i j : Fin 128) :
    (V m c main_v6 : S4x128x512.Idx → EReal) (ix3 h i ⟨256 * d.val + (128 * g.val + j.val), by omega⟩)
      = (m ((c : Thread nD τ).loc main_arg3) : S2x2x4x128x128.Idx → EReal) (ix5 d g h i j) := by
  entry_read; pointwise []
  have hd := d.isLt; have hg := g.isLt; have hj := j.isLt
  exact congrArg (m ((c : Thread nD τ).loc main_arg3) : S2x2x4x128x128.Idx → EReal) (ix5_eq (by dsimp only; omega) (by dsimp only; omega) rfl rfl (by dsimp only; omega))
theorem b_at (c : Dev nD) (d g : Fin 2) (h : Fin 4) (j : Fin 128) :
    (V m c main_v4 : S4x1x512.Idx → EReal) (ix3 h 0 ⟨256 * d.val + (128 * g.val + j.val), by omega⟩)
      = (m ((c : Thread nD τ).loc main_arg4) : S2x2x512.Idx → EReal) (ix3 d g ⟨128 * h.val + j.val, by omega⟩) := by
  entry_read; pointwise []
  exact congrArg (m ((c : Thread nD τ).loc main_arg4) : S2x2x512.Idx → EReal) (congrArg (ix3 d g) (Fin.ext (by dsimp only; omega)))
theorem cb_at (c : Dev nD) (k : Fin 512) :
    (V m c main_v5 : S1x512.Idx → EReal) (ix2 0 k)
      = (m ((c : Thread nD τ).loc main_arg2) : S512.Idx → EReal) (ix1 k) := by
  entry_read; pointwise []; try rfl

end Cert.KernelIdeal.Own

end
-- ==== Proof.RgLru.Whole.lean ====
/- The recurrent unit over whole arrays: what both programs compute, from the six arguments' entries. -/
module

public import proofs.«01_k».proof.Proof.RgLru.Body

@[expose] public section

noncomputable section

namespace Cert.RgLruRows

open Idealize.ShloMosaic

/-- Column `j` of head `h`. -/
def hcol (h : Fin 4) (j : Fin 128) : Fin 512 := ⟨128 * h.val + j.val, by omega⟩
/-- Position `t` of sequence `b`, as a row. -/
def row (b : Fin 16) (t : Fin 4096) : Fin 65536 := ⟨4096 * b.val + t.val, by omega⟩

/-- The arguments' entries: the projected row, the taps and their bias, the gates' weights and biases, the decays' parameter. -/
structure Args where
  X : Fin 65536 → Fin 8704 → EReal
  Cw : Fin 4 → Fin 512 → EReal
  Cb : Fin 512 → EReal
  Gw : Fin 2 → Fin 2 → Fin 4 → Fin 128 → Fin 128 → EReal
  Gb : Fin 2 → Fin 2 → Fin 512 → EReal
  Lam : Fin 2 → Fin 512 → EReal

variable (A : Args)

/-- The convolved sequence `b` at column `k`. -/
def Args.xc (b : Fin 16) (k : Fin 512) (t : ℕ) : EReal :=
  conv (A.Cb k) (fun q => A.Cw q k) (fun t => A.X (row b t) ⟨4096 + k.val, by omega⟩) t
/-- Gate `g` of direction `d`. -/
def Args.gate (d g : Fin 2) (b : Fin 16) (h : Fin 4) (j : Fin 128) (t : ℕ) : EReal :=
  Cert.RgLruRows.gate (fun i => A.xc b (hcol h i) t) (fun i => A.Gw d g h i j) (A.Gb d g (hcol h j))
/-- The decays, as the kernel computes them. -/
def Args.decK (d : Fin 2) (b : Fin 16) (h : Fin 4) (j : Fin 128) (t : ℕ) : EReal :=
  decay2 (A.gate d 0 b h j t) (factor * soft (A.Lam d (hcol h j)))
/-- The inputs, as the kernel computes them. -/
def Args.inpK (d : Fin 2) (b : Fin 16) (h : Fin 4) (j : Fin 128) (t : ℕ) : EReal :=
  input2 (A.decK d b h j t) (A.gate d 1 b h j t) (A.xc b (hcol h j) t)
/-- The second branch before its activation. -/
def Args.y (b : Fin 16) (h : Fin 4) (j : Fin 128) (t : Fin 4096) : EReal := A.X (row b t) ⟨4608 + (hcol h j).val, by omega⟩
/-- The kernel's result. -/
def Args.valK (b : Fin 16) (h : Fin 4) (j : Fin 128) (t : Fin 4096) : EReal :=
  (fwd (A.decK 0 b h j) (A.inpK 0 b h j) t.val + bwd (A.decK 1 b h j) (A.inpK 1 b h j) t.val) * Cert.FfnRows.geluK (A.y b h j t)

end Cert.RgLruRows

end
-- ==== Proof.RgLru.Value.lean ====
/- The recurrent unit's idealized kernel: its result, entry by entry. -/
module

public import proofs.«01_k».proof.Proof.RgLru.Host
public import proofs.«01_k».proof.Proof.RgLru.Whole
public import Idealize.ShloMosaic.Lib.Claim

@[expose] public section

set_option maxRecDepth 16384

noncomputable section

namespace Cert.KernelIdeal.Own

open Cert.KernelIdeal Cert.KernelIdeal.Gen Cert.RgLruRows Idealize.ShloMosaic Idealize.ShloMosaic.TcCoe Idealize.SL.Sem

variable (m : (ℓ : Loc nD τ sig) → Buf (Elt Ideal) ℓ)

/-- The arguments' entries. -/
def args (c : Dev nD) : Args where
  X r k := (m ((c : Thread nD τ).loc main_arg0) : S65536x8704.Idx → EReal) (ix2 r k)
  Cw q k := (m ((c : Thread nD τ).loc main_arg1) : S4x512.Idx → EReal) (ix2 q k)
  Cb k := (m ((c : Thread nD τ).loc main_arg2) : S512.Idx → EReal) (ix1 k)
  Gw d g h i j := (m ((c : Thread nD τ).loc main_arg3) : S2x2x4x128x128.Idx → EReal) (ix5 d g h i j)
  Gb d g k := (m ((c : Thread nD τ).loc main_arg4) : S2x2x512.Idx → EReal) (ix3 d g k)
  Lam d k := (m ((c : Thread nD τ).loc main_arg5) : S2x512.Idx → EReal) (ix2 d k)

theorem lt_N (t : Fin cfg0.N) : t.val < 64 := t.isLt
/-- The sequence of a grid point … -/
def bt (t : Fin cfg0.N) : Fin 16 := ⟨t.val / 4, by have := lt_N t; omega⟩
/-- … and its head. -/
def ht (t : Fin cfg0.N) : Fin 4 := ⟨t.val % 4, by omega⟩

theorem idx0 : ∀ t : Fin cfg0.N, win0_0.index t = ![t.val / 4, 32 + t.val % 4] := (by decide +kernel : ∀ t : Fin grid0.N, _)
theorem idx1 : ∀ t : Fin cfg0.N, win0_1.index t = ![t.val / 4, 36 + t.val % 4] := (by decide +kernel : ∀ t : Fin grid0.N, _)
theorem idx2 : ∀ t : Fin cfg0.N, win0_2.index t = ![0, t.val % 4] := (by decide +kernel : ∀ t : Fin grid0.N, _)
theorem idx3 : ∀ t : Fin cfg0.N, win0_3.index t = ![0, t.val % 4] := (by decide +kernel : ∀ t : Fin grid0.N, _)
theorem idx4 : ∀ t : Fin cfg0.N, win0_4.index t = ![t.val % 4, 0, 0] := (by decide +kernel : ∀ t : Fin grid0.N, _)
theorem idx5 : ∀ t : Fin cfg0.N, win0_5.index t = ![t.val % 4, 0, 0] := (by decide +kernel : ∀ t : Fin grid0.N, _)
theorem idx6 : ∀ t : Fin cfg0.N, win0_6.index t = ![0, t.val % 4] := (by decide +kernel : ∀ t : Fin grid0.N, _)
theorem idx7 : ∀ t : Fin cfg0.N, win0_7.index t = ![t.val / 4, t.val % 4] := (by decide +kernel : ∀ t : Fin grid0.N, _)

theorem ix2_eq {n0 n1 : ℕ} {a a' : Fin n0} {b b' : Fin n1} (ha : a.val = a'.val) (hb : b.val = b'.val) : ix2 a b = ix2 a' b' := by
  obtain rfl := Fin.ext ha; obtain rfl := Fin.ext hb; rfl

theorem blk0 (c : Dev nD) (t : Fin cfg0.N) (r : Fin 4096) (j : Fin 128) :
    (iblk m c 0 t : S4096x128.Idx → EReal) (ix2 r j) = (args m c).X (row (bt t) r) ⟨4096 + (hcol (ht t) j).val, by omega⟩ := by
  refine Eq.trans ?_ (congrArg (m ((c : Thread nD τ).loc main_arg0) : S65536x8704.Idx → EReal)
    (ix2_eq (a := ⟨t.val / 4 * 4096 + r.val, by have := lt_N t; omega⟩) (b := ⟨(32 + t.val % 4) * 128 + j.val, by omega⟩) ?_ ?_))
  · blk_ext! [iblk, V_main_arg0, idx0 t]
  · simp only [row, bt]; omega
  · simp only [hcol, ht]; omega
theorem blk1 (c : Dev nD) (t : Fin cfg0.N) (r : Fin 4096) (j : Fin 128) :
    (iblk m c 1 t : S4096x128.Idx → EReal) (ix2 r j) = (args m c).y (bt t) (ht t) j r := by
  refine Eq.trans ?_ (congrArg (m ((c : Thread nD τ).loc main_arg0) : S65536x8704.Idx → EReal)
    (ix2_eq (a := ⟨t.val / 4 * 4096 + r.val, by have := lt_N t; omega⟩) (b := ⟨(36 + t.val % 4) * 128 + j.val, by omega⟩) ?_ ?_))
  · blk_ext! [iblk, V_main_arg0, idx1 t]
  · simp only [row, bt]; omega
  · simp only [hcol, ht]; omega
theorem blk2 (c : Dev nD) (t : Fin cfg0.N) (q : Fin 4) (j : Fin 128) :
    (iblk m c 2 t : S4x128.Idx → EReal) (ix2 q j) = (args m c).Cw q (hcol (ht t) j) := by
  refine Eq.trans ?_ (congrArg (m ((c : Thread nD τ).loc main_arg1) : S4x512.Idx → EReal)
    (ix2_eq (a := q) (b := ⟨t.val % 4 * 128 + j.val, by omega⟩) ?_ ?_))
  · blk_ext! [iblk, V_main_arg1, idx2 t]
  · rfl
  · simp only [hcol, ht]; omega
theorem blk3 (c : Dev nD) (t : Fin cfg0.N) (j : Fin 128) :
    (iblk m c 3 t : S1x128.Idx → EReal) (ix2 0 j) = (args m c).Cb (hcol (ht t) j) := by
  refine Eq.trans ?_ (cb_at m c _)
  refine Eq.trans ?_ (congrArg (V m c main_v5 : S1x512.Idx → EReal) (ix2_eq (a := 0) (b := ⟨t.val % 4 * 128 + j.val, by omega⟩) rfl ?_))
  · show V m c main_v5 _ = V m c main_v5 _
    blk_ext [idx3 t]
  · simp only [hcol, ht]; omega
theorem blk4 (c : Dev nD) (t : Fin cfg0.N) (d g : Fin 2) (i j : Fin 128) :
    (iblk m c 4 t : S1x128x512.Idx → EReal) (ix3 0 i ⟨256 * d.val + (128 * g.val + j.val), by omega⟩) = (args m c).Gw d g (ht t) i j := by
  refine Eq.trans ?_ (w_at m c d g (ht t) i j)
  show V m c main_v6 _ = V m c main_v6 _
  blk_ext [idx4 t, ht]
theorem blk5 (c : Dev nD) (t : Fin cfg0.N) (d g : Fin 2) (j : Fin 128) :
    (iblk m c 5 t : S1x1x512.Idx → EReal) (ix3 0 0 ⟨256 * d.val + (128 * g.val + j.val), by omega⟩) = (args m c).Gb d g (hcol (ht t) j) := by
  refine Eq.trans ?_ (b_at m c d g (ht t) j)
  show V m c main_v4 _ = V m c main_v4 _
  blk_ext [idx5 t, ht]
theorem blk6 (c : Dev nD) (t : Fin cfg0.N) (d : Fin 2) (j : Fin 128) :
    (iblk m c 6 t : S2x128.Idx → EReal) (ix2 d j) = (args m c).Lam d (hcol (ht t) j) := by
  refine Eq.trans ?_ (congrArg (m ((c : Thread nD τ).loc main_arg5) : S2x512.Idx → EReal)
    (ix2_eq (a := d) (b := ⟨t.val % 4 * 128 + j.val, by omega⟩) ?_ ?_))
  · blk_ext! [iblk, V_main_arg5, idx6 t]
  · rfl
  · simp only [hcol, ht]; omega

theorem xcB_eq (c : Dev nD) (t : Fin cfg0.N) (n : ℕ) (j : Fin 128) :
    xcB (iblk m c 0 t) (iblk m c 2 t) (iblk m c 3 t) n j = (args m c).xc (bt t) (hcol (ht t) j) n := by
  unfold xcB Args.xc conv padded
  simp only [blk0, blk2, blk3]

theorem gate_eq (c : Dev nD) (t : Fin cfg0.N) (d g : Fin 2) (n : ℕ) (j : Fin 128) :
    Cert.RgLruRows.gate (xcB (iblk m c 0 t) (iblk m c 2 t) (iblk m c 3 t) n)
      (fun i => (iblk m c 4 t : S1x128x512.Idx → EReal) (ix3 0 i ⟨256 * d.val + (128 * g.val + j.val), by omega⟩))
      ((iblk m c 5 t : S1x1x512.Idx → EReal) (ix3 0 0 ⟨256 * d.val + (128 * g.val + j.val), by omega⟩)) = (args m c).gate d g (bt t) (ht t) j n := by
  unfold Args.gate
  refine congr (congr (congrArg Cert.RgLruRows.gate (funext fun i => xcB_eq m c t n i)) (funext fun i => blk4 m c t d g i j)) (blk5 m c t d g j)

theorem aOf_eq (c : Dev nD) (t : Fin cfg0.N) (d : Fin 2) (j : Fin 128) :
    aOf (xcB (iblk m c 0 t) (iblk m c 2 t) (iblk m c 3 t)) (iblk m c 4 t) (iblk m c 5 t) (iblk m c 6 t) d j = (args m c).decK d (bt t) (ht t) j := by
  funext n
  show decay2 (Cert.RgLruRows.gate _ _ _) _ = decay2 ((args m c).gate d 0 (bt t) (ht t) j n) _
  refine congr (congrArg decay2 ?_) ((sOf_eq _ d j).trans (congrArg (fun l => factor * soft l) (blk6 m c t d j)))
  refine Eq.trans ?_ (gate_eq m c t d 0 n j)
  refine congr (congrArg _ (funext fun i => ?_)) ?_
  · exact congrArg (iblk m c 4 t : S1x128x512.Idx → EReal) (congrArg (ix3 0 i) (Fin.ext (by simp)))
  · exact congrArg (iblk m c 5 t : S1x1x512.Idx → EReal) (congrArg (ix3 0 0) (Fin.ext (by simp)))

theorem uOf_eq (c : Dev nD) (t : Fin cfg0.N) (d : Fin 2) (j : Fin 128) :
    uOf (xcB (iblk m c 0 t) (iblk m c 2 t) (iblk m c 3 t)) (iblk m c 4 t) (iblk m c 5 t) (iblk m c 6 t) d j = (args m c).inpK d (bt t) (ht t) j := by
  funext n
  show input2 (aOf _ _ _ _ d j n) (Cert.RgLruRows.gate _ _ _) _ = input2 _ ((args m c).gate d 1 (bt t) (ht t) j n) _
  refine congr (congr (congrArg input2 (congrFun (aOf_eq m c t d j) n)) ?_) (xcB_eq m c t n j)
  refine Eq.trans ?_ (gate_eq m c t d 1 n j)
  refine congr (congrArg _ (funext fun i => ?_)) ?_
  · exact congrArg (iblk m c 4 t : S1x128x512.Idx → EReal) (congrArg (ix3 0 i) (Fin.ext (by simp)))
  · exact congrArg (iblk m c 5 t : S1x1x512.Idx → EReal) (congrArg (ix3 0 0) (Fin.ext (by simp)))

/-- What grid point `t` writes. -/
theorem point (c : Dev nD) (t : Fin cfg0.N) (r : Fin 4096) (j : Fin 128) :
    (dats m 0 c).after 7 t (ix2 r j) = (args m c).valK (bt t) (ht t) j r := by
  rw [after0_7]
  unfold Args.valK
  rw [← aOf_eq, ← aOf_eq, ← uOf_eq, ← uOf_eq, ← blk1]
  rfl

/-- The result, entry by entry. -/
def G (c : Dev nD) : S65536x512.Idx → EReal := fun i => (args m c).valK ⟨(i 0).val / 4096, by have := (i 0).isLt; show _ < 16; have : (i 0).val < 65536 := (i 0).isLt; omega⟩
  ⟨(i 1).val / 128, by have : (i 1).val < 512 := (i 1).isLt; omega⟩ ⟨(i 1).val % 128, by omega⟩ ⟨(i 0).val % 4096, by omega⟩

theorem G_of (c : Dev nD) (i : S65536x512.Idx) (b : Fin 16) (h : Fin 4) (j : Fin 128) (r : Fin 4096) (h0 : (i 0).val = b.val * 4096 + r.val) (h1 : (i 1).val = h.val * 128 + j.val) :
    (args m c).valK b h j r = G m c i := by
  have e0 : b = ⟨(i 0).val / 4096, by omega⟩ := Fin.ext (by dsimp only; omega)
  have e1 : h = ⟨(i 1).val / 128, by omega⟩ := Fin.ext (by dsimp only; omega)
  have e2 : j = ⟨(i 1).val % 128, by omega⟩ := Fin.ext (by dsimp only; omega)
  have e3 : r = ⟨(i 0).val % 4096, by omega⟩ := Fin.ext (by dsimp only; omega)
  unfold G
  rw [← e0, ← e1, ← e2, ← e3]

theorem final (c : Dev nD) : (dats m 0 c).arrAt 7 cfg0.N = G m c := by
  refine (dats m 0 c).arrAt_eq_of_covers 7 _ (by decide +kernel) fun t hf y => ?_
  blk_simp
  have ey : y = ix2 (y 0) (y 1) := funext fun a => by fin_cases a <;> rfl
  refine (congrArg ((dats m 0 c).after 7 t) ey).trans ((point m c t (y 0) (y 1)).trans (G_of m c _ _ _ _ _ ?_ ?_)) <;> blk_simp [idx7 t] <;> simp [bt, ht]

/-- The kernel's run: its result, and its arguments kept. -/
theorem run_value (ρ : Dev nD → PrngReg) :
    θ_run defs (onTc (τ := τ) (main (F := Ideal))) ⟨m, fun _ => 0, ρ⟩ fun r => ∀ c : Dev nD,
      r.2.mem ((c : Thread nD τ).loc main_v7) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h.1 c).1 7).trans (final m c), h.2 c⟩) (θ_run_and (run_main m ρ) (unchanged m ρ))

end Cert.KernelIdeal.Own

end
-- ==== Proof.RgLru.Equal.lean ====
/- The recurrent unit as the reference computes it, and that it is the kernel's wherever every decay leaves the root's floor unused. -/
module

public import proofs.«01_k».proof.Proof.RgLru.Whole

@[expose] public section

noncomputable section

namespace Cert.RgLruRows

open Idealize.ShloMosaic

/-- The decay's natural exponent. -/
def exponent (g l : EReal) : EReal := (Ideal.ofBits FTy.f32 3238002688#32 * g) * soft l
/-- One minus the decay's square, through the exponent. -/
def gap (g l : EReal) : EReal := -(Ideal.exp (Ideal.ofBits FTy.f32 1073741824#32 * exponent g l) - 1)

theorem lit_eight : Ideal.ofBits FTy.f32 3238002688#32 = ((-8 : ℝ) : EReal) := by
  simp [Ideal.ofBits, Ideal.ieee]
  rw [← EReal.coe_mul]; norm_num
theorem lit_two : Ideal.ofBits FTy.f32 1073741824#32 = ((2 : ℝ) : EReal) := by
  simp [Ideal.ofBits, Ideal.ieee]
  rw [← EReal.coe_mul]; norm_num
theorem floor_pos : ∃ f : ℝ, 0 < f ∧ floor = (f : EReal) := by
  unfold floor
  simp only [Ideal.ofBits, Ideal.ieee]
  simp
  rw [← EReal.coe_mul]
  exact ⟨_, by positivity, rfl⟩

theorem exp_zero' : Ideal.exp 0 = 1 := by
  rw [← EReal.coe_zero, Ideal.exp_coe, Real.exp_zero, EReal.coe_one]

/-- Both forms of the decay are one number, and so are both forms of one minus its square. -/
theorem decay_forms (x l : EReal) : ∃ a : ℝ, decay2 (Ideal.logistic x) (factor * soft l) = (a : EReal)
    ∧ Ideal.exp (exponent (Ideal.logistic x) l) = (a : EReal) ∧ gap (Ideal.logistic x) l = ((1 - a * a : ℝ) : EReal) := by
  obtain ⟨g, h0, h1, e⟩ := logistic_range x
  unfold gap decay2 exponent
  rw [e, lit_eight, lit_two]
  have hl : Real.log 2 ≠ 0 := (Real.log_pos (by norm_num)).ne'
  rcases exponent_cases g h0 l with ⟨r, hr, es, ef⟩ | ⟨es, ef⟩ <;> rw [es] at ef ⊢ <;> rw [ef]
  · refine ⟨Real.exp (-8 * g * r), ?_, ?_, ?_⟩
    · rw [Ideal.exp2_coe]
      refine congrArg _ ?_
      show (2 : ℝ) ^ (g * (-8 * (Real.log 2)⁻¹ * r)) = Real.exp (-8 * g * r)
      rw [Real.rpow_def_of_pos (by norm_num)]
      refine congrArg Real.exp ?_
      field_simp
    · rw [← EReal.coe_mul, ← EReal.coe_mul, Ideal.exp_coe]
    · rw [← EReal.coe_mul, ← EReal.coe_mul, ← EReal.coe_mul, Ideal.exp_coe, ← EReal.coe_one, ← EReal.coe_sub, ← EReal.coe_neg, ← Real.exp_add]
      refine congrArg _ ?_
      rw [show 2 * (-8 * g * r) = -8 * g * r + -8 * g * r by ring]
      ring
  · by_cases hg : g = 0
    · rw [if_pos hg, hg, EReal.coe_zero, mul_zero, zero_mul, mul_zero, exp_zero']
      refine ⟨1, ?_, rfl, ?_⟩
      · rw [← EReal.coe_zero, Ideal.exp2_coe]; simp
      · rw [← EReal.coe_one, ← EReal.coe_sub, ← EReal.coe_neg]; norm_num
    · have hp : 0 < g := lt_of_le_of_ne h0 (Ne.symm hg)
      rw [if_neg hg, ← EReal.coe_mul, EReal.coe_mul_top_of_neg (by linarith), EReal.coe_mul_bot_of_pos (by norm_num), Ideal.exp_bot, Ideal.exp2_bot]
      refine ⟨0, by simp, by simp, by simp⟩

/-- The root over its floor is the root, for a number that is not below the floor. -/
theorem root_floor (om : ℝ) (h : floor ≤ (om : EReal)) : (om : EReal) * Ideal.rsqrt (max (om : EReal) floor) = Ideal.sqrt (om : EReal) := by
  obtain ⟨f, hf, e⟩ := floor_pos
  rw [max_eq_left h]
  have hom : 0 < om := lt_of_lt_of_le hf (EReal.coe_le_coe_iff.mp (e ▸ h))
  rw [Ideal.rsqrt_coe, Ideal.sqrt_coe, if_neg hom.not_gt, if_neg hom.ne', if_neg hom.not_gt, ← EReal.coe_mul, ← div_eq_mul_inv, Real.div_sqrt]

variable (A : Args)

/-- The decays, as the reference computes them. -/
def Args.decR (d : Fin 2) (b : Fin 16) (h : Fin 4) (j : Fin 128) (t : ℕ) : EReal := Ideal.exp (exponent (A.gate d 0 b h j t) (A.Lam d (hcol h j)))
/-- The inputs, as the reference computes them. -/
def Args.inpR (d : Fin 2) (b : Fin 16) (h : Fin 4) (j : Fin 128) (t : ℕ) : EReal :=
  Ideal.sqrt (gap (A.gate d 0 b h j t) (A.Lam d (hcol h j))) * (A.gate d 1 b h j t * A.xc b (hcol h j) t)

/-- No decay comes so close to one that the floor under the root matters. -/
def Args.Decays : Prop := ∀ (d : Fin 2) (b : Fin 16) (h : Fin 4) (j : Fin 128) (t : Fin 4096), floor ≤ gap (A.gate d 0 b h j t.val) (A.Lam d (hcol h j))

theorem Args.dec_eq (d : Fin 2) (b : Fin 16) (h : Fin 4) (j : Fin 128) (t : ℕ) : A.decK d b h j t = A.decR d b h j t := by
  obtain ⟨a, h1, h2, -⟩ := decay_forms (∑ i, A.xc b (hcol h i) t * A.Gw d 0 h i j + A.Gb d 0 (hcol h j)) (A.Lam d (hcol h j))
  exact h1.trans h2.symm

theorem Args.inp_eq (H : A.Decays) (d : Fin 2) (b : Fin 16) (h : Fin 4) (j : Fin 128) (t : Fin 4096) : A.inpK d b h j t.val = A.inpR d b h j t.val := by
  obtain ⟨a, h1, -, h3⟩ := decay_forms (∑ i, A.xc b (hcol h i) t.val * A.Gw d 0 h i j + A.Gb d 0 (hcol h j)) (A.Lam d (hcol h j))
  have hd : A.decK d b h j t.val = (a : EReal) := h1
  have hg : gap (A.gate d 0 b h j t.val) (A.Lam d (hcol h j)) = ((1 - a * a : ℝ) : EReal) := h3
  have hf := H d b h j t
  unfold Args.inpK Args.inpR input2
  rw [hd, hg]
  rw [hg] at hf
  refine congrArg (· * _) ?_
  rw [← root_floor _ hf, EReal.coe_sub, EReal.coe_mul, EReal.coe_one]

/-- The reference's result. -/
def Args.valR (b : Fin 16) (h : Fin 4) (j : Fin 128) (t : Fin 4096) : EReal :=
  (fwd (A.decR 0 b h j) (A.inpR 0 b h j) t.val + bwd (A.decR 1 b h j) (A.inpR 1 b h j) t.val) * Cert.FfnRows.geluR (A.y b h j t)

theorem Args.val_eq (H : A.Decays) (b : Fin 16) (h : Fin 4) (j : Fin 128) (t : Fin 4096) : A.valK b h j t = A.valR b h j t := by
  unfold Args.valK Args.valR fwd bwd
  rw [Cert.FfnRows.gelu_eq]
  refine congrArg (· * _) (congrArg₂ (· + ·) (run_congr _ (fun n _ _ => A.dec_eq 0 b h j n) (fun n _ hn => A.inp_eq H 0 b h j ⟨n, by omega⟩)) ?_)
  exact run_congr _ (fun n _ _ => A.dec_eq 1 b h j _) (fun n _ _ => A.inp_eq H 1 b h j ⟨4095 - n, by omega⟩)

end Cert.RgLruRows

end
-- ==== Proof.RgLru.RefHost.lean ====
/- The reference's values before its loop: the convolved rows, the gates, and both directions' decays and inputs. -/
module

public import proofs.«01_k».proof.Proof.RgLru.Frames
public import proofs.«01_k».proof.Proof.RgLru.Equal
public import proofs.«01_k».proof.Proof.Ffn.Ref
public import Idealize.ShloMosaic.Lib.Pointwise
public import Idealize.ShloMosaic.Lib.Claim

@[expose] public section

set_option maxRecDepth 16384

noncomputable section

namespace Cert.RgLruRows

/-- The head and the lane of a column. -/
def hd (k : Fin 512) : Fin 4 := ⟨k.val / 128, by omega⟩
def ln (k : Fin 512) : Fin 128 := ⟨k.val % 128, by omega⟩

theorem hcol_hd_ln (k : Fin 512) : hcol (hd k) (ln k) = k := Fin.ext (by unfold hcol hd ln; simp only []; omega)

end Cert.RgLruRows

namespace Cert.ReferenceIdeal.Result

open Cert.ReferenceIdeal Cert.ReferenceIdeal.Gen Cert.ReferenceIdeal.Value Cert.RgLruRows Idealize.ShloMosaic Idealize.ShloMosaic.TcCoe Idealize.SL.Sem Idealize.ShloMosaic.StableHlo

variable (V : Valuation τ sig (Elt Ideal))

/-- The arguments' entries in a memory. -/
def argsV : Args where
  X r n := (V (Proc.devRef .tc main_arg0) : S65536x8704.Idx → EReal) (ix2 r n)
  Cw q k := (V (Proc.devRef .tc main_arg1) : S4x512.Idx → EReal) (ix2 q k)
  Cb k := (V (Proc.devRef .tc main_arg2) : S512.Idx → EReal) (ix1 k)
  Gw d g h i j := (V (Proc.devRef .tc main_arg3) : S2x2x4x128x128.Idx → EReal) (ix5 d g h i j)
  Gb d g k := (V (Proc.devRef .tc main_arg4) : S2x2x512.Idx → EReal) (ix3 d g k)
  Lam d k := (V (Proc.devRef .tc main_arg5) : S2x512.Idx → EReal) (ix2 d k)

/-! A column's decay, input and second branch, through the column itself. -/
theorem decR_col (A : Args) (d : Fin 2) (b : Fin 16) (k : Fin 512) (t : ℕ) : A.decR d b (hd k) (ln k) t = Ideal.exp (exponent (A.gate d 0 b (hd k) (ln k) t) (A.Lam d k)) := by
  unfold Args.decR; rw [hcol_hd_ln]
theorem inpR_col (A : Args) (d : Fin 2) (b : Fin 16) (k : Fin 512) (t : ℕ) :
    A.inpR d b (hd k) (ln k) t = Ideal.sqrt (gap (A.gate d 0 b (hd k) (ln k) t) (A.Lam d k)) * (A.gate d 1 b (hd k) (ln k) t * A.xc b k t) := by
  unfold Args.inpR; rw [hcol_hd_ln]

/-! The memory after each stretch. -/
def W0 : Valuation τ sig (Elt Ideal) := after hostOps0_1 (after hostOps0 V)
def W2 : Valuation τ sig (Elt Ideal) := after hostOps0_2 (W0 V)
def W3 : Valuation τ sig (Elt Ideal) := after hostOps0_3 (W2 V)
def W4 : Valuation τ sig (Elt Ideal) := after hostOps0_4 (W3 V)
def W5 : Valuation τ sig (Elt Ideal) := after hostOps0_5 (W4 V)
def W6 : Valuation τ sig (Elt Ideal) := after hostOps0_6 (W5 V)
def W7 : Valuation τ sig (Elt Ideal) := after hostOps0_7 (W6 V)
def W8 : Valuation τ sig (Elt Ideal) := after hostOps0_8 (W7 V)
def W9 : Valuation τ sig (Elt Ideal) := after hostOps0_9 (W8 V)
def W10 : Valuation τ sig (Elt Ideal) := after hostOps0_10 (W9 V)

/-! What no stretch writes is what it was. -/
theorem keep0 (r : Ref sig .tc) (h0 : r ∉ hostOps0_W) (h1 : r ∉ hostOps0_1_W) : W0 V (Proc.devRef .tc r) = V (Proc.devRef .tc r) :=
  (after_of_writes_sub _ _ hostOps0_1_writes h1).trans (after_of_writes_sub _ _ hostOps0_writes h0)
theorem keep2 (r : Ref sig .tc) (h : r ∉ hostOps0_2_W) : W2 V (Proc.devRef .tc r) = W0 V (Proc.devRef .tc r) := after_of_writes_sub _ _ hostOps0_2_writes h
theorem keep3 (r : Ref sig .tc) (h : r ∉ hostOps0_3_W) : W3 V (Proc.devRef .tc r) = W2 V (Proc.devRef .tc r) := after_of_writes_sub _ _ hostOps0_3_writes h
theorem keep4 (r : Ref sig .tc) (h : r ∉ hostOps0_4_W) : W4 V (Proc.devRef .tc r) = W3 V (Proc.devRef .tc r) := after_of_writes_sub _ _ hostOps0_4_writes h
theorem keep5 (r : Ref sig .tc) (h : r ∉ hostOps0_5_W) : W5 V (Proc.devRef .tc r) = W4 V (Proc.devRef .tc r) := after_of_writes_sub _ _ hostOps0_5_writes h
theorem keep6 (r : Ref sig .tc) (h : r ∉ hostOps0_6_W) : W6 V (Proc.devRef .tc r) = W5 V (Proc.devRef .tc r) := after_of_writes_sub _ _ hostOps0_6_writes h
theorem keep7 (r : Ref sig .tc) (h : r ∉ hostOps0_7_W) : W7 V (Proc.devRef .tc r) = W6 V (Proc.devRef .tc r) := after_of_writes_sub _ _ hostOps0_7_writes h
theorem keep8 (r : Ref sig .tc) (h : r ∉ hostOps0_8_W) : W8 V (Proc.devRef .tc r) = W7 V (Proc.devRef .tc r) := after_of_writes_sub _ _ hostOps0_8_writes h
theorem keep9 (r : Ref sig .tc) (h : r ∉ hostOps0_9_W) : W9 V (Proc.devRef .tc r) = W8 V (Proc.devRef .tc r) := after_of_writes_sub _ _ hostOps0_9_writes h
theorem keep10 (r : Ref sig .tc) (h : r ∉ hostOps0_10_W) : W10 V (Proc.devRef .tc r) = W9 V (Proc.devRef .tc r) := after_of_writes_sub _ _ hostOps0_10_writes h

theorem args_keep0 : argsV (W0 V) = argsV V := by
  unfold argsV
  rw [keep0 V main_arg0 (by decide) (by decide), keep0 V main_arg1 (by decide) (by decide), keep0 V main_arg2 (by decide) (by decide),
    keep0 V main_arg3 (by decide) (by decide), keep0 V main_arg4 (by decide) (by decide), keep0 V main_arg5 (by decide) (by decide)]
theorem args_keep3 : argsV (W3 V) = argsV V := by
  rw [← args_keep0 V]
  unfold argsV
  rw [keep3 V main_arg0 (by decide), keep3 V main_arg1 (by decide), keep3 V main_arg2 (by decide), keep3 V main_arg3 (by decide), keep3 V main_arg4 (by decide), keep3 V main_arg5 (by decide),
    keep2 V main_arg0 (by decide), keep2 V main_arg1 (by decide), keep2 V main_arg2 (by decide), keep2 V main_arg3 (by decide), keep2 V main_arg4 (by decide), keep2 V main_arg5 (by decide)]

/-- The padded rows. -/
theorem v3_at (b : Fin 16) (n : Fin 4099) (k : Fin 512) :
    (W0 V (Proc.devRef .tc main_v3) : S16x4099x512.Idx → EReal) (ix3 b n k) = padded (fun t => (argsV V).X (row b t) ⟨4096 + k.val, by omega⟩) n.val := by
  unfold W0
  after_results
  pointwise [TRef.toBuf, TRef.ofBuf, cast_eq]
  by_cases h : 1 ≤ n.val ∧ n.val ≤ 4096
  · refine (dif_pos (by omega)).trans (Eq.trans ?_ (padded_in _ n.val ⟨n.val - 1, by omega⟩ (by simp only []; omega)).symm)
    exact congrArg (fun r => (V (Proc.devRef .tc main_arg0) : S65536x8704.Idx → EReal) (ix2 r _)) (Fin.ext (by unfold row; simp only []; omega))
  · exact (dif_neg (by omega)).trans (Cert.FfnReferenceIdeal.Result.pad_zero.trans (padded_out _ n.val (by omega)).symm)

/-- A convolution over the padded rows. -/
theorem conv_read (b : Fin 16) (t : Fin 4096) (k : Fin 512) (n0 n1 n2 n3 : Fin 4099) (h0 : n0.val = t.val) (h1 : n1.val = 1 + t.val) (h2 : n2.val = 2 + t.val) (h3 : n3.val = 3 + t.val) :
    (argsV (W0 V)).Cb k + (argsV (W0 V)).Cw 0 k * (W0 V (Proc.devRef .tc main_v3) : S16x4099x512.Idx → EReal) (ix3 b n0 k)
      + (argsV (W0 V)).Cw 1 k * (W0 V (Proc.devRef .tc main_v3) : S16x4099x512.Idx → EReal) (ix3 b n1 k)
      + (argsV (W0 V)).Cw 2 k * (W0 V (Proc.devRef .tc main_v3) : S16x4099x512.Idx → EReal) (ix3 b n2 k)
      + (argsV (W0 V)).Cw 3 k * (W0 V (Proc.devRef .tc main_v3) : S16x4099x512.Idx → EReal) (ix3 b n3 k) = (argsV V).xc b k t.val := by
  rw [v3_at, v3_at, v3_at, v3_at, h0, h1, h2, h3, args_keep0, Nat.add_comm 1, Nat.add_comm 2, Nat.add_comm 3]
  rfl

set_option maxHeartbeats 2000000 in
theorem v33_at (b : Fin 16) (t : Fin 4096) (k : Fin 512) :
    (W2 V (Proc.devRef .tc main_v33) : S16x4096x512.Idx → EReal) (ix3 b t k) = (argsV V).xc b k t.val := by
  refine Eq.trans ?_ (conv_read V b t k ⟨t.val, by omega⟩ ⟨1 + t.val, by omega⟩ ⟨2 + t.val, by omega⟩ ⟨3 + t.val, by omega⟩ rfl rfl rfl rfl)
  unfold W2
  after_results
  pointwise []
  rfl

/-- The activated second branch. -/
theorem v49_at (b : Fin 16) (t : Fin 4096) (k : Fin 512) :
    (W2 V (Proc.devRef .tc main_v49) : S16x4096x512.Idx → EReal) (ix3 b t k) = Cert.FfnRows.geluR ((argsV V).y b (hd k) (ln k) t) := by
  rw [← args_keep0 V]
  unfold W2
  after_results
  pointwise []
  rw [Cert.FfnReferenceIdeal.Result.lit_half, Cert.FfnReferenceIdeal.Result.lit_a, Cert.FfnReferenceIdeal.Result.lit_b]
  have e : (argsV (W0 V)).y b (hd k) (ln k) t = (W0 V (Proc.devRef .tc main_arg0) : S65536x8704.Idx → EReal) (ix2 ⟨b.val * 4096 + t.val, by omega⟩ ⟨4608 + k.val, by omega⟩) := by
    unfold Args.y argsV
    exact congrArg₂ (fun r q => (W0 V (Proc.devRef .tc main_arg0) : S65536x8704.Idx → EReal) (ix2 r q)) (Fin.ext (by unfold row; simp only []; omega))
      (Fin.ext (congrArg (fun z : Fin 512 => 4608 + z.val) (hcol_hd_ln k)))
  rw [e]
  rfl

/-- A gate from the sum over its head's columns. -/
theorem gate_read (d g : Fin 2) (b : Fin 16) (t : Fin 4096) (k : Fin 512) (w x : Fin 128 → EReal) (c : EReal)
    (hw : ∀ i, w i = (argsV V).Gw d g (hd k) i (ln k)) (hx : ∀ i : Fin 128, x i = (argsV V).xc b ⟨k.val / 128 * 128 + i.val, by omega⟩ t.val) (hc : c = (argsV V).Gb d g k) :
    Ideal.div 1 (1 + Ideal.exp (-(∑ i, w i * x i + c))) = (argsV V).gate d g b (hd k) (ln k) t.val := by
  show _ = Ideal.div 1 (1 + Ideal.exp (-(∑ i, (argsV V).xc b (hcol (hd k) i) t.val * (argsV V).Gw d g (hd k) i (ln k) + (argsV V).Gb d g (hcol (hd k) (ln k)))))
  rw [hcol_hd_ln, hc]
  refine congrArg (fun s => Ideal.div 1 (1 + Ideal.exp (-(s + _)))) (Finset.sum_congr rfl fun i _ => ?_)
  rw [hw, hx, mul_comm, show (⟨k.val / 128 * 128 + i.val, by omega⟩ : Fin 512) = hcol (hd k) i from Fin.ext (by unfold hcol hd; simp only []; omega)]

set_option maxHeartbeats 2000000 in
theorem v66_at (g : Fin 2) (b : Fin 16) (t : Fin 4096) (k : Fin 512) :
    (W2 V (Proc.devRef .tc main_v66) : S2x16x4096x512.Idx → EReal) (ix4 g b t k) = (argsV V).gate 0 g b (hd k) (ln k) t.val := by
  unfold W2
  after_results
  pointwise []
  refine gate_read V 0 g b t k _ _ _ (fun i => ?_) (fun i => ?_) ?_
  · rw [← args_keep0 V]; rfl
  · refine Eq.trans ?_ (conv_read V b t ⟨k.val / 128 * 128 + i.val, by omega⟩ ⟨t.val, by omega⟩ ⟨1 + t.val, by omega⟩ ⟨2 + t.val, by omega⟩ ⟨3 + t.val, by omega⟩ rfl rfl rfl rfl)
    simp only [argsV]
  · rw [← args_keep0 V]; rfl

set_option maxHeartbeats 2000000 in
theorem v72_at (b : Fin 16) (t : Fin 4096) (k : Fin 512) :
    (W2 V (Proc.devRef .tc main_v72) : S16x4096x512.Idx → EReal) (ix3 b t k) = Ideal.ofBits FTy.f32 3238002688#32 * (argsV V).gate 0 0 b (hd k) (ln k) t.val := by
  rw [← v66_at]
  unfold W2
  after_results
  pointwise []

theorem v73_at (k : Fin 512) : (W2 V (Proc.devRef .tc main_v73) : S512.Idx → EReal) (ix1 k) = -(argsV V).Lam 0 k := by
  rw [← args_keep0 V]
  unfold W2
  after_results
  pointwise []
  rfl

theorem soft_neg (l : EReal) : max (-l) 0 + Ideal.log1p (Ideal.exp (-(max (-l - 0) (-(-l - 0))))) = soft l := by
  unfold soft
  rw [sub_zero, zero_sub, zero_sub]

theorem v74_at (k : Fin 512) : (W3 V (Proc.devRef .tc main_v74) : S512.Idx → EReal) (ix1 k) = soft ((argsV V).Lam 0 k) := by
  rw [← soft_neg, ← v73_at]
  unfold W3
  after_results
  pointwise [TRef.toBuf, TRef.ofBuf, cast_eq]
  exact if_neg (fun h => h rfl)

theorem v79_at (b : Fin 16) (t : Fin 4096) (k : Fin 512) :
    (W4 V (Proc.devRef .tc main_v79) : S4096x16x512.Idx → EReal) (ix3 t b k) = (argsV V).decR 0 b (hd k) (ln k) t.val := by
  rw [decR_col]
  unfold exponent
  rw [← v72_at, ← v74_at, ← keep3 V main_v72 (by decide)]
  unfold W4
  after_results
  pointwise []

theorem v89_at (b : Fin 16) (t : Fin 4096) (k : Fin 512) :
    (W4 V (Proc.devRef .tc main_v89) : S4096x16x512.Idx → EReal) (ix3 t b k) = (argsV V).inpR 0 b (hd k) (ln k) t.val := by
  rw [inpR_col]
  unfold gap exponent
  rw [← v72_at, ← v74_at, ← v33_at, ← keep3 V main_v72 (by decide), ← v66_at, ← keep3 V main_v66 (by decide), ← keep3 V main_v33 (by decide)]
  unfold W4
  after_results
  pointwise []

theorem v106_at (g : Fin 2) (b : Fin 16) (t : Fin 4096) (k : Fin 512) :
    (W4 V (Proc.devRef .tc main_v106) : S2x16x4096x512.Idx → EReal) (ix4 g b t k) = (argsV V).gate 1 g b (hd k) (ln k) t.val := by
  have h := gate_read V 1 g b t k (fun i => (W3 V (Proc.devRef .tc main_arg3) : S2x2x4x128x128.Idx → EReal) (ix5 1 g (hd k) i (ln k)))
    (fun i => (W3 V (Proc.devRef .tc main_v33) : S16x4096x512.Idx → EReal) (ix3 b t ⟨k.val / 128 * 128 + i.val, by omega⟩))
    ((W3 V (Proc.devRef .tc main_arg4) : S2x2x512.Idx → EReal) (ix3 1 g k)) (fun i => by rw [← args_keep3 V]; simp only [argsV])
    (fun i => by rw [keep3 V main_v33 (by decide)]; exact v33_at V b t _) (by rw [← args_keep3 V]; simp only [argsV])
  rw [← h]
  unfold W4 hd ln
  after_results
  pointwise []

theorem v112_at (b : Fin 16) (t : Fin 4096) (k : Fin 512) :
    (W4 V (Proc.devRef .tc main_v112) : S16x4096x512.Idx → EReal) (ix3 b t k) = Ideal.ofBits FTy.f32 3238002688#32 * (argsV V).gate 1 0 b (hd k) (ln k) t.val := by
  rw [← v106_at]
  unfold W4
  after_results
  pointwise []

theorem v113_at (k : Fin 512) : (W4 V (Proc.devRef .tc main_v113) : S512.Idx → EReal) (ix1 k) = -(argsV V).Lam 1 k := by
  rw [← args_keep3 V]
  unfold W4
  after_results
  pointwise []
  rfl

theorem v114_at (k : Fin 512) : (W5 V (Proc.devRef .tc main_v114) : S512.Idx → EReal) (ix1 k) = soft ((argsV V).Lam 1 k) := by
  rw [← soft_neg, ← v113_at]
  unfold W5
  after_results
  pointwise [TRef.toBuf, TRef.ofBuf, cast_eq]
  exact if_neg (fun h => h rfl)

theorem v119_at (b : Fin 16) (t : Fin 4096) (k : Fin 512) :
    (W6 V (Proc.devRef .tc main_v119) : S4096x16x512.Idx → EReal) (ix3 t b k) = (argsV V).decR 1 b (hd k) (ln k) t.val := by
  rw [decR_col]
  unfold exponent
  rw [← v112_at, ← v114_at, ← keep5 V main_v112 (by decide)]
  unfold W6
  after_results
  pointwise []

theorem v129_at (b : Fin 16) (t : Fin 4096) (k : Fin 512) :
    (W6 V (Proc.devRef .tc main_v129) : S4096x16x512.Idx → EReal) (ix3 t b k) = (argsV V).inpR 1 b (hd k) (ln k) t.val := by
  rw [inpR_col]
  unfold gap exponent
  rw [← v112_at, ← v114_at, ← v33_at, ← keep5 V main_v112 (by decide), ← v106_at, ← keep5 V main_v106 (by decide), ← keep3 V main_v33 (by decide), ← keep4 V main_v33 (by decide), ← keep5 V main_v33 (by decide)]
  unfold W6
  after_results
  pointwise []

/-! The backward direction's rows, last position first. -/
theorem rev_eq (t : Fin 4096) : t.rev = ⟨4095 - t.val, by omega⟩ := Fin.ext (by simp only [Fin.val_rev]; omega)

theorem v130_at (b : Fin 16) (t : Fin 4096) (k : Fin 512) :
    (W7 V (Proc.devRef .tc main_v130) : S4096x16x512.Idx → EReal) (ix3 t b k) = (argsV V).decR 1 b (hd k) (ln k) (4095 - t.val) := by
  refine Eq.trans ?_ (v119_at V b ⟨4095 - t.val, by omega⟩ k)
  unfold W7
  after_results
  pointwise [TRef.toBuf, TRef.ofBuf, cast_eq]
  exact congrArg (fun z : Fin 4096 => (W6 V (Proc.devRef .tc main_v119) : S4096x16x512.Idx → EReal) (ix3 z b k)) (rev_eq t)

theorem v134_at (b : Fin 16) (t : Fin 4096) (k : Fin 512) :
    (W9 V (Proc.devRef .tc main_v134) : S4096x16x512.Idx → EReal) (ix3 t b k) = (argsV V).inpR 1 b (hd k) (ln k) (4095 - t.val) := by
  refine Eq.trans ?_ (v129_at V b ⟨4095 - t.val, by omega⟩ k)
  rw [← keep7 V main_v129 (by decide), ← keep8 V main_v129 (by decide)]
  unfold W9
  after_results
  pointwise [TRef.toBuf, TRef.ofBuf, cast_eq]
  exact congrArg (fun z : Fin 4096 => (W8 V (Proc.devRef .tc main_v129) : S4096x16x512.Idx → EReal) (ix3 z b k)) (rev_eq t)

/-- A direction's row of decays at step `n` of the loop. -/
def stepA (A : Args) (d : Fin 2) (b : Fin 16) (k : Fin 512) (n : ℕ) : EReal := A.decR d b (hd k) (ln k) (if d.val < 1 then n else 4095 - n)
def stepU (A : Args) (d : Fin 2) (b : Fin 16) (k : Fin 512) (n : ℕ) : EReal := A.inpR d b (hd k) (ln k) (if d.val < 1 then n else 4095 - n)

theorem fin2_one (d : Fin 2) (h : ¬ d.val < 1) : d = 1 := Fin.ext (by have := d.isLt; simp only [Fin.val_one]; omega)
theorem fin2_zero (d : Fin 2) (h : d.val < 1) : d = 0 := Fin.ext (by simp only [Fin.val_zero]; omega)

theorem v133_at (t : Fin 4096) (d : Fin 2) (b : Fin 16) (k : Fin 512) :
    (W8 V (Proc.devRef .tc main_v133) : S4096x2x16x512.Idx → EReal) (ix4 t d b k) = stepA (argsV V) d b k t.val := by
  unfold W8 stepA
  after_results
  pointwise []
  by_cases h : d.val < 1
  · rw [if_pos h, fin2_zero d h, ← v79_at, ← keep5 V main_v79 (by decide), ← keep6 V main_v79 (by decide), ← keep7 V main_v79 (by decide)]
    exact dif_pos Nat.one_pos
  · rw [if_neg h, fin2_one d h, ← v130_at]
    exact dif_neg (Nat.lt_irrefl 1)

theorem v137_at (t : Fin 4096) (d : Fin 2) (b : Fin 16) (k : Fin 512) :
    (W10 V (Proc.devRef .tc main_v137) : S4096x2x16x512.Idx → EReal) (ix4 t d b k) = stepU (argsV V) d b k t.val := by
  unfold W10 stepU
  after_results
  pointwise []
  by_cases h : d.val < 1
  · rw [if_pos h, fin2_zero d h, ← v89_at, ← keep5 V main_v89 (by decide), ← keep6 V main_v89 (by decide), ← keep7 V main_v89 (by decide), ← keep8 V main_v89 (by decide), ← keep9 V main_v89 (by decide)]
    exact dif_pos Nat.one_pos
  · rw [if_neg h, fin2_one d h, ← v134_at]
    exact dif_neg (Nat.lt_irrefl 1)

/-! What the loop starts from. -/
theorem v140_0_at : W10 V (Proc.devRef .tc main_v140_0) = W8 V (Proc.devRef .tc main_v133) := by
  rw [← keep9 V main_v133 (by decide)]
  unfold W10
  after_results
  rfl
theorem v140_1_at : W10 V (Proc.devRef .tc main_v140_1) = W10 V (Proc.devRef .tc main_v137) := by
  unfold W10
  after_results
  rfl
theorem v140_3_at (d : Fin 2) (b : Fin 16) (k : Fin 512) : (W10 V (Proc.devRef .tc main_v140_3) : S2x16x512.Idx → EReal) (ix3 d b k) = (0 : EReal) := by
  unfold W10
  after_results
  pointwise [id]
theorem v49_end (b : Fin 16) (t : Fin 4096) (k : Fin 512) :
    (W10 V (Proc.devRef .tc main_v49) : S16x4096x512.Idx → EReal) (ix3 b t k) = Cert.FfnRows.geluR ((argsV V).y b (hd k) (ln k) t) := by
  rw [keep10 V main_v49 (by decide), keep9 V main_v49 (by decide), keep8 V main_v49 (by decide), keep7 V main_v49 (by decide), keep6 V main_v49 (by decide), keep5 V main_v49 (by decide),
    keep4 V main_v49 (by decide), keep3 V main_v49 (by decide)]
  exact v49_at V b t k

/-- The stretches' end is what the loop starts from. -/
theorem entry_eq (m : (ℓ : Loc nD τ sig) → Buf (Elt Ideal) ℓ) (c : Dev nD) : entryContents preI m c = W10 (launchContents m c) := by
  unfold W10 W9 W8 W7 W6 W5 W4 W3 W2 W0
  rfl

end Cert.ReferenceIdeal.Result

end
-- ==== Proof.RgLru.RefLoop.lean ====
/- The reference's loop: after `k` trips the state is the recurrence's after `k` positions, and the first `k` states are laid down. -/
module

public import proofs.«01_k».proof.Proof.RgLru.RefHost
public import Idealize.ShloMosaic.Lib.DynamicIndex

@[expose] public section

set_option maxRecDepth 16384

noncomputable section

namespace Cert.ReferenceIdeal.Result

open Cert.ReferenceIdeal Cert.ReferenceIdeal.Gen Cert.ReferenceIdeal.Value Cert.RgLruRows Idealize.ShloMosaic Idealize.ShloMosaic.TcCoe Idealize.SL.Sem Idealize.ShloMosaic.StableHlo

section Step

variable (V : Valuation τ sig (Elt Ideal)) (k : ℕ)

theorem slices_at (hk : k < 4096) : S4096x2x16x512.Slices (![k, 0, 0, 0] : Fin 4 → Nat) S1x2x16x512 :=
  ⟨rfl, fun a => by fin_cases a <;> simp [Shape.size] <;> omega⟩

theorem counter_int (hk : k < 4096) : (Scf.iv 0#32 1#32 k).toInt = (k : Int) := by
  have e : Scf.iv 0#32 1#32 k = BitVec.ofNat 32 k := by unfold Scf.iv; simp
  rw [e, BitVec.toInt_eq_toNat_of_lt] <;> simp only [BitVec.toNat_ofNat] <;> omega

theorem start_at (hk : k < 4096) (hV : V (Proc.devRef .tc main_v140_2) = fun _ => Scf.iv 0#32 1#32 k) (a : Fin 4) :
    (((![V (Proc.devRef .tc main_v140_2), constantI S_ 32 0#32, constantI S_ 32 0#32, constantI S_ 32 0#32] : Fin 4 → (⟨S_, .i32⟩ : BufTy).Contents (Elt Ideal))) a (Shape.Idx.first h_S_)).toInt
      = (((![k, 0, 0, 0] : Fin 4 → Nat) a : Nat) : Int) := by
  rw [hV]
  fin_cases a
  · exact counter_int k hk
  · rfl
  · rfl
  · rfl

/-- The state after a trip. -/
theorem state_at (hk : k < 4096) (hV : V (Proc.devRef .tc main_v140_2) = fun _ => Scf.iv 0#32 1#32 k) (d : Fin 2) (b : Fin 16) (j : Fin 512) (x y s : EReal)
    (hx : (V (Proc.devRef .tc main_v140_0) : S4096x2x16x512.Idx → EReal) (ix4 ⟨k, hk⟩ d b j) = x)
    (hy : (V (Proc.devRef .tc main_v140_1) : S4096x2x16x512.Idx → EReal) (ix4 ⟨k, hk⟩ d b j) = y)
    (hs : (V (Proc.devRef .tc main_v140_3) : S2x16x512.Idx → EReal) (ix3 d b j) = s) :
    (res_main_while0b_v154 V : S2x16x512.Idx → EReal) (ix3 d b j) = x * s + y := by
  unfold res_main_while0b_v154
  rw [Host.dynamicSlice_eq_extractStridedSlice _ _ _ (![k, 0, 0, 0] : Fin 4 → Nat) _ (slices_at k hk) (start_at V k hk hV),
    Host.dynamicSlice_eq_extractStridedSlice _ _ _ (![k, 0, 0, 0] : Fin 4 → Nat) _ (slices_at k hk) (start_at V k hk hV)]
  pointwise []
  rw [hx, hy, hs]

/-- A row laid down at position `k`. -/
theorem laid_of (hk : k < 4096) (x : S4096x2x16x512.Idx → EReal) (u : S1x2x16x512.Idx → EReal) (start : Fin 4 → Int) (h : S4096x2x16x512.Slices (fun _ => 0) S1x2x16x512)
    (hst : ∀ a, start a = (((![k, 0, 0, 0] : Fin 4 → Nat) a : Nat) : Int)) (t : Fin 4096) (d : Fin 2) (b : Fin 16) (j : Fin 512) :
    Host.dynamicUpdateSlice x u start h (ix4 t d b j) = if t.val = k then u (ix4 0 d b j) else x (ix4 t d b j) := by
  have hs := slices_at k hk
  rw [Host.dynamicUpdateSlice_eq_updateSlice x u start h (![k, 0, 0, 0] : Fin 4 → Nat) (fun a => by have := hs.2 a; rw [hst a]; omega) hs]
  pointwise []
  by_cases e : t.val = k
  · rw [if_pos e]
    exact (dif_pos (by omega)).trans (congrArg (fun z : Fin 1 => u (ix4 z d b j)) (Subsingleton.elim _ _))
  · rw [if_neg e]
    exact dif_neg (by omega)

/-- The states laid down after a trip. -/
theorem laid_at (hk : k < 4096) (hV : V (Proc.devRef .tc main_v140_2) = fun _ => Scf.iv 0#32 1#32 k) (t : Fin 4096) (d : Fin 2) (b : Fin 16) (j : Fin 512) :
    (step_main_v140_4 V : S4096x2x16x512.Idx → EReal) (ix4 t d b j)
      = if t.val = k then (res_main_while0b_v154 V : S2x16x512.Idx → EReal) (ix3 d b j) else (V (Proc.devRef .tc main_v140_4) : S4096x2x16x512.Idx → EReal) (ix4 t d b j) := by
  unfold step_main_v140_4
  refine (laid_of k hk _ _ _ _ (start_at V k hk hV) t d b j).trans ?_
  pointwise []

end Step

variable (m : (ℓ : Loc nD τ sig) → Buf (Elt Ideal) ℓ) (c : Dev nD)

/-- The arguments' entries, as launched. -/
def argsM : Args := argsV (launchContents m c)

theorem atK_succ (k : ℕ) (j : Ref sig .tc) (hj : j ∈ carriedRefs) : atK m (k + 1) c (Proc.devRef .tc j) = STEP (atK m k c) (Proc.devRef .tc j) :=
  trip_agree (atK m k c) j hj

theorem atK_v140_0 : ∀ k, atK m k c (Proc.devRef .tc main_v140_0) = W10 (launchContents m c) (Proc.devRef .tc main_v140_0)
  | 0 => congrFun (entry_eq m c) _
  | k + 1 => (atK_succ m c k main_v140_0 (by decide)).trans ((STEP_main_v140_0 _).trans (atK_v140_0 k))
theorem atK_v140_1 : ∀ k, atK m k c (Proc.devRef .tc main_v140_1) = W10 (launchContents m c) (Proc.devRef .tc main_v140_1)
  | 0 => congrFun (entry_eq m c) _
  | k + 1 => (atK_succ m c k main_v140_1 (by decide)).trans ((STEP_main_v140_1 _).trans (atK_v140_1 k))

theorem step_state (k : ℕ) (hk : k < 4096) (d : Fin 2) (b : Fin 16) (j : Fin 512) (s : EReal)
    (h : (atK m k c (Proc.devRef .tc main_v140_3) : S2x16x512.Idx → EReal) (ix3 d b j) = s) :
    (res_main_while0b_v154 (atK m k c) : S2x16x512.Idx → EReal) (ix3 d b j) = stepA (argsM m c) d b j k * s + stepU (argsM m c) d b j k := by
  refine state_at (atK m k c) k hk (atK_ctr m c k) d b j _ _ _ ?_ ?_ h
  · rw [atK_v140_0, v140_0_at]
    exact v133_at (launchContents m c) ⟨k, hk⟩ d b j
  · rw [atK_v140_1, v140_1_at]
    exact v137_at (launchContents m c) ⟨k, hk⟩ d b j

/-- The state before trip `k`. -/
theorem atK_state (d : Fin 2) (b : Fin 16) (j : Fin 512) : ∀ k, k ≤ 4096 →
    (atK m k c (Proc.devRef .tc main_v140_3) : S2x16x512.Idx → EReal) (ix3 d b j) = run (stepA (argsM m c) d b j) (stepU (argsM m c) d b j) 0 k 0
  | 0, _ => (congrFun (congrFun (entry_eq m c) (Proc.devRef .tc main_v140_3)) (ix3 d b j)).trans (v140_3_at (launchContents m c) d b j)
  | k + 1, hk => by
    rw [atK_succ m c k main_v140_3 (by decide), STEP_main_v140_3]
    refine (step_state m c k hk d b j _ (atK_state d b j k (by omega))).trans ?_
    show _ = stepA (argsM m c) d b j (0 + k) * _ + stepU (argsM m c) d b j (0 + k)
    rw [Nat.zero_add]

/-- The states laid down before trip `k`. -/
theorem atK_laid (t : Fin 4096) (d : Fin 2) (b : Fin 16) (j : Fin 512) : ∀ k, k ≤ 4096 → t.val < k →
    (atK m k c (Proc.devRef .tc main_v140_4) : S4096x2x16x512.Idx → EReal) (ix4 t d b j) = run (stepA (argsM m c) d b j) (stepU (argsM m c) d b j) 0 (t.val + 1) 0
  | 0, _, h => absurd h (Nat.not_lt_zero _)
  | k + 1, hk, h => by
    rw [atK_succ m c k main_v140_4 (by decide), STEP_main_v140_4, laid_at (atK m k c) k hk (atK_ctr m c k)]
    by_cases e : t.val = k
    · rw [if_pos e]
      refine (step_state m c k hk d b j _ (atK_state m c d b j k (by omega))).trans ?_
      rw [e]
      show _ = stepA (argsM m c) d b j (0 + k) * _ + stepU (argsM m c) d b j (0 + k)
      rw [Nat.zero_add]
    · rw [if_neg e]
      exact atK_laid t d b j k (by omega) (by omega)

end Cert.ReferenceIdeal.Result

end
-- ==== Proof.RgLru.RefRun.lean ====
/- The reference's run: its result, from the states laid down and the activated branch. -/
module

public import proofs.«01_k».proof.Proof.RgLru.RefLoop

@[expose] public section

set_option maxRecDepth 16384

noncomputable section

namespace Cert.ReferenceIdeal.Result

open Cert.ReferenceIdeal Cert.ReferenceIdeal.Gen Cert.ReferenceIdeal.Value Cert.RgLruRows Idealize.ShloMosaic Idealize.ShloMosaic.TcCoe Idealize.SL.Sem Idealize.ShloMosaic.StableHlo

theorem stepA_zero (A : Args) (b : Fin 16) (k : Fin 512) (n : ℕ) : stepA A 0 b k n = A.decR 0 b (hd k) (ln k) n := by unfold stepA; rw [if_pos (by decide)]
theorem stepU_zero (A : Args) (b : Fin 16) (k : Fin 512) (n : ℕ) : stepU A 0 b k n = A.inpR 0 b (hd k) (ln k) n := by unfold stepU; rw [if_pos (by decide)]
theorem stepA_one (A : Args) (b : Fin 16) (k : Fin 512) (n : ℕ) : stepA A 1 b k n = A.decR 1 b (hd k) (ln k) (4095 - n) := by unfold stepA; rw [if_neg (by decide)]
theorem stepU_one (A : Args) (b : Fin 16) (k : Fin 512) (n : ℕ) : stepU A 1 b k n = A.inpR 1 b (hd k) (ln k) (4095 - n) := by unfold stepU; rw [if_neg (by decide)]

section Post

variable (V : Valuation τ sig (Elt Ideal))

/-! The memory after each stretch after the loop. -/
def P1 : Valuation τ sig (Elt Ideal) := after hostOps0_11 V
def P2 : Valuation τ sig (Elt Ideal) := after hostOps0_12 (P1 V)
def P3 : Valuation τ sig (Elt Ideal) := after hostOps0_13 (P2 V)

theorem v142_at (t : Fin 4096) (b : Fin 16) (k : Fin 512) (x : EReal) (hx : (V (Proc.devRef .tc main_v140_4) : S4096x2x16x512.Idx → EReal) (ix4 t 0 b k) = x) :
    (P1 V (Proc.devRef .tc main_v142) : S4096x16x512.Idx → EReal) (ix3 t b k) = x := by
  rw [← hx]
  unfold P1
  after_results
  pointwise []
theorem v144_at (t : Fin 4096) (b : Fin 16) (k : Fin 512) (x : EReal) (hx : (V (Proc.devRef .tc main_v140_4) : S4096x2x16x512.Idx → EReal) (ix4 t 1 b k) = x) :
    (P1 V (Proc.devRef .tc main_v144) : S4096x16x512.Idx → EReal) (ix3 t b k) = x := by
  rw [← hx]
  unfold P1
  after_results
  pointwise []
theorem v145_at (t : Fin 4096) (b : Fin 16) (k : Fin 512) (x : EReal)
    (hx : (V (Proc.devRef .tc main_v140_4) : S4096x2x16x512.Idx → EReal) (ix4 ⟨4095 - t.val, by omega⟩ 1 b k) = x) :
    (P2 V (Proc.devRef .tc main_v145) : S4096x16x512.Idx → EReal) (ix3 t b k) = x := by
  refine Eq.trans ?_ (v144_at V ⟨4095 - t.val, by omega⟩ b k x hx)
  unfold P2
  after_results
  pointwise [TRef.toBuf, TRef.ofBuf, cast_eq]
  exact congrArg (fun z : Fin 4096 => (P1 V (Proc.devRef .tc main_v144) : S4096x16x512.Idx → EReal) (ix3 z b k)) (rev_eq t)

theorem keepP2 (r : Ref sig .tc) (h : r ∉ ([main_v145] : List (Ref sig .tc))) : P2 V (Proc.devRef .tc r) = P1 V (Proc.devRef .tc r) :=
  after_of_writes_sub _ _ (W := [main_v145]) (StableHlo.forall_writes_sub_of_map rfl) h
theorem keepP1 (r : Ref sig .tc) (h : r ∉ ([main_v141, main_v142, main_v143, main_v144] : List (Ref sig .tc))) : P1 V (Proc.devRef .tc r) = V (Proc.devRef .tc r) :=
  after_of_writes_sub _ _ (W := [main_v141, main_v142, main_v143, main_v144]) (StableHlo.forall_writes_sub_of_map rfl) h

/-- The result at a row, from the two directions' states and the activated branch. -/
theorem v150_at (r : Fin 65536) (k : Fin 512) (x y g : EReal)
    (hx : (V (Proc.devRef .tc main_v140_4) : S4096x2x16x512.Idx → EReal) (ix4 ⟨r.val % 4096, by omega⟩ 0 ⟨r.val / 4096, by omega⟩ k) = x)
    (hy : (V (Proc.devRef .tc main_v140_4) : S4096x2x16x512.Idx → EReal) (ix4 ⟨4095 - r.val % 4096, by omega⟩ 1 ⟨r.val / 4096, by omega⟩ k) = y)
    (hg : (V (Proc.devRef .tc main_v49) : S16x4096x512.Idx → EReal) (ix3 ⟨r.val / 4096, by omega⟩ ⟨r.val % 4096, by omega⟩ k) = g) :
    (P3 V (Proc.devRef .tc main_v150) : S65536x512.Idx → EReal) (ix2 r k) = (x + y) * g := by
  have h1 := v142_at V ⟨r.val % 4096, by omega⟩ ⟨r.val / 4096, by omega⟩ k x hx
  have h2 := v145_at V ⟨r.val % 4096, by omega⟩ ⟨r.val / 4096, by omega⟩ k y hy
  have h3 : (P2 V (Proc.devRef .tc main_v49) : S16x4096x512.Idx → EReal) (ix3 ⟨r.val / 4096, by omega⟩ ⟨r.val % 4096, by omega⟩ k) = g := by
    rw [keepP2 V main_v49 (by decide), keepP1 V main_v49 (by decide)]; exact hg
  rw [← keepP2 V main_v142 (by decide)] at h1
  rw [← h1, ← h2, ← h3]
  unfold P3
  after_results
  pointwise []

end Post

variable (m : (ℓ : Loc nD τ sig) → Buf (Elt Ideal) ℓ) (c : Dev nD)

/-- The reference's result. -/
def GR : S65536x512.Idx → EReal := fun i =>
  (argsM m c).valR ⟨(i 0).val / 4096, by have : (i 0).val < 65536 := (i 0).isLt; omega⟩ (hd (i 1)) (ln (i 1)) ⟨(i 0).val % 4096, by omega⟩

/-- The memory at the loop's end. -/
def atEnd : Valuation τ sig (Elt Ideal) := after condOps (atK m 4096 c)

theorem end_laid (t : Fin 4096) (d : Fin 2) (b : Fin 16) (j : Fin 512) :
    (atEnd m c (Proc.devRef .tc main_v140_4) : S4096x2x16x512.Idx → EReal) (ix4 t d b j) = run (stepA (argsM m c) d b j) (stepU (argsM m c) d b j) 0 (t.val + 1) 0 := by
  unfold atEnd
  rw [after_of_writes_sub _ _ condOps_writes (by decide)]
  exact atK_laid m c t d b j 4096 (le_refl _) t.isLt

theorem end_gelu (b : Fin 16) (t : Fin 4096) (k : Fin 512) :
    (atEnd m c (Proc.devRef .tc main_v49) : S16x4096x512.Idx → EReal) (ix3 b t k) = Cert.FfnRows.geluR ((argsM m c).y b (hd k) (ln k) t) := by
  unfold atEnd atK
  rw [after_of_writes_sub _ _ condOps_writes (by decide), Cert.Proof.RefKeeps.atTrip_keep main_v49 (by decide) (by decide) (by decide) (by decide) (by decide) (by decide), entry_eq]
  exact v49_end (launchContents m c) b t k

theorem final_eq : finalContents condOps preI bodyI postI 4096 m c (Proc.devRef .tc main_v150) = GR m c := by
  have e : finalContents condOps preI bodyI postI 4096 m c = P3 (atEnd m c) := rfl
  rw [e]
  funext i
  obtain ⟨r, k, rfl⟩ : ∃ (r : Fin 65536) (k : Fin 512), i = ix2 r k := ⟨i 0, i 1, eq_ix2 i⟩
  refine (v150_at (atEnd m c) r k _ _ _ (end_laid m c _ _ _ _) (end_laid m c _ _ _ _) (end_gelu m c _ _ _)).trans ?_
  show _ = (argsM m c).valR ⟨r.val / 4096, by omega⟩ (hd k) (ln k) ⟨r.val % 4096, by omega⟩
  unfold Args.valR fwd bwd
  refine congrArg (· * _) (congrArg₂ (· + ·) ?_ ?_)
  · exact run_congr _ (fun n _ _ => stepA_zero _ _ _ n) (fun n _ _ => stepU_zero _ _ _ n)
  · rw [show 4095 - r.val % 4096 + 1 = 4096 - r.val % 4096 by omega]
    exact run_congr _ (fun n _ _ => stepA_one _ _ _ n) (fun n _ _ => stepU_one _ _ _ n)

/-- The reference's run: its result, and its arguments kept. -/
theorem run_value (ρ : Dev nD → PrngReg) :
    θ_run defs (onTc (τ := τ) (main (F := Ideal))) ⟨m, fun _ => 0, ρ⟩ fun r => ∀ c : Dev nD,
      r.2.mem ((c.tc : Thread nD τ).loc main_v150) = GR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c main_v150 rfl).trans (final_eq m c),
    (h c main_arg0 rfl).trans (Cert.Proof.RefKeeps.final_keep m c main_arg0 (by decide)), (h c main_arg1 rfl).trans (Cert.Proof.RefKeeps.final_keep m c main_arg1 (by decide)),
    (h c main_arg2 rfl).trans (Cert.Proof.RefKeeps.final_keep m c main_arg2 (by decide)), (h c main_arg3 rfl).trans (Cert.Proof.RefKeeps.final_keep m c main_arg3 (by decide)),
    (h c main_arg4 rfl).trans (Cert.Proof.RefKeeps.final_keep m c main_arg4 (by decide)), (h c main_arg5 rfl).trans (Cert.Proof.RefKeeps.final_keep m c main_arg5 (by decide))⟩)
    (run_fold m ρ)

end Cert.ReferenceIdeal.Result

end
-- ==== Proof.RgLru.Pre.lean ====
/- The precondition read: every decay of every position keeps one minus its square at or above the floor under the root. -/
module

public import proofs.«01_k».proof.Pre_decays
public import proofs.«01_k».proof.Proof.RgLru.RefRun
public import Idealize.ShloMosaic.Lib.ReduceAll

@[expose] public section

set_option maxRecDepth 16384

noncomputable section

namespace Cert.Pre_decays

open Idealize.ShloMosaic

open Cert.ReferenceIdeal.Gen in
/-- The shape relations the precondition takes. -/
instance facts : Facts where
  slices_S65536x8704_S65536x512_0_4096 := slices_S65536x8704_S65536x512_0_4096
  bitsLt_bf16_f32 := bitsLt_bf16_f32
  shapeCasts_S65536x512_S16x4096x512 := shapeCasts_S65536x512_S16x4096x512
  pads_S16x4096x512_S16x4099x512_000_120_000 := pads_S16x4096x512_S16x4099x512_000_120_000
  h_S_ := h_S_
  slices_S4x512_S1x512_0_0 := slices_S4x512_S1x512_0_0
  shapeCasts_S1x512_S512 := shapeCasts_S1x512_S512
  slices_S16x4099x512_S16x4096x512_0_0_0 := slices_S16x4099x512_S16x4096x512_0_0_0
  bcast_S512_S1x1x512_2 := bcast_S512_S1x1x512_2
  bcast_S1x1x512_S16x4096x512_0_1_2 := bcast_S1x1x512_S16x4096x512_0_1_2
  slices_S4x512_S1x512_1_0 := slices_S4x512_S1x512_1_0
  slices_S16x4099x512_S16x4096x512_0_1_0 := slices_S16x4099x512_S16x4096x512_0_1_0
  slices_S4x512_S1x512_2_0 := slices_S4x512_S1x512_2_0
  slices_S16x4099x512_S16x4096x512_0_2_0 := slices_S16x4099x512_S16x4096x512_0_2_0
  slices_S4x512_S1x512_3_0 := slices_S4x512_S1x512_3_0
  slices_S16x4099x512_S16x4096x512_0_3_0 := slices_S16x4099x512_S16x4096x512_0_3_0
  slices_S2x2x4x128x128_S1x2x4x128x128_0_0_0_0_0 := slices_S2x2x4x128x128_S1x2x4x128x128_0_0_0_0_0
  shapeCasts_S1x2x4x128x128_S2x4x128x128 := shapeCasts_S1x2x4x128x128_S2x4x128x128
  slices_S2x2x512_S1x2x512_0_0_0 := slices_S2x2x512_S1x2x512_0_0_0
  shapeCasts_S1x2x512_S2x512 := shapeCasts_S1x2x512_S2x512
  shapeCasts_S16x4096x512_S16x4096x4x128 := shapeCasts_S16x4096x512_S16x4096x4x128
  transposes_S4x2x128x16x4096_S2x16x4096x4x128_1_3_4_0_2 := transposes_S4x2x128x16x4096_S2x16x4096x4x128_1_3_4_0_2
  shapeCasts_S2x16x4096x4x128_S2x16x4096x512 := shapeCasts_S2x16x4096x4x128_S2x16x4096x512
  bcast_S2x512_S2x1x1x512_0_3 := bcast_S2x512_S2x1x1x512_0_3
  bcast_S2x1x1x512_S2x16x4096x512_0_1_2_3 := bcast_S2x1x1x512_S2x16x4096x512_0_1_2_3
  bcast_S_S2x16x4096x512 := bcast_S_S2x16x4096x512
  slices_S2x512_S1x512_0_0 := slices_S2x512_S1x512_0_0
  slices_S2x16x4096x512_S1x16x4096x512_0_0_0_0 := slices_S2x16x4096x512_S1x16x4096x512_0_0_0_0
  shapeCasts_S1x16x4096x512_S16x4096x512 := shapeCasts_S1x16x4096x512_S16x4096x512
  bcast_S_S16x4096x512 := bcast_S_S16x4096x512
  bcast_S_S512 := bcast_S_S512
  reducesTo_S16x4096x512_S_d0_1_2 := by decide
  slices_S2x2x4x128x128_S1x2x4x128x128_1_0_0_0_0 := slices_S2x2x4x128x128_S1x2x4x128x128_1_0_0_0_0
  slices_S2x2x512_S1x2x512_1_0_0 := slices_S2x2x512_S1x2x512_1_0_0
  slices_S2x512_S1x512_1_0 := slices_S2x512_S1x512_1_0
  dot_S2x4x128x128_S16x4096x4x128_S4x2x128x16x4096_2_3_03_01_1_2_wf := dot_S2x4x128x128_S16x4096x4x128_S4x2x128x16x4096_2_3_03_01_1_2_wf

open Facts Cert.RgLruRows

instance : Subsingleton S_.Idx := ⟨fun a b => funext fun i => i.elim0⟩

/-- The softplus of a row of parameters. -/
theorem softplus_at (x : FVec Ideal S512 .f32) (k : Fin 512) (l : EReal) (h : x (ix1 k) = -l) : fn_softplus (F := Ideal) x (ix1 k) = soft l := by
  rw [← Cert.ReferenceIdeal.Result.soft_neg, ← h]
  unfold fn_softplus
  pointwise []
  exact if_neg (fun h => h rfl)

/-- A comparison that came out true. -/
theorem ge_of (p : BitVec 1) (x y : EReal) (hp : p = 1#1) (e : p = Ideal.cmp .oge x y) : y ≤ x := by
  rw [e] at hp
  by_contra h
  exact absurd (hp.symm.trans (congrArg BitVec.ofBool (decide_eq_false h))) (by decide)

/-- The last part: the first direction's verdict, and the second direction's gaps. -/
theorem part4_read (lam : FVec Ideal S2x512 .f32) (v : IVec S_ 1) (den num : FVec Ideal S2x16x4096x512 .f32) (h : fn_part4 (F := Ideal) lam v den num = fun _ => 1#1)
    (j : S_.Idx) : v j = 1#1 ∧ ∀ (b : Fin 16) (t : Fin 4096) (k : Fin 512), floor ≤ gap (Ideal.div (num (ix4 0 b t k)) (den (ix4 0 b t k))) (lam (ix2 1 k)) := by
  unfold fn_part4 at h
  have h' := congrFun h j
  simp only [andi] at h'
  obtain ⟨h1, h2⟩ := IntOp.andi_eq_one.1 h'
  refine ⟨h1, fun b t k => ge_of _ _ _ (Host.reduce_andi_all _ _ _ _ j h2 (ix3 b t k)) ?_⟩
  pointwise []
  rw [softplus_at _ k (lam (ix2 1 k)) (by pointwise [])]
  rfl

/-- The part before it: the first direction's comparisons, and the second direction's gaps through its gate. -/
theorem part3_read (gw : FVec Ideal S2x2x4x128x128 .f32) (gb : FVec Ideal S2x2x512 .f32) (lam : FVec Ideal S2x512 .f32) (x v : FVec Ideal S16x4096x512 .f32) (z : FVec Ideal S_ .f32)
    (h : fn_part3 (F := Ideal) gw gb lam x v z = fun _ => 1#1) : (∀ (b : Fin 16) (t : Fin 4096) (k : Fin 512), z ix0 ≤ v (ix3 b t k))
      ∧ ∀ (b : Fin 16) (t : Fin 4096) (k : Fin 512), floor ≤ gap (Ideal.div 1 (1 + Ideal.exp (-(∑ i : Fin 128, gw (ix5 1 0 (hd k) i (ln k)) * x (ix3 b t ⟨k.val / 128 * 128 + i.val, by omega⟩)
        + gb (ix3 1 0 k))))) (lam (ix2 1 k)) := by
  unfold fn_part3 at h
  obtain ⟨h1, h2⟩ := part4_read _ _ _ _ h ix0
  refine ⟨fun b t k => ?_, fun b t k => (h2 b t k).trans_eq (congrArg (gap · _) ?_)⟩
  · simp only [andi] at h1
    refine ge_of _ _ _ (Host.reduce_andi_all _ _ _ _ ix0 (IntOp.andi_eq_one.1 h1).2 (ix3 b t k)) ?_
    pointwise []
  · clear h h1 h2
    unfold hd ln
    pointwise []

/-- The part before it: the first direction's gaps too, over its exponentials. -/
theorem part2_read (gw : FVec Ideal S2x2x4x128x128 .f32) (gb : FVec Ideal S2x2x512 .f32) (lam : FVec Ideal S2x512 .f32) (x : FVec Ideal S16x4096x512 .f32) (e : FVec Ideal S2x16x4096x512 .f32)
    (h : fn_part2 (F := Ideal) gw gb lam x e = fun _ => 1#1) : (∀ (b : Fin 16) (t : Fin 4096) (k : Fin 512), floor ≤ gap (Ideal.div 1 (1 + e (ix4 0 b t k))) (lam (ix2 0 k)))
      ∧ ∀ (b : Fin 16) (t : Fin 4096) (k : Fin 512), floor ≤ gap (Ideal.div 1 (1 + Ideal.exp (-(∑ i : Fin 128, gw (ix5 1 0 (hd k) i (ln k)) * x (ix3 b t ⟨k.val / 128 * 128 + i.val, by omega⟩) + gb (ix3 1 0 k))))) (lam (ix2 1 k)) := by
  unfold fn_part2 at h
  obtain ⟨h1, h2⟩ := part3_read _ _ _ _ _ _ h
  refine ⟨fun b t k => (h1 b t k).trans_eq ?_, h2⟩
  clear h h1 h2
  pointwise []
  rw [softplus_at _ k (lam (ix2 0 k)) (by pointwise [])]
  rfl

/-- The first part: the convolution of four taps and both directions' gaps over it. -/
theorem part1_read (cw : FVec Ideal S4x512 .f32) (gw : FVec Ideal S2x2x4x128x128 .f32) (gb : FVec Ideal S2x2x512 .f32) (lam : FVec Ideal S2x512 .f32) (p : FVec Ideal S16x4099x512 .f32)
    (s : FVec Ideal S16x4096x512 .f32) (w : FVec Ideal S512 .f32) (r : FVec Ideal S16x4096x512 .f32) (x : Fin 16 → Fin 4096 → Fin 512 → EReal)
    (hx : ∀ b t k, x b t k = s (ix3 b t k) + w (ix1 k) * r (ix3 b t k) + cw (ix2 3 k) * p (ix3 b ⟨3 + t.val, by omega⟩ k))
    (h : fn_part1 (F := Ideal) cw gw gb lam p s w r = fun _ => 1#1) (b : Fin 16) (t : Fin 4096) (k : Fin 512) :
    floor ≤ gap (Ideal.div 1 (1 + Ideal.exp (-(∑ i : Fin 128, gw (ix5 0 0 (hd k) i (ln k)) * x b t ⟨k.val / 128 * 128 + i.val, by omega⟩ + gb (ix3 0 0 k))))) (lam (ix2 0 k))
      ∧ floor ≤ gap (Ideal.div 1 (1 + Ideal.exp (-(∑ i : Fin 128, gw (ix5 1 0 (hd k) i (ln k)) * x b t ⟨k.val / 128 * 128 + i.val, by omega⟩ + gb (ix3 1 0 k))))) (lam (ix2 1 k)) := by
  unfold fn_part1 at h
  obtain ⟨h1, h2⟩ := part2_read _ _ _ _ _ h
  refine ⟨(h1 b t k).trans_eq (congrArg (gap · _) ?_), (h2 b t k).trans_eq (congrArg (gap · _) ?_)⟩
  · clear h h1 h2
    unfold hd ln
    simp only [hx]
    pointwise []
  · clear h h1 h2
    simp only [hx]
    pointwise []

/-- The arguments of a launch, as functions. -/
def argsF (a0 : FVec Ideal S65536x8704 .bf16) (a1 : FVec Ideal S4x512 .f32) (a2 : FVec Ideal S512 .f32) (a3 : FVec Ideal S2x2x4x128x128 .f32) (a4 : FVec Ideal S2x2x512 .f32) (a5 : FVec Ideal S2x512 .f32) : Args where
  X r n := a0 (ix2 r n)
  Cw q k := a1 (ix2 q k)
  Cb k := a2 (ix1 k)
  Gw d g h i j := a3 (ix5 d g h i j)
  Gb d g k := a4 (ix3 d g k)
  Lam d k := a5 (ix2 d k)

/-- The padded rows. -/
theorem pad_read (z : Fin 4096 → Fin 512 → EReal) (y : FVec Ideal S16x4096x512 .f32) (b : Fin 16) (hz : ∀ t k, y (ix3 b t k) = z t k) (n : Fin 4099) (k : Fin 512) :
    fn_pad (F := Ideal) y (constantI S_ 32 0#32) (ix3 b n k) = padded (fun t => z t k) n.val := by
  unfold fn_pad
  pointwise []
  by_cases h : 1 ≤ n.val ∧ n.val ≤ 4096
  · refine (dif_pos (by omega)).trans (Eq.trans ?_ (padded_in _ n.val ⟨n.val - 1, by omega⟩ (by simp only []; omega)).symm)
    exact hz _ _
  · exact (dif_neg (by omega)).trans (Cert.FfnReferenceIdeal.Result.pad_zero.trans (padded_out _ n.val (by omega)).symm)

/-- What the precondition says of the arguments. -/
theorem fn_read (a0 : FVec Ideal S65536x8704 .bf16) (a1 : FVec Ideal S4x512 .f32) (a2 : FVec Ideal S512 .f32) (a3 : FVec Ideal S2x2x4x128x128 .f32) (a4 : FVec Ideal S2x2x512 .f32) (a5 : FVec Ideal S2x512 .f32)
    (h : fn (F := Ideal) a0 a1 a2 a3 a4 a5 = fun _ => 1#1) : (argsF a0 a1 a2 a3 a4 a5).Decays := by
  unfold fn at h
  have hp := part1_read _ _ _ _ _ _ _ _ (fun b t k => (argsF a0 a1 a2 a3 a4 a5).xc b k t.val) (fun b t k => ?_) h
  · clear h
    intro d b hh j t
    obtain ⟨h0, h1⟩ := hp b t (hcol hh j)
    have e1 : hd (hcol hh j) = hh := Fin.ext (by unfold hd hcol; simp only []; omega)
    have e2 : ln (hcol hh j) = j := Fin.ext (by unfold ln hcol; simp only []; omega)
    have e3 : ∀ i : Fin 128, (⟨(hcol hh j).val / 128 * 128 + i.val, by omega⟩ : Fin 512) = hcol hh i := fun i => Fin.ext (by unfold hcol; simp only []; omega)
    simp only [e1, e2, e3] at h0 h1
    have k : ∀ d : Fin 2, Ideal.div 1 (1 + Ideal.exp (-(∑ i : Fin 128, (argsF a0 a1 a2 a3 a4 a5).Gw d 0 hh i j * (argsF a0 a1 a2 a3 a4 a5).xc b (hcol hh i) t.val + (argsF a0 a1 a2 a3 a4 a5).Gb d 0 (hcol hh j))))
        = (argsF a0 a1 a2 a3 a4 a5).gate d 0 b hh j t.val := fun d =>
      congrArg (fun s => Ideal.div 1 (1 + Ideal.exp (-(s + _)))) (Finset.sum_congr rfl fun i _ => mul_comm _ _)
    have hd : d = 0 ∨ d = 1 := by omega
    rcases hd with rfl | rfl
    · rw [← k]; exact h0
    · rw [← k]; exact h1
  · clear h
    generalize hP : fn_pad (F := Ideal) _ _ = P
    have hp : ∀ (n : Fin 4099), P (ix3 b n k) = padded (fun t => a0 (ix2 (row b t) ⟨4096 + k.val, by omega⟩)) n.val := fun n => by
      rw [← hP]
      refine pad_read (fun t k => a0 (ix2 (row b t) ⟨4096 + k.val, by omega⟩)) _ b (fun t k => ?_) n k
      pointwise []
      exact congrArg (fun r => a0 (ix2 r _)) (Fin.ext (by unfold row; simp only []; omega))
    show a2 (ix1 k) + a1 (ix2 0 k) * padded _ t.val + a1 (ix2 1 k) * padded _ (t.val + 1) + a1 (ix2 2 k) * padded _ (t.val + 2) + a1 (ix2 3 k) * padded _ (t.val + 3) = _
    have h0 := hp ⟨t.val, by omega⟩
    have h1 := hp ⟨1 + t.val, by omega⟩
    have h2 := hp ⟨2 + t.val, by omega⟩
    have h3 := hp ⟨3 + t.val, by omega⟩
    simp only [Nat.add_comm 1, Nat.add_comm 2, Nat.add_comm 3] at h0 h1 h2 h3
    simp only [argsF]
    rw [← h0, ← h1, ← h2, ← h3]
    clear h0 h1 h2 h3 hp hP
    pointwise []
    simp only [Nat.add_comm 1, Nat.add_comm 2, Nat.add_comm 3]

end Cert.Pre_decays

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjReferenceIdeal
public import proofs.«01_k».proof.Proof.Gen.InProjReferenceIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.FfnSample
public import proofs.«01_k».proof.Proof.Gen.FfnSample.Skeleton
public import proofs.«01_k».proof.Proof.Gen.FfnSample.Launch
public import proofs.«01_k».proof.Proof.Gen.FfnSample.Points
public import proofs.«01_k».proof.Proof.Gen.FfnSample.Frame
public import proofs.«01_k».proof.Proof.Gen.FfnSampleIdeal
public import proofs.«01_k».proof.Proof.Gen.FfnSampleIdeal.Skeleton
public import proofs.«01_k».proof.Proof.Gen.FfnSampleIdeal.Launch
public import proofs.«01_k».proof.Proof.Gen.FfnSampleIdeal.Points
public import proofs.«01_k».proof.Proof.Gen.FfnSampleIdeal.Frame
public import proofs.«01_k».proof.Proof.Gen.FfnSampleIdeal.Value
public import proofs.«01_k».proof.Proof.Gen.FfnSampleReferenceIdeal
public import proofs.«01_k».proof.Proof.Gen.FfnSampleReferenceIdeal.Run
public import proofs.«01_k».proof.Proof.InProj.Value
public import proofs.«01_k».proof.Proof.InProj.Ref
public import proofs.«01_k».proof.Proof.Ffn.Value
public import proofs.«01_k».proof.Proof.Ffn.Ref
public import proofs.«01_k».proof.Proof.FfnSample.Value
public import proofs.«01_k».proof.Proof.FfnSample.Ref
public import proofs.«01_k».proof.Proof.Merge.Value
public import proofs.«01_k».proof.Proof.Merge.Ref
public import proofs.«01_k».proof.Proof.RgLru.Frames
public import proofs.«01_k».proof.Proof.RgLru.Value
public import proofs.«01_k».proof.Proof.RgLru.RefRun
public import proofs.«01_k».proof.Proof.RgLru.Pre
public import Idealize.ShloMosaic.Adequacy
public import Idealize.ShloMosaic.Init

@[expose] public section

noncomputable section

namespace Cert.Proof

open Idealize.ShloMosaic Idealize.SL.Sem

theorem algebraic_inProj : Cert.algebraic_InProjIdeal_InProjReferenceIdeal (hInProjIdeal := Cert.InProjIdeal.Gen.facts)
    (hInProjReferenceIdeal := Cert.InProjReferenceIdeal.Gen.facts) := by
  intro m g m' g' _ h
  refine ⟨fun c => Cert.InProjIdeal.Result.G8 m c, fun c => Cert.InProjIdeal.Result.G9 m c, fun c => Cert.InProjIdeal.Result.G10 m c,
    Cert.InProjIdeal.Result.run m g, ?_⟩
  refine (θ_run _ _ _).mono (fun r hr c => ?_) (Cert.InProjReferenceIdeal.Result.run m' g')
  obtain ⟨h8, h9, h10, hk⟩ := hr c
  have e : Cert.InProjReferenceIdeal.Result.proj m' c = Cert.InProjIdeal.Result.proj m c := by
    obtain ⟨e0, e1, e2, e3⟩ := h c
    funext i n
    unfold Cert.InProjReferenceIdeal.Result.proj Cert.InProjIdeal.Result.proj
    rw [e0, e1, e2, e3]
    rfl
  refine ⟨h8.trans ?_, h9.trans ?_, h10.trans ?_, hk⟩
  · unfold Cert.InProjReferenceIdeal.Result.G8 Cert.InProjIdeal.Result.G8; rw [e]
  · unfold Cert.InProjReferenceIdeal.Result.G9 Cert.InProjIdeal.Result.G9; rw [e]
  · unfold Cert.InProjReferenceIdeal.Result.G10 Cert.InProjIdeal.Result.G10; rw [e]

theorem algebraic_ffn : Cert.algebraic_FfnIdeal_FfnReferenceIdeal (hFfnIdeal := Cert.FfnIdeal.Gen.facts)
    (hFfnReferenceIdeal := Cert.FfnReferenceIdeal.Gen.facts) := by
  intro m g m' g' _ h
  refine ⟨fun c => Cert.FfnIdeal.Result.G m c, Cert.FfnIdeal.Result.run m g, ?_⟩
  refine (θ_run _ _ _).mono (fun r hr c => ?_) (Cert.FfnReferenceIdeal.Result.run m' g')
  obtain ⟨h0, hk⟩ := hr c
  refine ⟨h0.trans ?_, hk⟩
  have e : Cert.FfnReferenceIdeal.Result.val m' Cert.FfnRows.geluR c = Cert.FfnIdeal.Result.val m Cert.FfnRows.geluK c := by
    obtain ⟨e0, e1, e2, e3, e4, e5, e6, e7, e8, e9, e10⟩ := h c
    funext i n
    unfold Cert.FfnReferenceIdeal.Result.val Cert.FfnIdeal.Result.val
    rw [show Cert.FfnRows.geluK = Cert.FfnRows.geluR from funext Cert.FfnRows.gelu_eq]
    unfold Cert.FfnReferenceIdeal.Result.H Cert.FfnIdeal.Result.H Cert.FfnReferenceIdeal.Result.P Cert.FfnIdeal.Result.P Cert.FfnReferenceIdeal.Result.g Cert.FfnIdeal.Result.g Cert.FfnReferenceIdeal.Result.wu Cert.FfnIdeal.Result.wu Cert.FfnReferenceIdeal.Result.cw Cert.FfnIdeal.Result.cw Cert.FfnReferenceIdeal.Result.cb Cert.FfnIdeal.Result.cb Cert.FfnReferenceIdeal.Result.wd Cert.FfnIdeal.Result.wd Cert.FfnReferenceIdeal.Result.gp Cert.FfnIdeal.Result.gp Cert.FfnReferenceIdeal.Result.wg Cert.FfnIdeal.Result.wg Cert.FfnReferenceIdeal.Result.wp Cert.FfnIdeal.Result.wp Cert.FfnReferenceIdeal.Result.gf Cert.FfnIdeal.Result.gf
    rw [e0, e1, e2, e3, e4, e5, e6, e7, e8, e9, e10]
  unfold Cert.FfnReferenceIdeal.Result.G Cert.FfnIdeal.Result.G
  rw [e]

theorem algebraic_ffnSample : Cert.algebraic_FfnSampleIdeal_FfnSampleReferenceIdeal (hFfnSampleIdeal := Cert.FfnSampleIdeal.Gen.facts)
    (hFfnSampleReferenceIdeal := Cert.FfnSampleReferenceIdeal.Gen.facts) := by
  intro m g m' g' _ h
  refine ⟨fun c => Cert.FfnSampleIdeal.Result.G m c, Cert.FfnSampleIdeal.Result.run m g, ?_⟩
  refine (θ_run _ _ _).mono (fun r hr c => ?_) (Cert.FfnSampleReferenceIdeal.Result.run m' g')
  obtain ⟨h0, hk⟩ := hr c
  refine ⟨h0.trans ?_, hk⟩
  have e : Cert.FfnSampleReferenceIdeal.Result.val m' Cert.FfnRows.geluR c = Cert.FfnSampleIdeal.Result.val m Cert.FfnRows.geluK c := by
    obtain ⟨e0, e1, e2, e3, e4, e5, e6, e7, e8, e9, e10⟩ := h c
    funext i n
    unfold Cert.FfnSampleReferenceIdeal.Result.val Cert.FfnSampleIdeal.Result.val
    rw [show Cert.FfnRows.geluK = Cert.FfnRows.geluR from funext Cert.FfnRows.gelu_eq]
    unfold Cert.FfnSampleReferenceIdeal.Result.H Cert.FfnSampleIdeal.Result.H Cert.FfnSampleReferenceIdeal.Result.P Cert.FfnSampleIdeal.Result.P Cert.FfnSampleReferenceIdeal.Result.g Cert.FfnSampleIdeal.Result.g Cert.FfnSampleReferenceIdeal.Result.wu Cert.FfnSampleIdeal.Result.wu Cert.FfnSampleReferenceIdeal.Result.cw Cert.FfnSampleIdeal.Result.cw Cert.FfnSampleReferenceIdeal.Result.cb Cert.FfnSampleIdeal.Result.cb Cert.FfnSampleReferenceIdeal.Result.wd Cert.FfnSampleIdeal.Result.wd Cert.FfnSampleReferenceIdeal.Result.gp Cert.FfnSampleIdeal.Result.gp Cert.FfnSampleReferenceIdeal.Result.wg Cert.FfnSampleIdeal.Result.wg Cert.FfnSampleReferenceIdeal.Result.wp Cert.FfnSampleIdeal.Result.wp Cert.FfnSampleReferenceIdeal.Result.gf Cert.FfnSampleIdeal.Result.gf
    rw [e0, e1, e2, e3, e4, e5, e6, e7, e8, e9, e10]
  unfold Cert.FfnSampleReferenceIdeal.Result.G Cert.FfnSampleIdeal.Result.G
  rw [e]

theorem algebraic_merge : Cert.algebraic_MergeIdeal_MergeReferenceIdeal (hMergeIdeal := Cert.MergeIdeal.Gen.facts)
    (hMergeReferenceIdeal := Cert.MergeReferenceIdeal.Gen.facts) := by
  intro m g m' g' _ h
  refine ⟨fun c => Cert.MergeIdeal.Result.G m c, Cert.MergeIdeal.Result.run m g, ?_⟩
  refine (θ_run _ _ _).mono (fun r hr c => ?_) (Cert.MergeReferenceIdeal.Result.run m' g')
  obtain ⟨h0, hk⟩ := hr c
  refine ⟨h0.trans ?_, hk⟩
  have e : Cert.MergeReferenceIdeal.Result.val m' c = Cert.MergeIdeal.Result.val m c := by
    obtain ⟨e0, e1, e2, e3, e4, e5, e6, e7⟩ := h c
    funext i n
    unfold Cert.MergeReferenceIdeal.Result.val Cert.MergeIdeal.Result.val
    unfold Cert.MergeReferenceIdeal.Result.gate Cert.MergeIdeal.Result.gate Cert.MergeReferenceIdeal.Result.branch Cert.MergeIdeal.Result.branch
    rw [e0, e1, e2, e3, e4, e5, e6, e7]
  unfold Cert.MergeReferenceIdeal.Result.G Cert.MergeIdeal.Result.G
  rw [e]

theorem algebraic_rgLru : Cert.algebraic_KernelIdeal_ReferenceIdeal_pre_decays (hKernelIdeal := Cert.KernelIdeal.Gen.facts)
    (hReferenceIdeal := Cert.ReferenceIdeal.Gen.facts) (hPre_decays := Cert.Pre_decays.facts) := by
  intro m g m' g' hp h
  refine ⟨fun c => Cert.KernelIdeal.Own.G m c, Cert.KernelIdeal.Own.run_value m g, ?_⟩
  refine (θ_run _ _ _).mono (fun r hr c => ?_) (Cert.ReferenceIdeal.Result.run_value m' g')
  obtain ⟨h0, hk⟩ := hr c
  refine ⟨h0.trans ?_, hk⟩
  have e : Cert.ReferenceIdeal.Result.argsM m' c = Cert.KernelIdeal.Own.args m c := by
    obtain ⟨e0, e1, e2, e3, e4, e5⟩ := h c
    have l : Cert.ReferenceIdeal.Result.argsM m' c = Cert.Pre_decays.argsF (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5)) := rfl
    rw [l, e0, e1, e2, e3, e4, e5]
    rfl
  have hd : (Cert.KernelIdeal.Own.args m c).Decays := Cert.Pre_decays.fn_read _ _ _ _ _ _ (hp c)
  unfold Cert.ReferenceIdeal.Result.GR Cert.KernelIdeal.Own.G
  rw [e]
  exact funext fun i => (Cert.RgLruRows.Args.val_eq _ hd _ _ _ _).symm

theorem claim : Cert.Claim := ⟨Cert.Kernel.Gen.facts, Cert.KernelIdeal.Gen.facts, Cert.ReferenceIdeal.Gen.facts, Cert.InProj.Gen.facts, Cert.InProjIdeal.Gen.facts, Cert.InProjReferenceIdeal.Gen.facts, Cert.Ffn.Gen.facts, Cert.FfnIdeal.Gen.facts, Cert.FfnReferenceIdeal.Gen.facts, Cert.Merge.Gen.facts, Cert.MergeIdeal.Gen.facts, Cert.MergeReferenceIdeal.Gen.facts, Cert.FfnSample.Gen.facts, Cert.FfnSampleIdeal.Gen.facts, Cert.FfnSampleReferenceIdeal.Gen.facts, Cert.Pre_decays.facts,
  frame_kernel, frame_kernelIdeal, fun m g _ => frame_kernelIdeal m g trivial, frame_referenceIdeal, fun m g _ => frame_referenceIdeal m g trivial,
  fun m g _ => Cert.InProj.Gen.frame m g, fun m g _ => Cert.InProjIdeal.Gen.frame m g, fun m g _ => Cert.InProjReferenceIdeal.Result.frame m g,
  fun m g _ => Cert.Ffn.Gen.frame m g, fun m g _ => Cert.FfnIdeal.Gen.frame m g, fun m g _ => Cert.FfnReferenceIdeal.Result.frame m g,
  fun m g _ => Cert.Merge.Gen.frame m g, fun m g _ => Cert.MergeIdeal.Gen.frame m g, fun m g _ => Cert.MergeReferenceIdeal.Result.frame m g,
  fun m g _ => Cert.FfnSample.Gen.frame m g, fun m g _ => Cert.FfnSampleIdeal.Gen.frame m g, fun m g _ => Cert.FfnSampleReferenceIdeal.Result.frame m g,
  preserves, algebraic_rgLru, trivial, algebraic_inProj,
  ⟨IdealRules.named_const.statement Cert.FfnIdeal.κ "gelu_c3" .f32 0xBDD2D3E8#32 _ rfl,
    IdealRules.named_const.statement Cert.FfnIdeal.κ "gelu_c1" .f32 0xC0135761#32 _ rfl⟩, algebraic_ffn,
  trivial, algebraic_merge,
  ⟨IdealRules.named_const.statement Cert.FfnSampleIdeal.κ "gelu_c3" .f32 0xBDD2D3E8#32 _ rfl,
    IdealRules.named_const.statement Cert.FfnSampleIdeal.κ "gelu_c1" .f32 0xC0135761#32 _ rfl⟩, algebraic_ffnSample⟩

end Cert.Proof

end
